-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamMlp (m : (ℓ : Loc Cert.KernelAdamMlp.nD Cert.KernelAdamMlp.τ Cert.KernelAdamMlp.sig) → Buf (Elt Bits) ℓ) : Prop :=
  True

def Pre_KernelAdamMlpIdeal (m : (ℓ : Loc Cert.KernelAdamMlpIdeal.nD Cert.KernelAdamMlpIdeal.τ Cert.KernelAdamMlpIdeal.sig) → Buf (Elt Ideal) ℓ) : Prop :=
  True

def Pre_ReferenceAdamMlpIdeal (m : (ℓ : Loc Cert.ReferenceAdamMlpIdeal.nD Cert.ReferenceAdamMlpIdeal.τ Cert.ReferenceAdamMlpIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamMlp [hKernelAdamMlp : Cert.KernelAdamMlp.Facts] : Prop :=
  ∀ (m : (ℓ : Loc Cert.KernelAdamMlp.nD Cert.KernelAdamMlp.τ Cert.KernelAdamMlp.sig) → Buf (Elt Bits) ℓ) (g : Dev Cert.KernelAdamMlp.nD → PrngReg), Pre_KernelAdamMlp m →
    θ_run (Cert.KernelAdamMlp.defs (F := Bits)) (onTc (τ := Cert.KernelAdamMlp.τ) (Cert.KernelAdamMlp.main (F := Bits))) ⟨m, fun _ => 0, g⟩ (fun r => (∀ c : Dev Cert.KernelAdamMlp.nD,
      r.2.mem ((c.tc : Thread Cert.KernelAdamMlp.nD Cert.KernelAdamMlp.τ).loc Cert.KernelAdamMlp.main_arg0) = m ((c.tc : Thread Cert.KernelAdamMlp.nD Cert.KernelAdamMlp.τ).loc Cert.KernelAdamMlp.main_arg0)
      ∧ r.2.mem ((c.tc : Thread Cert.KernelAdamMlp.nD Cert.KernelAdamMlp.τ).loc Cert.KernelAdamMlp.main_arg1) = m ((c.tc : Thread Cert.KernelAdamMlp.nD Cert.KernelAdamMlp.τ).loc Cert.KernelAdamMlp.main_arg1)
      ∧ r.2.mem ((c.tc : Thread Cert.KernelAdamMlp.nD Cert.KernelAdamMlp.τ).loc Cert.KernelAdamMlp.main_arg2) = m ((c.tc : Thread Cert.KernelAdamMlp.nD Cert.KernelAdamMlp.τ).loc Cert.KernelAdamMlp.main_arg2)
      ∧ r.2.mem ((c.tc : Thread Cert.KernelAdamMlp.nD Cert.KernelAdamMlp.τ).loc Cert.KernelAdamMlp.main_arg3) = m ((c.tc : Thread Cert.KernelAdamMlp.nD Cert.KernelAdamMlp.τ).loc Cert.KernelAdamMlp.main_arg3)
      ∧ r.2.mem ((c.tc : Thread Cert.KernelAdamMlp.nD Cert.KernelAdamMlp.τ).loc Cert.KernelAdamMlp.main_arg4) = m ((c.tc : Thread Cert.KernelAdamMlp.nD Cert.KernelAdamMlp.τ).loc Cert.KernelAdamMlp.main_arg4)
      ∧ r.2.mem ((c.tc : Thread Cert.KernelAdamMlp.nD Cert.KernelAdamMlp.τ).loc Cert.KernelAdamMlp.main_arg5) = m ((c.tc : Thread Cert.KernelAdamMlp.nD Cert.KernelAdamMlp.τ).loc Cert.KernelAdamMlp.main_arg5)
      ∧ r.2.mem ((c.tc : Thread Cert.KernelAdamMlp.nD Cert.KernelAdamMlp.τ).loc Cert.KernelAdamMlp.main_arg6) = m ((c.tc : Thread Cert.KernelAdamMlp.nD Cert.KernelAdamMlp.τ).loc Cert.KernelAdamMlp.main_arg6)
      ∧ r.2.mem ((c.tc : Thread Cert.KernelAdamMlp.nD Cert.KernelAdamMlp.τ).loc Cert.KernelAdamMlp.main_arg7) = m ((c.tc : Thread Cert.KernelAdamMlp.nD Cert.KernelAdamMlp.τ).loc Cert.KernelAdamMlp.main_arg7)
      ∧ r.2.mem ((c.tc : Thread Cert.KernelAdamMlp.nD Cert.KernelAdamMlp.τ).loc Cert.KernelAdamMlp.main_arg8) = m ((c.tc : Thread Cert.KernelAdamMlp.nD Cert.KernelAdamMlp.τ).loc Cert.KernelAdamMlp.main_arg8)
      ∧ r.2.mem ((c.tc : Thread Cert.KernelAdamMlp.nD Cert.KernelAdamMlp.τ).loc Cert.KernelAdamMlp.main_arg9) = m ((c.tc : Thread Cert.KernelAdamMlp.nD Cert.KernelAdamMlp.τ).loc Cert.KernelAdamMlp.main_arg9)
      ∧ r.2.mem ((c.tc : Thread Cert.KernelAdamMlp.nD Cert.KernelAdamMlp.τ).loc Cert.KernelAdamMlp.main_arg10) = m ((c.tc : Thread Cert.KernelAdamMlp.nD Cert.KernelAdamMlp.τ).loc Cert.KernelAdamMlp.main_arg10)
      ∧ r.2.mem ((c.tc : Thread Cert.KernelAdamMlp.nD Cert.KernelAdamMlp.τ).loc Cert.KernelAdamMlp.main_arg11) = m ((c.tc : Thread Cert.KernelAdamMlp.nD Cert.KernelAdamMlp.τ).loc Cert.KernelAdamMlp.main_arg11))
      ∧ r.2.sem = fun _ => 0)

def quiescent_KernelAdamMlpIdeal [hKernelAdamMlpIdeal : Cert.KernelAdamMlpIdeal.Facts] : Prop :=
  ∀ (m : (ℓ : Loc Cert.KernelAdamMlpIdeal.nD Cert.KernelAdamMlpIdeal.τ Cert.KernelAdamMlpIdeal.sig) → Buf (Elt Ideal) ℓ) (g : Dev Cert.KernelAdamMlpIdeal.nD → PrngReg), Pre_KernelAdamMlpIdeal m →
    θ_run (Cert.KernelAdamMlpIdeal.defs (F := Ideal)) (onTc (τ := Cert.KernelAdamMlpIdeal.τ) (Cert.KernelAdamMlpIdeal.main (F := Ideal))) ⟨m, fun _ => 0, g⟩ (fun r => (∀ c : Dev Cert.KernelAdamMlpIdeal.nD,
      r.2.mem ((c.tc : Thread Cert.KernelAdamMlpIdeal.nD Cert.KernelAdamMlpIdeal.τ).loc Cert.KernelAdamMlpIdeal.main_arg0) = m ((c.tc : Thread Cert.KernelAdamMlpIdeal.nD Cert.KernelAdamMlpIdeal.τ).loc Cert.KernelAdamMlpIdeal.main_arg0)
      ∧ r.2.mem ((c.tc : Thread Cert.KernelAdamMlpIdeal.nD Cert.KernelAdamMlpIdeal.τ).loc Cert.KernelAdamMlpIdeal.main_arg1) = m ((c.tc : Thread Cert.KernelAdamMlpIdeal.nD Cert.KernelAdamMlpIdeal.τ).loc Cert.KernelAdamMlpIdeal.main_arg1)
      ∧ r.2.mem ((c.tc : Thread Cert.KernelAdamMlpIdeal.nD Cert.KernelAdamMlpIdeal.τ).loc Cert.KernelAdamMlpIdeal.main_arg2) = m ((c.tc : Thread Cert.KernelAdamMlpIdeal.nD Cert.KernelAdamMlpIdeal.τ).loc Cert.KernelAdamMlpIdeal.main_arg2)
      ∧ r.2.mem ((c.tc : Thread Cert.KernelAdamMlpIdeal.nD Cert.KernelAdamMlpIdeal.τ).loc Cert.KernelAdamMlpIdeal.main_arg3) = m ((c.tc : Thread Cert.KernelAdamMlpIdeal.nD Cert.KernelAdamMlpIdeal.τ).loc Cert.KernelAdamMlpIdeal.main_arg3)
      ∧ r.2.mem ((c.tc : Thread Cert.KernelAdamMlpIdeal.nD Cert.KernelAdamMlpIdeal.τ).loc Cert.KernelAdamMlpIdeal.main_arg4) = m ((c.tc : Thread Cert.KernelAdamMlpIdeal.nD Cert.KernelAdamMlpIdeal.τ).loc Cert.KernelAdamMlpIdeal.main_arg4)
      ∧ r.2.mem ((c.tc : Thread Cert.KernelAdamMlpIdeal.nD Cert.KernelAdamMlpIdeal.τ).loc Cert.KernelAdamMlpIdeal.main_arg5) = m ((c.tc : Thread Cert.KernelAdamMlpIdeal.nD Cert.KernelAdamMlpIdeal.τ).loc Cert.KernelAdamMlpIdeal.main_arg5)
      ∧ r.2.mem ((c.tc : Thread Cert.KernelAdamMlpIdeal.nD Cert.KernelAdamMlpIdeal.τ).loc Cert.KernelAdamMlpIdeal.main_arg6) = m ((c.tc : Thread Cert.KernelAdamMlpIdeal.nD Cert.KernelAdamMlpIdeal.τ).loc Cert.KernelAdamMlpIdeal.main_arg6)
      ∧ r.2.mem ((c.tc : Thread Cert.KernelAdamMlpIdeal.nD Cert.KernelAdamMlpIdeal.τ).loc Cert.KernelAdamMlpIdeal.main_arg7) = m ((c.tc : Thread Cert.KernelAdamMlpIdeal.nD Cert.KernelAdamMlpIdeal.τ).loc Cert.KernelAdamMlpIdeal.main_arg7)
      ∧ r.2.mem ((c.tc : Thread Cert.KernelAdamMlpIdeal.nD Cert.KernelAdamMlpIdeal.τ).loc Cert.KernelAdamMlpIdeal.main_arg8) = m ((c.tc : Thread Cert.KernelAdamMlpIdeal.nD Cert.KernelAdamMlpIdeal.τ).loc Cert.KernelAdamMlpIdeal.main_arg8)
      ∧ r.2.mem ((c.tc : Thread Cert.KernelAdamMlpIdeal.nD Cert.KernelAdamMlpIdeal.τ).loc Cert.KernelAdamMlpIdeal.main_arg9) = m ((c.tc : Thread Cert.KernelAdamMlpIdeal.nD Cert.KernelAdamMlpIdeal.τ).loc Cert.KernelAdamMlpIdeal.main_arg9)
      ∧ r.2.mem ((c.tc : Thread Cert.KernelAdamMlpIdeal.nD Cert.KernelAdamMlpIdeal.τ).loc Cert.KernelAdamMlpIdeal.main_arg10) = m ((c.tc : Thread Cert.KernelAdamMlpIdeal.nD Cert.KernelAdamMlpIdeal.τ).loc Cert.KernelAdamMlpIdeal.main_arg10)
      ∧ r.2.mem ((c.tc : Thread Cert.KernelAdamMlpIdeal.nD Cert.KernelAdamMlpIdeal.τ).loc Cert.KernelAdamMlpIdeal.main_arg11) = m ((c.tc : Thread Cert.KernelAdamMlpIdeal.nD Cert.KernelAdamMlpIdeal.τ).loc Cert.KernelAdamMlpIdeal.main_arg11))
      ∧ r.2.sem = fun _ => 0)

def quiescent_ReferenceAdamMlpIdeal [hReferenceAdamMlpIdeal : Cert.ReferenceAdamMlpIdeal.Facts] : Prop :=
  ∀ (m : (ℓ : Loc Cert.ReferenceAdamMlpIdeal.nD Cert.ReferenceAdamMlpIdeal.τ Cert.ReferenceAdamMlpIdeal.sig) → Buf (Elt Ideal) ℓ) (g : Dev Cert.ReferenceAdamMlpIdeal.nD → PrngReg), Pre_ReferenceAdamMlpIdeal m →
    θ_run (Cert.ReferenceAdamMlpIdeal.defs (F := Ideal)) (onTc (τ := Cert.ReferenceAdamMlpIdeal.τ) (Cert.ReferenceAdamMlpIdeal.main (F := Ideal))) ⟨m, fun _ => 0, g⟩ (fun r => (∀ c : Dev Cert.ReferenceAdamMlpIdeal.nD,
      r.2.mem ((c.tc : Thread Cert.ReferenceAdamMlpIdeal.nD Cert.ReferenceAdamMlpIdeal.τ).loc Cert.ReferenceAdamMlpIdeal.main_arg0) = m ((c.tc : Thread Cert.ReferenceAdamMlpIdeal.nD Cert.ReferenceAdamMlpIdeal.τ).loc Cert.ReferenceAdamMlpIdeal.main_arg0)
      ∧ r.2.mem ((c.tc : Thread Cert.ReferenceAdamMlpIdeal.nD Cert.ReferenceAdamMlpIdeal.τ).loc Cert.ReferenceAdamMlpIdeal.main_arg1) = m ((c.tc : Thread Cert.ReferenceAdamMlpIdeal.nD Cert.ReferenceAdamMlpIdeal.τ).loc Cert.ReferenceAdamMlpIdeal.main_arg1)
      ∧ r.2.mem ((c.tc : Thread Cert.ReferenceAdamMlpIdeal.nD Cert.ReferenceAdamMlpIdeal.τ).loc Cert.ReferenceAdamMlpIdeal.main_arg2) = m ((c.tc : Thread Cert.ReferenceAdamMlpIdeal.nD Cert.ReferenceAdamMlpIdeal.τ).loc Cert.ReferenceAdamMlpIdeal.main_arg2)
      ∧ r.2.mem ((c.tc : Thread Cert.ReferenceAdamMlpIdeal.nD Cert.ReferenceAdamMlpIdeal.τ).loc Cert.ReferenceAdamMlpIdeal.main_arg3) = m ((c.tc : Thread Cert.ReferenceAdamMlpIdeal.nD Cert.ReferenceAdamMlpIdeal.τ).loc Cert.ReferenceAdamMlpIdeal.main_arg3)
      ∧ r.2.mem ((c.tc : Thread Cert.ReferenceAdamMlpIdeal.nD Cert.ReferenceAdamMlpIdeal.τ).loc Cert.ReferenceAdamMlpIdeal.main_arg4) = m ((c.tc : Thread Cert.ReferenceAdamMlpIdeal.nD Cert.ReferenceAdamMlpIdeal.τ).loc Cert.ReferenceAdamMlpIdeal.main_arg4)
      ∧ r.2.mem ((c.tc : Thread Cert.ReferenceAdamMlpIdeal.nD Cert.ReferenceAdamMlpIdeal.τ).loc Cert.ReferenceAdamMlpIdeal.main_arg5) = m ((c.tc : Thread Cert.ReferenceAdamMlpIdeal.nD Cert.ReferenceAdamMlpIdeal.τ).loc Cert.ReferenceAdamMlpIdeal.main_arg5)
      ∧ r.2.mem ((c.tc : Thread Cert.ReferenceAdamMlpIdeal.nD Cert.ReferenceAdamMlpIdeal.τ).loc Cert.ReferenceAdamMlpIdeal.main_arg6) = m ((c.tc : Thread Cert.ReferenceAdamMlpIdeal.nD Cert.ReferenceAdamMlpIdeal.τ).loc Cert.ReferenceAdamMlpIdeal.main_arg6)
      ∧ r.2.mem ((c.tc : Thread Cert.ReferenceAdamMlpIdeal.nD Cert.ReferenceAdamMlpIdeal.τ).loc Cert.ReferenceAdamMlpIdeal.main_arg7) = m ((c.tc : Thread Cert.ReferenceAdamMlpIdeal.nD Cert.ReferenceAdamMlpIdeal.τ).loc Cert.ReferenceAdamMlpIdeal.main_arg7)
      ∧ r.2.mem ((c.tc : Thread Cert.ReferenceAdamMlpIdeal.nD Cert.ReferenceAdamMlpIdeal.τ).loc Cert.ReferenceAdamMlpIdeal.main_arg8) = m ((c.tc : Thread Cert.ReferenceAdamMlpIdeal.nD Cert.ReferenceAdamMlpIdeal.τ).loc Cert.ReferenceAdamMlpIdeal.main_arg8)
      ∧ r.2.mem ((c.tc : Thread Cert.ReferenceAdamMlpIdeal.nD Cert.ReferenceAdamMlpIdeal.τ).loc Cert.ReferenceAdamMlpIdeal.main_arg9) = m ((c.tc : Thread Cert.ReferenceAdamMlpIdeal.nD Cert.ReferenceAdamMlpIdeal.τ).loc Cert.ReferenceAdamMlpIdeal.main_arg9)
      ∧ r.2.mem ((c.tc : Thread Cert.ReferenceAdamMlpIdeal.nD Cert.ReferenceAdamMlpIdeal.τ).loc Cert.ReferenceAdamMlpIdeal.main_arg10) = m ((c.tc : Thread Cert.ReferenceAdamMlpIdeal.nD Cert.ReferenceAdamMlpIdeal.τ).loc Cert.ReferenceAdamMlpIdeal.main_arg10)
      ∧ r.2.mem ((c.tc : Thread Cert.ReferenceAdamMlpIdeal.nD Cert.ReferenceAdamMlpIdeal.τ).loc Cert.ReferenceAdamMlpIdeal.main_arg11) = m ((c.tc : Thread Cert.ReferenceAdamMlpIdeal.nD Cert.ReferenceAdamMlpIdeal.τ).loc Cert.ReferenceAdamMlpIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)) (v10 : (c : Dev Cert.KernelIdeal.nD) → Buf (Elt Ideal) ((c.tc : Thread Cert.KernelIdeal.nD Cert.KernelIdeal.τ).loc Cert.KernelIdeal.main_v0_10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_v0_10) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v91) = v4 c
          ∧ r.2.mem ((c.tc : Thread Cert.ReferenceIdeal.nD Cert.ReferenceIdeal.τ).loc Cert.ReferenceIdeal.main_v77) = v5 c
          ∧ r.2.mem ((c.tc : Thread Cert.ReferenceIdeal.nD Cert.ReferenceIdeal.τ).loc Cert.ReferenceIdeal.main_v79) = v6 c
          ∧ r.2.mem ((c.tc : Thread Cert.ReferenceIdeal.nD Cert.ReferenceIdeal.τ).loc Cert.ReferenceIdeal.main_v80) = v7 c
          ∧ r.2.mem ((c.tc : Thread Cert.ReferenceIdeal.nD Cert.ReferenceIdeal.τ).loc Cert.ReferenceIdeal.main_v86) = v8 c
          ∧ r.2.mem ((c.tc : Thread Cert.ReferenceIdeal.nD Cert.ReferenceIdeal.τ).loc Cert.ReferenceIdeal.main_v92) = v9 c
          ∧ r.2.mem ((c.tc : Thread Cert.ReferenceIdeal.nD Cert.ReferenceIdeal.τ).loc Cert.ReferenceIdeal.main_v93) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0_0)) (v1 : (c : Dev Cert.KernelOutIdeal.nD) → Buf (Elt Ideal) ((c.tc : Thread Cert.KernelOutIdeal.nD Cert.KernelOutIdeal.τ).loc Cert.KernelOutIdeal.main_v0_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0_0) = v0 c
          ∧ r.2.mem ((c.tc : Thread Cert.KernelOutIdeal.nD Cert.KernelOutIdeal.τ).loc Cert.KernelOutIdeal.main_v0_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_v5) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0_0)) (v1 : (c : Dev Cert.KernelUpIdeal.nD) → Buf (Elt Ideal) ((c.tc : Thread Cert.KernelUpIdeal.nD Cert.KernelUpIdeal.τ).loc Cert.KernelUpIdeal.main_v0_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0_0) = v0 c
          ∧ r.2.mem ((c.tc : Thread Cert.KernelUpIdeal.nD Cert.KernelUpIdeal.τ).loc Cert.KernelUpIdeal.main_v0_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v9) = v0 c
          ∧ r.2.mem ((c.tc : Thread Cert.ReferenceUpIdeal.nD Cert.ReferenceUpIdeal.τ).loc Cert.ReferenceUpIdeal.main_v10) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0_0)) (v1 : (c : Dev Cert.KernelDownIdeal.nD) → Buf (Elt Ideal) ((c.tc : Thread Cert.KernelDownIdeal.nD Cert.KernelDownIdeal.τ).loc Cert.KernelDownIdeal.main_v0_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0_0) = v0 c
          ∧ r.2.mem ((c.tc : Thread Cert.KernelDownIdeal.nD Cert.KernelDownIdeal.τ).loc Cert.KernelDownIdeal.main_v0_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v7) = v0 c
          ∧ r.2.mem ((c.tc : Thread Cert.ReferenceDownIdeal.nD Cert.ReferenceDownIdeal.τ).loc Cert.ReferenceDownIdeal.main_v8) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v0_0)) (v1 : (c : Dev Cert.KernelInIdeal.nD) → Buf (Elt Ideal) ((c.tc : Thread Cert.KernelInIdeal.nD Cert.KernelInIdeal.τ).loc Cert.KernelInIdeal.main_v0_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0_0) = v0 c
          ∧ r.2.mem ((c.tc : Thread Cert.KernelInIdeal.nD Cert.KernelInIdeal.τ).loc Cert.KernelInIdeal.main_v0_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v9) = v0 c
          ∧ r.2.mem ((c.tc : Thread Cert.ReferenceInIdeal.nD Cert.ReferenceInIdeal.τ).loc Cert.ReferenceInIdeal.main_v10) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)
      ∧ m' ((c.tc : Thread Cert.ReferenceMixIdeal.nD Cert.ReferenceMixIdeal.τ).loc Cert.ReferenceMixIdeal.main_arg7) = m ((c.tc : Thread Cert.KernelMixIdeal.nD Cert.KernelMixIdeal.τ).loc Cert.KernelMixIdeal.main_arg7)) →
    ∃ (v0 : (c : Dev Cert.KernelMixIdeal.nD) → Buf (Elt Ideal) ((c.tc : Thread Cert.KernelMixIdeal.nD Cert.KernelMixIdeal.τ).loc Cert.KernelMixIdeal.main_v0_0)) (v1 : (c : Dev Cert.KernelMixIdeal.nD) → Buf (Elt Ideal) ((c.tc : Thread Cert.KernelMixIdeal.nD Cert.KernelMixIdeal.τ).loc Cert.KernelMixIdeal.main_v0_1)) (v2 : (c : Dev Cert.KernelMixIdeal.nD) → Buf (Elt Ideal) ((c.tc : Thread Cert.KernelMixIdeal.nD Cert.KernelMixIdeal.τ).loc Cert.KernelMixIdeal.main_v0_2)) (v3 : (c : Dev Cert.KernelMixIdeal.nD) → Buf (Elt Ideal) ((c.tc : Thread Cert.KernelMixIdeal.nD Cert.KernelMixIdeal.τ).loc Cert.KernelMixIdeal.main_v0_3)) (v4 : (c : Dev Cert.KernelMixIdeal.nD) → Buf (Elt Ideal) ((c.tc : Thread Cert.KernelMixIdeal.nD Cert.KernelMixIdeal.τ).loc Cert.KernelMixIdeal.main_v0_4)) (v5 : (c : Dev Cert.KernelMixIdeal.nD) → Buf (Elt Ideal) ((c.tc : Thread Cert.KernelMixIdeal.nD Cert.KernelMixIdeal.τ).loc Cert.KernelMixIdeal.main_v0_5)) (v6 : (c : Dev Cert.KernelMixIdeal.nD) → Buf (Elt Ideal) ((c.tc : Thread Cert.KernelMixIdeal.nD Cert.KernelMixIdeal.τ).loc Cert.KernelMixIdeal.main_v0_6)) (v7 : (c : Dev Cert.KernelMixIdeal.nD) → Buf (Elt Ideal) ((c.tc : Thread Cert.KernelMixIdeal.nD Cert.KernelMixIdeal.τ).loc Cert.KernelMixIdeal.main_v0_7)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v0_0) = v0 c
          ∧ r.2.mem ((c.tc : Thread Cert.KernelMixIdeal.nD Cert.KernelMixIdeal.τ).loc Cert.KernelMixIdeal.main_v0_1) = v1 c
          ∧ r.2.mem ((c.tc : Thread Cert.KernelMixIdeal.nD Cert.KernelMixIdeal.τ).loc Cert.KernelMixIdeal.main_v0_2) = v2 c
          ∧ r.2.mem ((c.tc : Thread Cert.KernelMixIdeal.nD Cert.KernelMixIdeal.τ).loc Cert.KernelMixIdeal.main_v0_3) = v3 c
          ∧ r.2.mem ((c.tc : Thread Cert.KernelMixIdeal.nD Cert.KernelMixIdeal.τ).loc Cert.KernelMixIdeal.main_v0_4) = v4 c
          ∧ r.2.mem ((c.tc : Thread Cert.KernelMixIdeal.nD Cert.KernelMixIdeal.τ).loc Cert.KernelMixIdeal.main_v0_5) = v5 c
          ∧ r.2.mem ((c.tc : Thread Cert.KernelMixIdeal.nD Cert.KernelMixIdeal.τ).loc Cert.KernelMixIdeal.main_v0_6) = v6 c
          ∧ r.2.mem ((c.tc : Thread Cert.KernelMixIdeal.nD Cert.KernelMixIdeal.τ).loc Cert.KernelMixIdeal.main_v0_7) = v7 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
          ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v183) = v0 c
          ∧ r.2.mem ((c.tc : Thread Cert.ReferenceMixIdeal.nD Cert.ReferenceMixIdeal.τ).loc Cert.ReferenceMixIdeal.main_v185) = v1 c
          ∧ r.2.mem ((c.tc : Thread Cert.ReferenceMixIdeal.nD Cert.ReferenceMixIdeal.τ).loc Cert.ReferenceMixIdeal.main_v186) = v2 c
          ∧ r.2.mem ((c.tc : Thread Cert.ReferenceMixIdeal.nD Cert.ReferenceMixIdeal.τ).loc Cert.ReferenceMixIdeal.main_v19) = v3 c
          ∧ r.2.mem ((c.tc : Thread Cert.ReferenceMixIdeal.nD Cert.ReferenceMixIdeal.τ).loc Cert.ReferenceMixIdeal.main_v23) = v4 c
          ∧ r.2.mem ((c.tc : Thread Cert.ReferenceMixIdeal.nD Cert.ReferenceMixIdeal.τ).loc Cert.ReferenceMixIdeal.main_v44) = v5 c
          ∧ r.2.mem ((c.tc : Thread Cert.ReferenceMixIdeal.nD Cert.ReferenceMixIdeal.τ).loc Cert.ReferenceMixIdeal.main_v59) = v6 c
          ∧ r.2.mem ((c.tc : Thread Cert.ReferenceMixIdeal.nD Cert.ReferenceMixIdeal.τ).loc Cert.ReferenceMixIdeal.main_v27) = v7 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6)
          ∧ r.2.mem ((c.tc : Thread Cert.ReferenceMixIdeal.nD Cert.ReferenceMixIdeal.τ).loc Cert.ReferenceMixIdeal.main_arg7) = m' ((c.tc : Thread Cert.ReferenceMixIdeal.nD Cert.ReferenceMixIdeal.τ).loc Cert.ReferenceMixIdeal.main_arg7))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)) (v3 : (c : Dev Cert.KernelAdamInIdeal.nD) → Buf (Elt Ideal) ((c.tc : Thread Cert.KernelAdamInIdeal.nD Cert.KernelAdamInIdeal.τ).loc Cert.KernelAdamInIdeal.main_v0_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_v0_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_arg1) = v0 c
          ∧ r.2.mem ((c.tc : Thread Cert.ReferenceAdamInIdeal.nD Cert.ReferenceAdamInIdeal.τ).loc Cert.ReferenceAdamInIdeal.main_v23) = v1 c
          ∧ r.2.mem ((c.tc : Thread Cert.ReferenceAdamInIdeal.nD Cert.ReferenceAdamInIdeal.τ).loc Cert.ReferenceAdamInIdeal.main_v4) = v2 c
          ∧ r.2.mem ((c.tc : Thread Cert.ReferenceAdamInIdeal.nD Cert.ReferenceAdamInIdeal.τ).loc Cert.ReferenceAdamInIdeal.main_v10) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamMlp_KernelAdamMlpIdeal : Prop :=
  True

def algebraic_KernelAdamMlpIdeal_ReferenceAdamMlpIdeal [hKernelAdamMlpIdeal : Cert.KernelAdamMlpIdeal.Facts] [hReferenceAdamMlpIdeal : Cert.ReferenceAdamMlpIdeal.Facts] : Prop :=
  ∀ (m : (ℓ : Loc Cert.KernelAdamMlpIdeal.nD Cert.KernelAdamMlpIdeal.τ Cert.KernelAdamMlpIdeal.sig) → Buf (Elt Ideal) ℓ) (g : Dev Cert.KernelAdamMlpIdeal.nD → PrngReg)
    (m' : (ℓ : Loc Cert.ReferenceAdamMlpIdeal.nD Cert.ReferenceAdamMlpIdeal.τ Cert.ReferenceAdamMlpIdeal.sig) → Buf (Elt Ideal) ℓ) (g' : Dev Cert.ReferenceAdamMlpIdeal.nD → PrngReg), Pre_KernelAdamMlpIdeal m →
    (∀ c : Dev Cert.KernelAdamMlpIdeal.nD,
      m' ((c.tc : Thread Cert.ReferenceAdamMlpIdeal.nD Cert.ReferenceAdamMlpIdeal.τ).loc Cert.ReferenceAdamMlpIdeal.main_arg0) = m ((c.tc : Thread Cert.KernelAdamMlpIdeal.nD Cert.KernelAdamMlpIdeal.τ).loc Cert.KernelAdamMlpIdeal.main_arg0)
      ∧ m' ((c.tc : Thread Cert.ReferenceAdamMlpIdeal.nD Cert.ReferenceAdamMlpIdeal.τ).loc Cert.ReferenceAdamMlpIdeal.main_arg1) = m ((c.tc : Thread Cert.KernelAdamMlpIdeal.nD Cert.KernelAdamMlpIdeal.τ).loc Cert.KernelAdamMlpIdeal.main_arg1)
      ∧ m' ((c.tc : Thread Cert.ReferenceAdamMlpIdeal.nD Cert.ReferenceAdamMlpIdeal.τ).loc Cert.ReferenceAdamMlpIdeal.main_arg2) = m ((c.tc : Thread Cert.KernelAdamMlpIdeal.nD Cert.KernelAdamMlpIdeal.τ).loc Cert.KernelAdamMlpIdeal.main_arg2)
      ∧ m' ((c.tc : Thread Cert.ReferenceAdamMlpIdeal.nD Cert.ReferenceAdamMlpIdeal.τ).loc Cert.ReferenceAdamMlpIdeal.main_arg3) = m ((c.tc : Thread Cert.KernelAdamMlpIdeal.nD Cert.KernelAdamMlpIdeal.τ).loc Cert.KernelAdamMlpIdeal.main_arg3)
      ∧ m' ((c.tc : Thread Cert.ReferenceAdamMlpIdeal.nD Cert.ReferenceAdamMlpIdeal.τ).loc Cert.ReferenceAdamMlpIdeal.main_arg4) = m ((c.tc : Thread Cert.KernelAdamMlpIdeal.nD Cert.KernelAdamMlpIdeal.τ).loc Cert.KernelAdamMlpIdeal.main_arg4)
      ∧ m' ((c.tc : Thread Cert.ReferenceAdamMlpIdeal.nD Cert.ReferenceAdamMlpIdeal.τ).loc Cert.ReferenceAdamMlpIdeal.main_arg5) = m ((c.tc : Thread Cert.KernelAdamMlpIdeal.nD Cert.KernelAdamMlpIdeal.τ).loc Cert.KernelAdamMlpIdeal.main_arg5)
      ∧ m' ((c.tc : Thread Cert.ReferenceAdamMlpIdeal.nD Cert.ReferenceAdamMlpIdeal.τ).loc Cert.ReferenceAdamMlpIdeal.main_arg6) = m ((c.tc : Thread Cert.KernelAdamMlpIdeal.nD Cert.KernelAdamMlpIdeal.τ).loc Cert.KernelAdamMlpIdeal.main_arg6)
      ∧ m' ((c.tc : Thread Cert.ReferenceAdamMlpIdeal.nD Cert.ReferenceAdamMlpIdeal.τ).loc Cert.ReferenceAdamMlpIdeal.main_arg7) = m ((c.tc : Thread Cert.KernelAdamMlpIdeal.nD Cert.KernelAdamMlpIdeal.τ).loc Cert.KernelAdamMlpIdeal.main_arg7)
      ∧ m' ((c.tc : Thread Cert.ReferenceAdamMlpIdeal.nD Cert.ReferenceAdamMlpIdeal.τ).loc Cert.ReferenceAdamMlpIdeal.main_arg8) = m ((c.tc : Thread Cert.KernelAdamMlpIdeal.nD Cert.KernelAdamMlpIdeal.τ).loc Cert.KernelAdamMlpIdeal.main_arg8)
      ∧ m' ((c.tc : Thread Cert.ReferenceAdamMlpIdeal.nD Cert.ReferenceAdamMlpIdeal.τ).loc Cert.ReferenceAdamMlpIdeal.main_arg9) = m ((c.tc : Thread Cert.KernelAdamMlpIdeal.nD Cert.KernelAdamMlpIdeal.τ).loc Cert.KernelAdamMlpIdeal.main_arg9)
      ∧ m' ((c.tc : Thread Cert.ReferenceAdamMlpIdeal.nD Cert.ReferenceAdamMlpIdeal.τ).loc Cert.ReferenceAdamMlpIdeal.main_arg10) = m ((c.tc : Thread Cert.KernelAdamMlpIdeal.nD Cert.KernelAdamMlpIdeal.τ).loc Cert.KernelAdamMlpIdeal.main_arg10)
      ∧ m' ((c.tc : Thread Cert.ReferenceAdamMlpIdeal.nD Cert.ReferenceAdamMlpIdeal.τ).loc Cert.ReferenceAdamMlpIdeal.main_arg11) = m ((c.tc : Thread Cert.KernelAdamMlpIdeal.nD Cert.KernelAdamMlpIdeal.τ).loc Cert.KernelAdamMlpIdeal.main_arg11)) →
    ∃ (v0 : (c : Dev Cert.KernelAdamMlpIdeal.nD) → Buf (Elt Ideal) ((c.tc : Thread Cert.KernelAdamMlpIdeal.nD Cert.KernelAdamMlpIdeal.τ).loc Cert.KernelAdamMlpIdeal.main_v0_0)) (v1 : (c : Dev Cert.KernelAdamMlpIdeal.nD) → Buf (Elt Ideal) ((c.tc : Thread Cert.KernelAdamMlpIdeal.nD Cert.KernelAdamMlpIdeal.τ).loc Cert.KernelAdamMlpIdeal.main_v0_1)) (v2 : (c : Dev Cert.KernelAdamMlpIdeal.nD) → Buf (Elt Ideal) ((c.tc : Thread Cert.KernelAdamMlpIdeal.nD Cert.KernelAdamMlpIdeal.τ).loc Cert.KernelAdamMlpIdeal.main_v0_2)) (v3 : (c : Dev Cert.KernelAdamMlpIdeal.nD) → Buf (Elt Ideal) ((c.tc : Thread Cert.KernelAdamMlpIdeal.nD Cert.KernelAdamMlpIdeal.τ).loc Cert.KernelAdamMlpIdeal.main_v0_3)) (v4 : (c : Dev Cert.KernelAdamMlpIdeal.nD) → Buf (Elt Ideal) ((c.tc : Thread Cert.KernelAdamMlpIdeal.nD Cert.KernelAdamMlpIdeal.τ).loc Cert.KernelAdamMlpIdeal.main_v0_4)) (v5 : (c : Dev Cert.KernelAdamMlpIdeal.nD) → Buf (Elt Ideal) ((c.tc : Thread Cert.KernelAdamMlpIdeal.nD Cert.KernelAdamMlpIdeal.τ).loc Cert.KernelAdamMlpIdeal.main_v0_5)) (v6 : (c : Dev Cert.KernelAdamMlpIdeal.nD) → Buf (Elt Ideal) ((c.tc : Thread Cert.KernelAdamMlpIdeal.nD Cert.KernelAdamMlpIdeal.τ).loc Cert.KernelAdamMlpIdeal.main_v0_6)) (v7 : (c : Dev Cert.KernelAdamMlpIdeal.nD) → Buf (Elt Ideal) ((c.tc : Thread Cert.KernelAdamMlpIdeal.nD Cert.KernelAdamMlpIdeal.τ).loc Cert.KernelAdamMlpIdeal.main_v0_7)) (v8 : (c : Dev Cert.KernelAdamMlpIdeal.nD) → Buf (Elt Ideal) ((c.tc : Thread Cert.KernelAdamMlpIdeal.nD Cert.KernelAdamMlpIdeal.τ).loc Cert.KernelAdamMlpIdeal.main_v0_8)) (v9 : (c : Dev Cert.KernelAdamMlpIdeal.nD) → Buf (Elt Ideal) ((c.tc : Thread Cert.KernelAdamMlpIdeal.nD Cert.KernelAdamMlpIdeal.τ).loc Cert.KernelAdamMlpIdeal.main_v0_9)) (v10 : (c : Dev Cert.KernelAdamMlpIdeal.nD) → Buf (Elt Ideal) ((c.tc : Thread Cert.KernelAdamMlpIdeal.nD Cert.KernelAdamMlpIdeal.τ).loc Cert.KernelAdamMlpIdeal.main_v0_10)) (v11 : (c : Dev Cert.KernelAdamMlpIdeal.nD) → Buf (Elt Ideal) ((c.tc : Thread Cert.KernelAdamMlpIdeal.nD Cert.KernelAdamMlpIdeal.τ).loc Cert.KernelAdamMlpIdeal.main_v0_11)),
      θ_run (Cert.KernelAdamMlpIdeal.defs (F := Ideal)) (onTc (τ := Cert.KernelAdamMlpIdeal.τ) (Cert.KernelAdamMlpIdeal.main (F := Ideal))) ⟨m, fun _ => 0, g⟩ (fun r => ∀ c : Dev Cert.KernelAdamMlpIdeal.nD,
          r.2.mem ((c.tc : Thread Cert.KernelAdamMlpIdeal.nD Cert.KernelAdamMlpIdeal.τ).loc Cert.KernelAdamMlpIdeal.main_v0_0) = v0 c
          ∧ r.2.mem ((c.tc : Thread Cert.KernelAdamMlpIdeal.nD Cert.KernelAdamMlpIdeal.τ).loc Cert.KernelAdamMlpIdeal.main_v0_1) = v1 c
          ∧ r.2.mem ((c.tc : Thread Cert.KernelAdamMlpIdeal.nD Cert.KernelAdamMlpIdeal.τ).loc Cert.KernelAdamMlpIdeal.main_v0_2) = v2 c
          ∧ r.2.mem ((c.tc : Thread Cert.KernelAdamMlpIdeal.nD Cert.KernelAdamMlpIdeal.τ).loc Cert.KernelAdamMlpIdeal.main_v0_3) = v3 c
          ∧ r.2.mem ((c.tc : Thread Cert.KernelAdamMlpIdeal.nD Cert.KernelAdamMlpIdeal.τ).loc Cert.KernelAdamMlpIdeal.main_v0_4) = v4 c
          ∧ r.2.mem ((c.tc : Thread Cert.KernelAdamMlpIdeal.nD Cert.KernelAdamMlpIdeal.τ).loc Cert.KernelAdamMlpIdeal.main_v0_5) = v5 c
          ∧ r.2.mem ((c.tc : Thread Cert.KernelAdamMlpIdeal.nD Cert.KernelAdamMlpIdeal.τ).loc Cert.KernelAdamMlpIdeal.main_v0_6) = v6 c
          ∧ r.2.mem ((c.tc : Thread Cert.KernelAdamMlpIdeal.nD Cert.KernelAdamMlpIdeal.τ).loc Cert.KernelAdamMlpIdeal.main_v0_7) = v7 c
          ∧ r.2.mem ((c.tc : Thread Cert.KernelAdamMlpIdeal.nD Cert.KernelAdamMlpIdeal.τ).loc Cert.KernelAdamMlpIdeal.main_v0_8) = v8 c
          ∧ r.2.mem ((c.tc : Thread Cert.KernelAdamMlpIdeal.nD Cert.KernelAdamMlpIdeal.τ).loc Cert.KernelAdamMlpIdeal.main_v0_9) = v9 c
          ∧ r.2.mem ((c.tc : Thread Cert.KernelAdamMlpIdeal.nD Cert.KernelAdamMlpIdeal.τ).loc Cert.KernelAdamMlpIdeal.main_v0_10) = v10 c
          ∧ r.2.mem ((c.tc : Thread Cert.KernelAdamMlpIdeal.nD Cert.KernelAdamMlpIdeal.τ).loc Cert.KernelAdamMlpIdeal.main_v0_11) = v11 c
          ∧ r.2.mem ((c.tc : Thread Cert.KernelAdamMlpIdeal.nD Cert.KernelAdamMlpIdeal.τ).loc Cert.KernelAdamMlpIdeal.main_arg0) = m ((c.tc : Thread Cert.KernelAdamMlpIdeal.nD Cert.KernelAdamMlpIdeal.τ).loc Cert.KernelAdamMlpIdeal.main_arg0)
          ∧ r.2.mem ((c.tc : Thread Cert.KernelAdamMlpIdeal.nD Cert.KernelAdamMlpIdeal.τ).loc Cert.KernelAdamMlpIdeal.main_arg1) = m ((c.tc : Thread Cert.KernelAdamMlpIdeal.nD Cert.KernelAdamMlpIdeal.τ).loc Cert.KernelAdamMlpIdeal.main_arg1)
          ∧ r.2.mem ((c.tc : Thread Cert.KernelAdamMlpIdeal.nD Cert.KernelAdamMlpIdeal.τ).loc Cert.KernelAdamMlpIdeal.main_arg2) = m ((c.tc : Thread Cert.KernelAdamMlpIdeal.nD Cert.KernelAdamMlpIdeal.τ).loc Cert.KernelAdamMlpIdeal.main_arg2)
          ∧ r.2.mem ((c.tc : Thread Cert.KernelAdamMlpIdeal.nD Cert.KernelAdamMlpIdeal.τ).loc Cert.KernelAdamMlpIdeal.main_arg3) = m ((c.tc : Thread Cert.KernelAdamMlpIdeal.nD Cert.KernelAdamMlpIdeal.τ).loc Cert.KernelAdamMlpIdeal.main_arg3)
          ∧ r.2.mem ((c.tc : Thread Cert.KernelAdamMlpIdeal.nD Cert.KernelAdamMlpIdeal.τ).loc Cert.KernelAdamMlpIdeal.main_arg4) = m ((c.tc : Thread Cert.KernelAdamMlpIdeal.nD Cert.KernelAdamMlpIdeal.τ).loc Cert.KernelAdamMlpIdeal.main_arg4)
          ∧ r.2.mem ((c.tc : Thread Cert.KernelAdamMlpIdeal.nD Cert.KernelAdamMlpIdeal.τ).loc Cert.KernelAdamMlpIdeal.main_arg5) = m ((c.tc : Thread Cert.KernelAdamMlpIdeal.nD Cert.KernelAdamMlpIdeal.τ).loc Cert.KernelAdamMlpIdeal.main_arg5)
          ∧ r.2.mem ((c.tc : Thread Cert.KernelAdamMlpIdeal.nD Cert.KernelAdamMlpIdeal.τ).loc Cert.KernelAdamMlpIdeal.main_arg6) = m ((c.tc : Thread Cert.KernelAdamMlpIdeal.nD Cert.KernelAdamMlpIdeal.τ).loc Cert.KernelAdamMlpIdeal.main_arg6)
          ∧ r.2.mem ((c.tc : Thread Cert.KernelAdamMlpIdeal.nD Cert.KernelAdamMlpIdeal.τ).loc Cert.KernelAdamMlpIdeal.main_arg7) = m ((c.tc : Thread Cert.KernelAdamMlpIdeal.nD Cert.KernelAdamMlpIdeal.τ).loc Cert.KernelAdamMlpIdeal.main_arg7)
          ∧ r.2.mem ((c.tc : Thread Cert.KernelAdamMlpIdeal.nD Cert.KernelAdamMlpIdeal.τ).loc Cert.KernelAdamMlpIdeal.main_arg8) = m ((c.tc : Thread Cert.KernelAdamMlpIdeal.nD Cert.KernelAdamMlpIdeal.τ).loc Cert.KernelAdamMlpIdeal.main_arg8)
          ∧ r.2.mem ((c.tc : Thread Cert.KernelAdamMlpIdeal.nD Cert.KernelAdamMlpIdeal.τ).loc Cert.KernelAdamMlpIdeal.main_arg9) = m ((c.tc : Thread Cert.KernelAdamMlpIdeal.nD Cert.KernelAdamMlpIdeal.τ).loc Cert.KernelAdamMlpIdeal.main_arg9)
          ∧ r.2.mem ((c.tc : Thread Cert.KernelAdamMlpIdeal.nD Cert.KernelAdamMlpIdeal.τ).loc Cert.KernelAdamMlpIdeal.main_arg10) = m ((c.tc : Thread Cert.KernelAdamMlpIdeal.nD Cert.KernelAdamMlpIdeal.τ).loc Cert.KernelAdamMlpIdeal.main_arg10)
          ∧ r.2.mem ((c.tc : Thread Cert.KernelAdamMlpIdeal.nD Cert.KernelAdamMlpIdeal.τ).loc Cert.KernelAdamMlpIdeal.main_arg11) = m ((c.tc : Thread Cert.KernelAdamMlpIdeal.nD Cert.KernelAdamMlpIdeal.τ).loc Cert.KernelAdamMlpIdeal.main_arg11))
      ∧ θ_run (Cert.ReferenceAdamMlpIdeal.defs (F := Ideal)) (onTc (τ := Cert.ReferenceAdamMlpIdeal.τ) (Cert.ReferenceAdamMlpIdeal.main (F := Ideal))) ⟨m', fun _ => 0, g'⟩ (fun r => ∀ c : Dev Cert.ReferenceAdamMlpIdeal.nD,
          r.2.mem ((c.tc : Thread Cert.ReferenceAdamMlpIdeal.nD Cert.ReferenceAdamMlpIdeal.τ).loc Cert.ReferenceAdamMlpIdeal.main_arg3) = v0 c
          ∧ r.2.mem ((c.tc : Thread Cert.ReferenceAdamMlpIdeal.nD Cert.ReferenceAdamMlpIdeal.τ).loc Cert.ReferenceAdamMlpIdeal.main_arg4) = v1 c
          ∧ r.2.mem ((c.tc : Thread Cert.ReferenceAdamMlpIdeal.nD Cert.ReferenceAdamMlpIdeal.τ).loc Cert.ReferenceAdamMlpIdeal.main_arg5) = v2 c
          ∧ r.2.mem ((c.tc : Thread Cert.ReferenceAdamMlpIdeal.nD Cert.ReferenceAdamMlpIdeal.τ).loc Cert.ReferenceAdamMlpIdeal.main_v23) = v3 c
          ∧ r.2.mem ((c.tc : Thread Cert.ReferenceAdamMlpIdeal.nD Cert.ReferenceAdamMlpIdeal.τ).loc Cert.ReferenceAdamMlpIdeal.main_v47) = v4 c
          ∧ r.2.mem ((c.tc : Thread Cert.ReferenceAdamMlpIdeal.nD Cert.ReferenceAdamMlpIdeal.τ).loc Cert.ReferenceAdamMlpIdeal.main_v71) = v5 c
          ∧ r.2.mem ((c.tc : Thread Cert.ReferenceAdamMlpIdeal.nD Cert.ReferenceAdamMlpIdeal.τ).loc Cert.ReferenceAdamMlpIdeal.main_v4) = v6 c
          ∧ r.2.mem ((c.tc : Thread Cert.ReferenceAdamMlpIdeal.nD Cert.ReferenceAdamMlpIdeal.τ).loc Cert.ReferenceAdamMlpIdeal.main_v28) = v7 c
          ∧ r.2.mem ((c.tc : Thread Cert.ReferenceAdamMlpIdeal.nD Cert.ReferenceAdamMlpIdeal.τ).loc Cert.ReferenceAdamMlpIdeal.main_v52) = v8 c
          ∧ r.2.mem ((c.tc : Thread Cert.ReferenceAdamMlpIdeal.nD Cert.ReferenceAdamMlpIdeal.τ).loc Cert.ReferenceAdamMlpIdeal.main_v10) = v9 c
          ∧ r.2.mem ((c.tc : Thread Cert.ReferenceAdamMlpIdeal.nD Cert.ReferenceAdamMlpIdeal.τ).loc Cert.ReferenceAdamMlpIdeal.main_v34) = v10 c
          ∧ r.2.mem ((c.tc : Thread Cert.ReferenceAdamMlpIdeal.nD Cert.ReferenceAdamMlpIdeal.τ).loc Cert.ReferenceAdamMlpIdeal.main_v58) = v11 c
          ∧ r.2.mem ((c.tc : Thread Cert.ReferenceAdamMlpIdeal.nD Cert.ReferenceAdamMlpIdeal.τ).loc Cert.ReferenceAdamMlpIdeal.main_arg0) = m' ((c.tc : Thread Cert.ReferenceAdamMlpIdeal.nD Cert.ReferenceAdamMlpIdeal.τ).loc Cert.ReferenceAdamMlpIdeal.main_arg0)
          ∧ r.2.mem ((c.tc : Thread Cert.ReferenceAdamMlpIdeal.nD Cert.ReferenceAdamMlpIdeal.τ).loc Cert.ReferenceAdamMlpIdeal.main_arg1) = m' ((c.tc : Thread Cert.ReferenceAdamMlpIdeal.nD Cert.ReferenceAdamMlpIdeal.τ).loc Cert.ReferenceAdamMlpIdeal.main_arg1)
          ∧ r.2.mem ((c.tc : Thread Cert.ReferenceAdamMlpIdeal.nD Cert.ReferenceAdamMlpIdeal.τ).loc Cert.ReferenceAdamMlpIdeal.main_arg2) = m' ((c.tc : Thread Cert.ReferenceAdamMlpIdeal.nD Cert.ReferenceAdamMlpIdeal.τ).loc Cert.ReferenceAdamMlpIdeal.main_arg2)
          ∧ r.2.mem ((c.tc : Thread Cert.ReferenceAdamMlpIdeal.nD Cert.ReferenceAdamMlpIdeal.τ).loc Cert.ReferenceAdamMlpIdeal.main_arg3) = m' ((c.tc : Thread Cert.ReferenceAdamMlpIdeal.nD Cert.ReferenceAdamMlpIdeal.τ).loc Cert.ReferenceAdamMlpIdeal.main_arg3)
          ∧ r.2.mem ((c.tc : Thread Cert.ReferenceAdamMlpIdeal.nD Cert.ReferenceAdamMlpIdeal.τ).loc Cert.ReferenceAdamMlpIdeal.main_arg4) = m' ((c.tc : Thread Cert.ReferenceAdamMlpIdeal.nD Cert.ReferenceAdamMlpIdeal.τ).loc Cert.ReferenceAdamMlpIdeal.main_arg4)
          ∧ r.2.mem ((c.tc : Thread Cert.ReferenceAdamMlpIdeal.nD Cert.ReferenceAdamMlpIdeal.τ).loc Cert.ReferenceAdamMlpIdeal.main_arg5) = m' ((c.tc : Thread Cert.ReferenceAdamMlpIdeal.nD Cert.ReferenceAdamMlpIdeal.τ).loc Cert.ReferenceAdamMlpIdeal.main_arg5)
          ∧ r.2.mem ((c.tc : Thread Cert.ReferenceAdamMlpIdeal.nD Cert.ReferenceAdamMlpIdeal.τ).loc Cert.ReferenceAdamMlpIdeal.main_arg6) = m' ((c.tc : Thread Cert.ReferenceAdamMlpIdeal.nD Cert.ReferenceAdamMlpIdeal.τ).loc Cert.ReferenceAdamMlpIdeal.main_arg6)
          ∧ r.2.mem ((c.tc : Thread Cert.ReferenceAdamMlpIdeal.nD Cert.ReferenceAdamMlpIdeal.τ).loc Cert.ReferenceAdamMlpIdeal.main_arg7) = m' ((c.tc : Thread Cert.ReferenceAdamMlpIdeal.nD Cert.ReferenceAdamMlpIdeal.τ).loc Cert.ReferenceAdamMlpIdeal.main_arg7)
          ∧ r.2.mem ((c.tc : Thread Cert.ReferenceAdamMlpIdeal.nD Cert.ReferenceAdamMlpIdeal.τ).loc Cert.ReferenceAdamMlpIdeal.main_arg8) = m' ((c.tc : Thread Cert.ReferenceAdamMlpIdeal.nD Cert.ReferenceAdamMlpIdeal.τ).loc Cert.ReferenceAdamMlpIdeal.main_arg8)
          ∧ r.2.mem ((c.tc : Thread Cert.ReferenceAdamMlpIdeal.nD Cert.ReferenceAdamMlpIdeal.τ).loc Cert.ReferenceAdamMlpIdeal.main_arg9) = m' ((c.tc : Thread Cert.ReferenceAdamMlpIdeal.nD Cert.ReferenceAdamMlpIdeal.τ).loc Cert.ReferenceAdamMlpIdeal.main_arg9)
          ∧ r.2.mem ((c.tc : Thread Cert.ReferenceAdamMlpIdeal.nD Cert.ReferenceAdamMlpIdeal.τ).loc Cert.ReferenceAdamMlpIdeal.main_arg10) = m' ((c.tc : Thread Cert.ReferenceAdamMlpIdeal.nD Cert.ReferenceAdamMlpIdeal.τ).loc Cert.ReferenceAdamMlpIdeal.main_arg10)
          ∧ r.2.mem ((c.tc : Thread Cert.ReferenceAdamMlpIdeal.nD Cert.ReferenceAdamMlpIdeal.τ).loc Cert.ReferenceAdamMlpIdeal.main_arg11) = m' ((c.tc : Thread Cert.ReferenceAdamMlpIdeal.nD Cert.ReferenceAdamMlpIdeal.τ).loc Cert.ReferenceAdamMlpIdeal.main_arg11))

def Claim : Prop :=
  ∃ (hKernel : Cert.Kernel.Facts) (hKernelIdeal : Cert.KernelIdeal.Facts) (hReferenceIdeal : Cert.ReferenceIdeal.Facts) (hKernelOut : Cert.KernelOut.Facts) (hKernelOutIdeal : Cert.KernelOutIdeal.Facts) (hReferenceOutIdeal : Cert.ReferenceOutIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelIn : Cert.KernelIn.Facts) (hKernelInIdeal : Cert.KernelInIdeal.Facts) (hReferenceInIdeal : Cert.ReferenceInIdeal.Facts) (hKernelMix : Cert.KernelMix.Facts) (hKernelMixIdeal : Cert.KernelMixIdeal.Facts) (hReferenceMixIdeal : Cert.ReferenceMixIdeal.Facts) (hKernelAdamIn : Cert.KernelAdamIn.Facts) (hKernelAdamInIdeal : Cert.KernelAdamInIdeal.Facts) (hReferenceAdamInIdeal : Cert.ReferenceAdamInIdeal.Facts) (hKernelAdamMlp : Cert.KernelAdamMlp.Facts) (hKernelAdamMlpIdeal : Cert.KernelAdamMlpIdeal.Facts) (hReferenceAdamMlpIdeal : Cert.ReferenceAdamMlpIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamMlp (hKernelAdamMlp := hKernelAdamMlp)
    ∧ quiescent_KernelAdamMlpIdeal (hKernelAdamMlpIdeal := hKernelAdamMlpIdeal)
    ∧ quiescent_ReferenceAdamMlpIdeal (hReferenceAdamMlpIdeal := hReferenceAdamMlpIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelOut_KernelOutIdeal
    ∧ algebraic_KernelOutIdeal_ReferenceOutIdeal (hKernelOutIdeal := hKernelOutIdeal) (hReferenceOutIdeal := hReferenceOutIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelIn_KernelInIdeal
    ∧ algebraic_KernelInIdeal_ReferenceInIdeal (hKernelInIdeal := hKernelInIdeal) (hReferenceInIdeal := hReferenceInIdeal)
    ∧ preserves_KernelMix_KernelMixIdeal
    ∧ algebraic_KernelMixIdeal_ReferenceMixIdeal (hKernelMixIdeal := hKernelMixIdeal) (hReferenceMixIdeal := hReferenceMixIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamMlp_KernelAdamMlpIdeal
    ∧ algebraic_KernelAdamMlpIdeal_ReferenceAdamMlpIdeal (hKernelAdamMlpIdeal := hKernelAdamMlpIdeal) (hReferenceAdamMlpIdeal := hReferenceAdamMlpIdeal)
-- ==== Pre_finite.lean ====
abbrev S8192x1024 : Shape := ⟨2, ![8192, 1024]⟩
abbrev S8192x512 : Shape := ⟨2, ![8192, 512]⟩
abbrev S1024x1024 : Shape := ⟨2, ![1024, 1024]⟩
abbrev S4x1024x1024 : Shape := ⟨3, ![4, 1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S8192x512 : S_.BroadcastsInDim S8192x512 (![] : Fin 0 → Fin S8192x512.rank)
  bcast_S_S1024x1024 : S_.BroadcastsInDim S1024x1024 (![] : Fin 0 → Fin S1024x1024.rank)
  bcast_S_S4x1024x1024 : S_.BroadcastsInDim S4x1024x1024 (![] : Fin 0 → Fin S4x1024x1024.rank)
  bcast_S_S1x1024 : S_.BroadcastsInDim S1x1024 (![] : Fin 0 → Fin S1x1024.rank)

variable [Facts]

def fn_part1 {F : FTy → Type} [FloatOps F] (main_arg6 : FVec F S4x1024x1024 .bf16) (main_arg7 : FVec F S1x1024 .f32) (main_v2 : IVec S8192x1024 1) (main_v5 : IVec S8192x1024 1) (main_v9 : IVec S8192x512 1) (main_v12 : IVec S8192x512 1) (main_v16 : IVec S1024x1024 1) (main_v18 : FVec F S4x1024x1024 .f32) : IVec S8192x1024 1 × IVec S8192x1024 1 × IVec S8192x512 1 × IVec S8192x512 1 × IVec S1024x1024 1 × IVec S4x1024x1024 1 × IVec S4x1024x1024 1 × IVec S1x1024 1 :=
  let main_cst_4 : FVec F S_ .f32 := constant S_ .f32 0x7F800000#32
  let main_v19 : FVec F S4x1024x1024 .f32 := broadcastInDim S4x1024x1024 ![] bcast_S_S4x1024x1024 main_cst_4
  let main_v20 : IVec S4x1024x1024 1 := cmpf .olt main_v18 main_v19
  let main_v21 : FVec F S4x1024x1024 .f32 := (extf .f32 · bitsLt_bf16_f32) main_arg6
  let main_v22 : FVec F S4x1024x1024 .f32 := Host.absf main_v21
  let main_cst_5 : FVec F S_ .f32 := constant S_ .f32 0x7F800000#32
  let main_v23 : FVec F S4x1024x1024 .f32 := broadcastInDim S4x1024x1024 ![] bcast_S_S4x1024x1024 main_cst_5
  let main_v24 : IVec S4x1024x1024 1 := cmpf .olt main_v22 main_v23
  let main_v25 : FVec F S1x1024 .f32 := Host.absf main_arg7
  let main_cst_6 : FVec F S_ .f32 := constant S_ .f32 0x7F800000#32
  let main_v26 : FVec F S1x1024 .f32 := broadcastInDim S1x1024 ![] bcast_S_S1x1024 main_cst_6
  let main_v27 : IVec S1x1024 1 := cmpf .olt main_v25 main_v26
  (main_v2, main_v5, main_v9, main_v12, main_v16, main_v20, main_v24, main_v27)

def fn {F : FTy → Type} [FloatOps F] (main_arg0 : FVec F S8192x1024 .f32) (main_arg1 : FVec F S8192x1024 .f32) (main_arg2 : FVec F S8192x512 .bf16) (main_arg3 : FVec F S8192x512 .f32) (main_arg4 : FVec F S1024x1024 .bf16) (main_arg5 : FVec F S4x1024x1024 .bf16) (main_arg6 : FVec F S4x1024x1024 .bf16) (main_arg7 : FVec F S1x1024 .f32) : IVec S8192x1024 1 × IVec S8192x1024 1 × IVec S8192x512 1 × IVec S8192x512 1 × IVec S1024x1024 1 × IVec S4x1024x1024 1 × IVec S4x1024x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x512 .f32 := (extf .f32 · bitsLt_bf16_f32) main_arg2
  let main_v7 : FVec F S8192x512 .f32 := Host.absf main_v6
  let main_cst_1 : FVec F S_ .f32 := constant S_ .f32 0x7F800000#32
  let main_v8 : FVec F S8192x512 .f32 := broadcastInDim S8192x512 ![] bcast_S_S8192x512 main_cst_1
  let main_v9 : IVec S8192x512 1 := cmpf .olt main_v7 main_v8
  let main_v10 : FVec F S8192x512 .f32 := Host.absf main_arg3
  let main_cst_2 : FVec F S_ .f32 := constant S_ .f32 0x7F800000#32
  let main_v11 : FVec F S8192x512 .f32 := broadcastInDim S8192x512 ![] bcast_S_S8192x512 main_cst_2
  let main_v12 : IVec S8192x512 1 := cmpf .olt main_v10 main_v11
  let main_v13 : FVec F S1024x1024 .f32 := (extf .f32 · bitsLt_bf16_f32) main_arg4
  let main_v14 : FVec F S1024x1024 .f32 := Host.absf main_v13
  let main_cst_3 : FVec F S_ .f32 := constant S_ .f32 0x7F800000#32
  let main_v15 : FVec F S1024x1024 .f32 := broadcastInDim S1024x1024 ![] bcast_S_S1024x1024 main_cst_3
  let main_v16 : IVec S1024x1024 1 := cmpf .olt main_v14 main_v15
  let main_v17 : FVec F S4x1024x1024 .f32 := (extf .f32 · bitsLt_bf16_f32) main_arg5
  let main_v18 : FVec F S4x1024x1024 .f32 := Host.absf main_v17
  fn_part1 (F := F) main_arg6 main_arg7 main_v2 main_v5 main_v9 main_v12 main_v16 main_v18
-- ==== Kernel.lean ====
abbrev S8192x1024 : Shape := ⟨2, ![8192, 1024]⟩
abbrev S8192x512 : Shape := ⟨2, ![8192, 512]⟩
abbrev S1024x1024 : Shape := ⟨2, ![1024, 1024]⟩
abbrev S4x1024x1024 : Shape := ⟨3, ![4, 1024, 1024]⟩
abbrev S1x1024 : Shape := ⟨2, ![1, 1024]⟩
abbrev S8192x4096 : Shape := ⟨2, ![8192, 4096]⟩
abbrev S1x128 : Shape := ⟨2, ![1, 128]⟩
abbrev S256x1024 : Shape := ⟨2, ![256, 1024]⟩
abbrev S256x512 : Shape := ⟨2, ![256, 512]⟩
abbrev S256x4096 : Shape := ⟨2, ![256, 4096]⟩
abbrev S9 : Shape := ⟨1, ![9]⟩
abbrev S1 : Shape := ⟨1, ![1]⟩
abbrev S_ : Shape := ⟨0, ![]⟩
abbrev S1x1024x1024 : Shape := ⟨3, ![1, 1024, 1024]⟩
abbrev S256 : Shape := ⟨1, ![256]⟩
abbrev S256x1 : Shape := ⟨2, ![256, 1]⟩
abbrev S1x256x1024 : Shape := ⟨3, ![1, 256, 1024]⟩
abbrev S1x1x1 : Shape := ⟨3, ![1, 1, 1]⟩
abbrev S1024 : Shape := ⟨1, ![1024]⟩
abbrev S256x128 : Shape := ⟨2, ![256, 128]⟩

abbrev nBuf : Space → Nat
  | .hbm => 19
  | .vmem => 33
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .bf16⟩
  | .hbm, ⟨3, _⟩ => ⟨S8192x512, .f32⟩
  | .hbm, ⟨4, _⟩ => ⟨S1024x1024, .bf16⟩
  | .hbm, ⟨5, _⟩ => ⟨S4x1024x1024, .bf16⟩
  | .hbm, ⟨6, _⟩ => ⟨S4x1024x1024, .bf16⟩
  | .hbm, ⟨7, _⟩ => ⟨S1x1024, .f32⟩
  | .hbm, ⟨8, _⟩ => ⟨S8192x1024, .bf16⟩
  | .hbm, ⟨9, _⟩ => ⟨S8192x1024, .bf16⟩
  | .hbm, ⟨10, _⟩ => ⟨S8192x4096, .bf16⟩
  | .hbm, ⟨11, _⟩ => ⟨S8192x4096, .bf16⟩
  | .hbm, ⟨12, _⟩ => ⟨S8192x1024, .bf16⟩
  | .hbm, ⟨13, _⟩ => ⟨S8192x1024, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S1x1024, .f32⟩
  | .hbm, ⟨18, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S1x1024, .f32⟩
  | .local _ .vmem, ⟨28, _⟩ => ⟨S1x128, .f32⟩
  | .local _ .vmem, ⟨29, _⟩ => ⟨S1024x1024, .bf16⟩
  | .local _ .vmem, ⟨30, _⟩ => ⟨S4x1024x1024, .bf16⟩
  | .local _ .vmem, ⟨31, _⟩ => ⟨S4x1024x1024, .bf16⟩
  | .local _ .vmem, ⟨32, _⟩ => ⟨S256x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_v0_8 : Ref sig .tc := ⟨.hbm, 16, rfl⟩
abbrev main_v0_9 : Ref sig .tc := ⟨.hbm, 17, rfl⟩
abbrev main_v0_10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg15_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem15_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S8192x1024 : Shape := ⟨2, ![8192, 1024]⟩
abbrev S8192x512 : Shape := ⟨2, ![8192, 512]⟩
abbrev S1024x1024 : Shape := ⟨2, ![1024, 1024]⟩
abbrev S4x1024x1024 : Shape := ⟨3, ![4, 1024, 1024]⟩
abbrev S1x1024 : Shape := ⟨2, ![1, 1024]⟩
abbrev S1024x4x1024 : Shape := ⟨3, ![1024, 4, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S8192x8x64 : Shape := ⟨3, ![8192, 8, 64]⟩
abbrev S8192x8 : Shape := ⟨2, ![8192, 8]⟩
abbrev S8192x8x1 : Shape := ⟨3, ![8192, 8, 1]⟩
abbrev S1x128 : Shape := ⟨2, ![1, 128]⟩

abbrev nBuf : Space → Nat
  | .hbm => 126
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .bf16⟩
  | .hbm, ⟨3, _⟩ => ⟨S8192x512, .f32⟩
  | .hbm, ⟨4, _⟩ => ⟨S1024x1024, .bf16⟩
  | .hbm, ⟨5, _⟩ => ⟨S4x1024x1024, .bf16⟩
  | .hbm, ⟨6, _⟩ => ⟨S4x1024x1024, .bf16⟩
  | .hbm, ⟨7, _⟩ => ⟨S1x1024, .f32⟩
  | .hbm, ⟨8, _⟩ => ⟨S8192x512, .f32⟩
  | .hbm, ⟨9, _⟩ => ⟨S1024x1024, .f32⟩
  | .hbm, ⟨10, _⟩ => ⟨S4x1024x1024, .f32⟩
  | .hbm, ⟨11, _⟩ => ⟨S1024x4x1024, .f32⟩
  | .hbm, ⟨12, _⟩ => ⟨S1024x4096, .f32⟩
  | .hbm, ⟨13, _⟩ => ⟨S4x1024x1024, .f32⟩
  | .hbm, ⟨14, _⟩ => ⟨S4096x1024, .f32⟩
  | .hbm, ⟨15, _⟩ => ⟨S1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x4096, .f32⟩
  | .hbm, ⟨40, _⟩ => ⟨S_, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .i1⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S_, .f32⟩
  | .hbm, ⟨50, _⟩ => ⟨S8192x4096, .f32⟩
  | .hbm, ⟨51, _⟩ => ⟨S8192x4096, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x4096, .f32⟩
  | .hbm, ⟨78, _⟩ => ⟨S8192x4096, .f32⟩
  | .hbm, ⟨79, _⟩ => ⟨S_, .f32⟩
  | .hbm, ⟨80, _⟩ => ⟨S8192x4096, .f32⟩
  | .hbm, ⟨81, _⟩ => ⟨S8192x4096, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S1024, .f32⟩
  | .hbm, ⟨91, _⟩ => ⟨S8192x1024, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x1024, .f32⟩
  | .hbm, ⟨96, _⟩ => ⟨S8192x1024, .f32⟩
  | .hbm, ⟨97, _⟩ => ⟨S8192x1, .f32⟩
  | .hbm, ⟨98, _⟩ => ⟨S_, .f32⟩
  | .hbm, ⟨99, _⟩ => ⟨S8192x1, .f32⟩
  | .hbm, ⟨100, _⟩ => ⟨S8192x1, .f32⟩
  | .hbm, ⟨101, _⟩ => ⟨S_, .f32⟩
  | .hbm, ⟨102, _⟩ => ⟨S8192, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S8192x512, .f32⟩
  | .hbm, ⟨111, _⟩ => ⟨S8192x512, .f32⟩
  | .hbm, ⟨112, _⟩ => ⟨S8192x512, .f32⟩
  | .hbm, ⟨113, _⟩ => ⟨S8192x8x64, .f32⟩
  | .hbm, ⟨114, _⟩ => ⟨S_, .f32⟩
  | .hbm, ⟨115, _⟩ => ⟨S8192x8, .f32⟩
  | .hbm, ⟨116, _⟩ => ⟨S8192x8x1, .f32⟩
  | .hbm, ⟨117, _⟩ => ⟨S8192x8x64, .f32⟩
  | .hbm, ⟨118, _⟩ => ⟨S8192x512, .f32⟩
  | .hbm, ⟨119, _⟩ => ⟨S8192x1024, .bf16⟩
  | .hbm, ⟨120, _⟩ => ⟨S8192x1024, .bf16⟩
  | .hbm, ⟨121, _⟩ => ⟨S8192x4096, .bf16⟩
  | .hbm, ⟨122, _⟩ => ⟨S8192x4096, .bf16⟩
  | .hbm, ⟨123, _⟩ => ⟨S8192x1024, .bf16⟩
  | .hbm, ⟨124, _⟩ => ⟨S1x1024, .f32⟩
  | .hbm, ⟨125, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_cst_11 : Ref sig .tc := ⟨.hbm, 68, rfl⟩
abbrev main_cst_12 : Ref sig .tc := ⟨.hbm, 69, rfl⟩
abbrev main_v46 : Ref sig .tc := ⟨.hbm, 70, rfl⟩
abbrev main_v47 : Ref sig .tc := ⟨.hbm, 71, rfl⟩
abbrev main_cst_13 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_15 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_16 : Ref sig .tc := ⟨.hbm, 89, rfl⟩
abbrev main_v62 : Ref sig .tc := ⟨.hbm, 90, rfl⟩
abbrev main_v63 : Ref sig .tc := ⟨.hbm, 91, rfl⟩
abbrev main_cst_17 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_18 : Ref sig .tc := ⟨.hbm, 98, rfl⟩
abbrev main_v69 : Ref sig .tc := ⟨.hbm, 99, rfl⟩
abbrev main_v70 : Ref sig .tc := ⟨.hbm, 100, rfl⟩
abbrev main_cst_19 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_20 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩

abbrev nD : Nat := 1
abbrev τ : Topo := Topo.v7x

variable {F : FTy → Type} [FloatOps F]
-- ==== KernelOut.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== ReferenceOutIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelUp.lean ====
abbrev S8192x1024 : Shape := ⟨2, ![8192, 1024]⟩
abbrev S8192x4096 : Shape := ⟨2, ![8192, 4096]⟩
abbrev S4x1024x1024 : Shape := ⟨3, ![4, 1024, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x1024x1024, .f32⟩
  | .hbm, ⟨3, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== ReferenceUpIdeal.lean ====
abbrev S8192x1024 : Shape := ⟨2, ![8192, 1024]⟩
abbrev S8192x4096 : Shape := ⟨2, ![8192, 4096]⟩
abbrev S_ : Shape := ⟨0, ![]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S4x1024x1024, .f32⟩
  | .hbm, ⟨4, _⟩ => ⟨S8192x1024, .f32⟩
  | .hbm, ⟨5, _⟩ => ⟨S1024x4x1024, .f32⟩
  | .hbm, ⟨6, _⟩ => ⟨S1024x4096, .f32⟩
  | .hbm, ⟨7, _⟩ => ⟨S8192x4096, .f32⟩
  | .hbm, ⟨8, _⟩ => ⟨S8192x4096, .f32⟩
  | .hbm, ⟨9, _⟩ => ⟨S4096x1024, .f32⟩
  | .hbm, ⟨10, _⟩ => ⟨S1024x4096, .f32⟩
  | .hbm, ⟨11, _⟩ => ⟨S1024x4x1024, .f32⟩
  | .hbm, ⟨12, _⟩ => ⟨S4x1024x1024, .f32⟩
  | .hbm, ⟨13, _⟩ => ⟨S4x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelDown.lean ====
abbrev S8192x4096 : Shape := ⟨2, ![8192, 4096]⟩
abbrev S8192x1024 : Shape := ⟨2, ![8192, 1024]⟩
abbrev S4x1024x1024 : Shape := ⟨3, ![4, 1024, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x1024x1024, .f32⟩
  | .hbm, ⟨3, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== ReferenceDownIdeal.lean ====
abbrev S8192x4096 : Shape := ⟨2, ![8192, 4096]⟩
abbrev S8192x1024 : Shape := ⟨2, ![8192, 1024]⟩
abbrev S_ : Shape := ⟨0, ![]⟩
abbrev S4x1024x1024 : Shape := ⟨3, ![4, 1024, 1024]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4x1024x1024, .f32⟩
  | .hbm, ⟨4, _⟩ => ⟨S8192x4096, .f32⟩
  | .hbm, ⟨5, _⟩ => ⟨S4096x1024, .f32⟩
  | .hbm, ⟨6, _⟩ => ⟨S8192x1024, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S4x1024x1024, .f32⟩
  | .hbm, ⟨11, _⟩ => ⟨S4x1024x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelIn.lean ====
abbrev S8192x1024 : Shape := ⟨2, ![8192, 1024]⟩
abbrev S8192x2048 : Shape := ⟨2, ![8192, 2048]⟩
abbrev S8x128 : Shape := ⟨2, ![8, 128]⟩
abbrev S4x1024x512 : Shape := ⟨3, ![4, 1024, 512]⟩
abbrev S4096x1024 : Shape := ⟨2, ![4096, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8x128, .f32⟩
  | .hbm, ⟨3, _⟩ => ⟨S4x1024x512, .f32⟩
  | .hbm, ⟨4, _⟩ => ⟨S4x1024x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024x512, .bf16⟩
  | .local _ .vmem, ⟨7, _⟩ => ⟨S1x1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== ReferenceInIdeal.lean ====
abbrev S8192x1024 : Shape := ⟨2, ![8192, 1024]⟩
abbrev S8192x2048 : Shape := ⟨2, ![8192, 2048]⟩
abbrev S8x128 : Shape := ⟨2, ![8, 128]⟩
abbrev S_ : Shape := ⟨0, ![]⟩
abbrev S4x1024x512 : Shape := ⟨3, ![4, 1024, 512]⟩
abbrev S1024x4x512 : Shape := ⟨3, ![1024, 4, 512]⟩
abbrev S1024x2048 : Shape := ⟨2, ![1024, 2048]⟩
abbrev S2048x1024 : Shape := ⟨2, ![2048, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8x128, .f32⟩
  | .hbm, ⟨3, _⟩ => ⟨S_, .f32⟩
  | .hbm, ⟨4, _⟩ => ⟨S4x1024x512, .f32⟩
  | .hbm, ⟨5, _⟩ => ⟨S8192x1024, .f32⟩
  | .hbm, ⟨6, _⟩ => ⟨S1024x4x512, .f32⟩
  | .hbm, ⟨7, _⟩ => ⟨S1024x2048, .f32⟩
  | .hbm, ⟨8, _⟩ => ⟨S8192x2048, .f32⟩
  | .hbm, ⟨9, _⟩ => ⟨S8192x2048, .f32⟩
  | .hbm, ⟨10, _⟩ => ⟨S2048x1024, .f32⟩
  | .hbm, ⟨11, _⟩ => ⟨S1024x2048, .f32⟩
  | .hbm, ⟨12, _⟩ => ⟨S1024x4x512, .f32⟩
  | .hbm, ⟨13, _⟩ => ⟨S4x1024x512, .f32⟩
  | .hbm, ⟨14, _⟩ => ⟨S4x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== KernelMix.lean ====
abbrev S8192x1024 : Shape := ⟨2, ![8192, 1024]⟩
abbrev S1x1024 : Shape := ⟨2, ![1, 1024]⟩
abbrev S4x1024x512 : Shape := ⟨3, ![4, 1024, 512]⟩
abbrev S4x128x128 : Shape := ⟨3, ![4, 128, 128]⟩
abbrev S1x512 : Shape := ⟨2, ![1, 512]⟩
abbrev S8x128 : Shape := ⟨2, ![8, 128]⟩
abbrev S8192x512 : Shape := ⟨2, ![8192, 512]⟩
abbrev S1024x1024 : Shape := ⟨2, ![1024, 1024]⟩
abbrev S1024x512 : Shape := ⟨2, ![1024, 512]⟩
abbrev S1040x512 : Shape := ⟨2, ![1040, 512]⟩
abbrev S1024 : Shape := ⟨1, ![1024]⟩
abbrev S1024x1 : Shape := ⟨2, ![1024, 1]⟩
abbrev S1x1024x512 : Shape := ⟨3, ![1, 1024, 512]⟩
abbrev S1x128 : Shape := ⟨2, ![1, 128]⟩
abbrev S1024x128 : Shape := ⟨2, ![1024, 128]⟩
abbrev S16x512 : Shape := ⟨2, ![16, 512]⟩
abbrev S1x128x128 : Shape := ⟨3, ![1, 128, 128]⟩
abbrev S128x128 : Shape := ⟨2, ![128, 128]⟩

abbrev nBuf : Space → Nat
  | .hbm => 16
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x512, .bf16⟩
  | .hbm, ⟨3, _⟩ => ⟨S4x128x128, .bf16⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S8x128, .f32⟩
  | .hbm, ⟨8, _⟩ => ⟨S8192x1024, .bf16⟩
  | .hbm, ⟨9, _⟩ => ⟨S8192x512, .bf16⟩
  | .hbm, ⟨10, _⟩ => ⟨S8192x512, .bf16⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4x1024x512, .bf16⟩
  | .local _ .vmem, ⟨4, _⟩ => ⟨S4x128x128, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1024x1024, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1040x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceMixIdeal.lean ====
abbrev S8192x1024 : Shape := ⟨2, ![8192, 1024]⟩
abbrev S1x1024 : Shape := ⟨2, ![1, 1024]⟩
abbrev S4x1024x512 : Shape := ⟨3, ![4, 1024, 512]⟩
abbrev S4x128x128 : Shape := ⟨3, ![4, 128, 128]⟩
abbrev S1x512 : Shape := ⟨2, ![1, 512]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S1x1024x512 : Shape := ⟨3, ![1, 1024, 512]⟩
abbrev S1024x512 : Shape := ⟨2, ![1024, 512]⟩
abbrev S8192x512 : Shape := ⟨2, ![8192, 512]⟩
abbrev S8192x8x64 : Shape := ⟨3, ![8192, 8, 64]⟩
abbrev S1x8x64 : Shape := ⟨3, ![1, 8, 64]⟩
abbrev S8192x8 : Shape := ⟨2, ![8192, 8]⟩
abbrev S8192x8x1 : Shape := ⟨3, ![8192, 8, 1]⟩
abbrev S8192x128 : Shape := ⟨2, ![8192, 128]⟩
abbrev S8193x128 : Shape := ⟨2, ![8193, 128]⟩
abbrev S8195x128 : Shape := ⟨2, ![8195, 128]⟩
abbrev S8199x128 : Shape := ⟨2, ![8199, 128]⟩
abbrev S8207x128 : Shape := ⟨2, ![8207, 128]⟩
abbrev S1x128x128 : Shape := ⟨3, ![1, 128, 128]⟩
abbrev S128x128 : Shape := ⟨2, ![128, 128]⟩

abbrev nBuf : Space → Nat
  | .hbm => 221
  | .vmem => 0
  | .smem => 0
  | _ => 0

abbrev hbmTy0_0 (i : Nat) : BufTy := match i % 128 with
  | 0 => ⟨S8192x1024, .f32⟩
  | 1 => ⟨S1x1024, .f32⟩
  | 2 => ⟨S4x1024x512, .bf16⟩
  | 3 => ⟨S4x128x128, .bf16⟩
  | 4 => ⟨S1x512, .f32⟩
  | 5 => ⟨S1x512, .f32⟩
  | 6 => ⟨S1x512, .f32⟩
  | 7 => ⟨S8x128, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1024, .f32⟩
  | 20 => ⟨S8192x1024, .f32⟩
  | 21 => ⟨S8192x1024, .f32⟩
  | 22 => ⟨S8192x1024, .f32⟩
  | 23 => ⟨S1x1024x512, .bf16⟩
  | 24 => ⟨S1024x512, .bf16⟩
  | 25 => ⟨S1024x512, .f32⟩
  | 26 => ⟨S8192x512, .f32⟩
  | 27 => ⟨S1x1024x512, .bf16⟩
  | 28 => ⟨S1024x512, .bf16⟩
  | 29 => ⟨S1024x512, .f32⟩
  | 30 => ⟨S8192x512, .f32⟩
  | 31 => ⟨S1x1024x512, .bf16⟩
  | 32 => ⟨S1024x512, .bf16⟩
  | 33 => ⟨S1024x512, .f32⟩
  | 34 => ⟨S8192x512, .f32⟩
  | 35 => ⟨S1x1024x512, .bf16⟩
  | 36 => ⟨S1024x512, .bf16⟩
  | 37 => ⟨S1024x512, .f32⟩
  | 38 => ⟨S8192x512, .f32⟩
  | 39 => ⟨S8192x8x64, .f32⟩
  | 40 => ⟨S1x8x64, .f32⟩
  | 41 => ⟨S8192x8x64, .f32⟩
  | 42 => ⟨S_, .f32⟩
  | 43 => ⟨S8192x8, .f32⟩
  | 44 => ⟨S8192x8x1, .f32⟩
  | 45 => ⟨S_, .f32⟩
  | 46 => ⟨S8192x8x1, .f32⟩
  | 47 => ⟨S8192x8x1, .f32⟩
  | 48 => ⟨S_, .f32⟩
  | 49 => ⟨S8192x8x1, .f32⟩
  | 50 => ⟨S8192x8x1, .f32⟩
  | 51 => ⟨S8192x8x1, .f32⟩
  | 52 => ⟨S8192x8x64, .f32⟩
  | 53 => ⟨S8192x8x64, .f32⟩
  | 54 => ⟨S8192x8x64, .f32⟩
  | 55 => ⟨S8192x8x64, .f32⟩
  | 56 => ⟨S8192x512, .f32⟩
  | 57 => ⟨S_, .f32⟩
  | 58 => ⟨S8192x512, .f32⟩
  | 59 => ⟨S8192x512, .f32⟩
  | 60 => ⟨S8192x8x64, .f32⟩
  | 61 => ⟨S1x8x64, .f32⟩
  | 62 => ⟨S8192x8x64, .f32⟩
  | 63 => ⟨S_, .f32⟩
  | 64 => ⟨S8192x8, .f32⟩
  | 65 => ⟨S8192x8x1, .f32⟩
  | 66 => ⟨S_, .f32⟩
  | 67 => ⟨S8192x8x1, .f32⟩
  | 68 => ⟨S8192x8x1, .f32⟩
  | 69 => ⟨S_, .f32⟩
  | 70 => ⟨S8192x8x1, .f32⟩
  | 71 => ⟨S8192x8x1, .f32⟩
  | 72 => ⟨S8192x8x1, .f32⟩
  | 73 => ⟨S8192x8x64, .f32⟩
  | 74 => ⟨S8192x8x64, .f32⟩
  | 75 => ⟨S8192x8x64, .f32⟩
  | 76 => ⟨S8192x8x64, .f32⟩
  | 77 => ⟨S8192x512, .f32⟩
  | 78 => ⟨S8192x128, .f32⟩
  | 79 => ⟨S_, .i32⟩
  | 80 => ⟨S_, .f32⟩
  | 81 => ⟨S8193x128, .f32⟩
  | 82 => ⟨S8192x128, .f32⟩
  | 83 => ⟨S8192x128, .f32⟩
  | 84 => ⟨S8192x128, .f32⟩
  | 85 => ⟨S8192, .i32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S8192, .f32⟩
  | 93 => ⟨S8192x1, .f32⟩
  | 94 => ⟨S8192x128, .f32⟩
  | 95 => ⟨S8192x128, .f32⟩
  | 96 => ⟨S8192x128, .f32⟩
  | 97 => ⟨S8192x128, .f32⟩
  | 98 => ⟨S_, .i32⟩
  | 99 => ⟨S_, .f32⟩
  | 100 => ⟨S8195x128, .f32⟩
  | 101 => ⟨S8192x128, .f32⟩
  | 102 => ⟨S8192x128, .f32⟩
  | 103 => ⟨S8192x128, .f32⟩
  | 104 => ⟨S8192x128, .f32⟩
  | 105 => ⟨S8192x128, .f32⟩
  | 106 => ⟨S8192x128, .f32⟩
  | 107 => ⟨S8192x128, .f32⟩
  | 108 => ⟨S8192, .i32⟩
  | 109 => ⟨S_, .i32⟩
  | 110 => ⟨S8192, .i32⟩
  | 111 => ⟨S8192, .i32⟩
  | 112 => ⟨S_, .i32⟩
  | 113 => ⟨S8192, .i32⟩
  | 114 => ⟨S8192, .i32⟩
  | 115 => ⟨S8192, .f32⟩
  | 116 => ⟨S8192x1, .f32⟩
  | 117 => ⟨S8192x128, .f32⟩
  | 118 => ⟨S8192x128, .f32⟩
  | 119 => ⟨S8192x128, .f32⟩
  | 120 => ⟨S8192x128, .f32⟩
  | 121 => ⟨S_, .i32⟩
  | 122 => ⟨S_, .f32⟩
  | 123 => ⟨S8199x128, .f32⟩
  | 124 => ⟨S8192x128, .f32⟩
  | 125 => ⟨S8192x128, .f32⟩
  | 126 => ⟨S8192x128, .f32⟩
  | 127 => ⟨S8192x128, .f32⟩
  | _ => ⟨S8192x1024, .f32⟩

abbrev hbmTy0_1 (i : Nat) : BufTy := match i % 128 with
  | 0 => ⟨S8192x128, .f32⟩
  | 1 => ⟨S8192x128, .f32⟩
  | 2 => ⟨S8192x128, .f32⟩
  | 3 => ⟨S8192x128, .f32⟩
  | 4 => ⟨S8192x128, .f32⟩
  | 5 => ⟨S8192x128, .f32⟩
  | 6 => ⟨S8192x128, .f32⟩
  | 7 => ⟨S8192x128, .f32⟩
  | 8 => ⟨S8192x128, .f32⟩
  | 9 => ⟨S8192x128, .f32⟩
  | 10 => ⟨S8192x128, .f32⟩
  | 11 => ⟨S8192, .i32⟩
  | 12 => ⟨S_, .i32⟩
  | 13 => ⟨S8192, .i32⟩
  | 14 => ⟨S8192, .i32⟩
  | 15 => ⟨S_, .i32⟩
  | 16 => ⟨S8192, .i32⟩
  | 17 => ⟨S8192, .i32⟩
  | 18 => ⟨S8192, .f32⟩
  | 19 => ⟨S8192x1, .f32⟩
  | 20 => ⟨S8192x128, .f32⟩
  | 21 => ⟨S8192x128, .f32⟩
  | 22 => ⟨S8192x128, .f32⟩
  | 23 => ⟨S8192x128, .f32⟩
  | 24 => ⟨S_, .i32⟩
  | 25 => ⟨S_, .f32⟩
  | 26 => ⟨S8207x128, .f32⟩
  | 27 => ⟨S8192x128, .f32⟩
  | 28 => ⟨S8192x128, .f32⟩
  | 29 => ⟨S8192x128, .f32⟩
  | 30 => ⟨S8192x128, .f32⟩
  | 31 => ⟨S8192x128, .f32⟩
  | 32 => ⟨S8192x128, .f32⟩
  | 33 => ⟨S8192x128, .f32⟩
  | 34 => ⟨S8192x128, .f32⟩
  | 35 => ⟨S8192x128, .f32⟩
  | 36 => ⟨S8192x128, .f32⟩
  | 37 => ⟨S8192x128, .f32⟩
  | 38 => ⟨S8192x128, .f32⟩
  | 39 => ⟨S8192x128, .f32⟩
  | 40 => ⟨S8192x128, .f32⟩
  | 41 => ⟨S8192x128, .f32⟩
  | 42 => ⟨S8192x128, .f32⟩
  | 43 => ⟨S8192x128, .f32⟩
  | 44 => ⟨S8192x128, .f32⟩
  | 45 => ⟨S8192x128, .f32⟩
  | 46 => ⟨S8192x128, .f32⟩
  | 47 => ⟨S8192x128, .f32⟩
  | 48 => ⟨S8192x128, .f32⟩
  | 49 => ⟨S8192x128, .f32⟩
  | 50 => ⟨S8192x128, .f32⟩
  | 51 => ⟨S8192x128, .f32⟩
  | 52 => ⟨S8192x128, .f32⟩
  | 53 => ⟨S8192x128, .f32⟩
  | 54 => ⟨S8192x128, .f32⟩
  | 55 => ⟨S8192x128, .f32⟩
  | 56 => ⟨S8192x128, .f32⟩
  | 57 => ⟨S8192x128, .f32⟩
  | 58 => ⟨S8192, .i32⟩
  | 59 => ⟨S_, .i32⟩
  | 60 => ⟨S8192, .i32⟩
  | 61 => ⟨S8192, .i32⟩
  | 62 => ⟨S_, .i32⟩
  | 63 => ⟨S8192, .i32⟩
  | 64 => ⟨S8192, .i32⟩
  | 65 => ⟨S8192, .f32⟩
  | 66 => ⟨S8192x1, .f32⟩
  | 67 => ⟨S8192x128, .f32⟩
  | 68 => ⟨S8192x128, .f32⟩
  | 69 => ⟨S8192x128, .f32⟩
  | 70 => ⟨S1x128x128, .bf16⟩
  | 71 => ⟨S128x128, .bf16⟩
  | 72 => ⟨S128x128, .f32⟩
  | 73 => ⟨S8192x128, .f32⟩
  | 74 => ⟨S1x128x128, .bf16⟩
  | 75 => ⟨S128x128, .bf16⟩
  | 76 => ⟨S128x128, .f32⟩
  | 77 => ⟨S8192x128, .f32⟩
  | 78 => ⟨S1x128x128, .bf16⟩
  | 79 => ⟨S128x128, .bf16⟩
  | 80 => ⟨S128x128, .f32⟩
  | 81 => ⟨S8192x128, .f32⟩
  | 82 => ⟨S1x128x128, .bf16⟩
  | 83 => ⟨S128x128, .bf16⟩
  | 84 => ⟨S128x128, .f32⟩
  | 85 => ⟨S8192x128, .f32⟩
  | 86 => ⟨S8192x512, .f32⟩
  | 87 => ⟨S8192x512, .f32⟩
  | 88 => ⟨S8192x512, .f32⟩
  | 89 => ⟨S8192x1024, .bf16⟩
  | 90 => ⟨S8192x512, .f32⟩
  | 91 => ⟨S8192x512, .bf16⟩
  | 92 => ⟨S8192x512, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c : Ref sig .tc := ⟨.hbm, 79, rfl⟩
abbrev main_call0_v0 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_9 : Ref sig .tc := ⟨.hbm, 86, rfl⟩
abbrev main_v66 : Ref sig .tc := ⟨.hbm, 87, rfl⟩
abbrev main_v67 : Ref sig .tc := ⟨.hbm, 88, rfl⟩
abbrev main_c_10 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_c_11 : Ref sig .tc := ⟨.hbm, 98, rfl⟩
abbrev main_call1_v0 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_c_12 : Ref sig .tc := ⟨.hbm, 109, rfl⟩
abbrev main_v85 : Ref sig .tc := ⟨.hbm, 110, rfl⟩
abbrev main_v86 : Ref sig .tc := ⟨.hbm, 111, rfl⟩
abbrev main_c_13 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_c_14 : Ref sig .tc := ⟨.hbm, 121, rfl⟩
abbrev main_call2_v0 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_c_15 : Ref sig .tc := ⟨.hbm, 140, rfl⟩
abbrev main_v112 : Ref sig .tc := ⟨.hbm, 141, rfl⟩
abbrev main_v113 : Ref sig .tc := ⟨.hbm, 142, rfl⟩
abbrev main_c_16 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_c_17 : Ref sig .tc := ⟨.hbm, 152, rfl⟩
abbrev main_call3_v0 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_c_18 : Ref sig .tc := ⟨.hbm, 187, rfl⟩
abbrev main_v155 : Ref sig .tc := ⟨.hbm, 188, rfl⟩
abbrev main_v156 : Ref sig .tc := ⟨.hbm, 189, rfl⟩
abbrev main_c_19 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩

abbrev nD : Nat := 1
abbrev τ : Topo := Topo.v7x

variable {F : FTy → Type} [FloatOps F]
-- ==== KernelAdamIn.lean ====
abbrev S1024x512 : Shape := ⟨2, ![1024, 512]⟩
abbrev S128x512 : Shape := ⟨2, ![128, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamInIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamMlp.lean ====
abbrev S256x1024 : Shape := ⟨2, ![256, 1024]⟩
abbrev S1024x1024 : Shape := ⟨2, ![1024, 1024]⟩
abbrev S32x1024 : Shape := ⟨2, ![32, 1024]⟩
abbrev S128x1024 : Shape := ⟨2, ![128, 1024]⟩

abbrev nBuf : Space → Nat
  | .hbm => 24
  | .vmem => 48
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S256x1024, .f32⟩
  | .hbm, ⟨7, _⟩ => ⟨S1024x1024, .f32⟩
  | .hbm, ⟨8, _⟩ => ⟨S1024x1024, .f32⟩
  | .hbm, ⟨9, _⟩ => ⟨S256x1024, .f32⟩
  | .hbm, ⟨10, _⟩ => ⟨S1024x1024, .f32⟩
  | .hbm, ⟨11, _⟩ => ⟨S1024x1024, .f32⟩
  | .hbm, ⟨12, _⟩ => ⟨S256x1024, .f32⟩
  | .hbm, ⟨13, _⟩ => ⟨S1024x1024, .f32⟩
  | .hbm, ⟨14, _⟩ => ⟨S1024x1024, .f32⟩
  | .hbm, ⟨15, _⟩ => ⟨S256x1024, .f32⟩
  | .hbm, ⟨16, _⟩ => ⟨S1024x1024, .f32⟩
  | .hbm, ⟨17, _⟩ => ⟨S1024x1024, .f32⟩
  | .hbm, ⟨18, _⟩ => ⟨S256x1024, .f32⟩
  | .hbm, ⟨19, _⟩ => ⟨S1024x1024, .f32⟩
  | .hbm, ⟨20, _⟩ => ⟨S1024x1024, .f32⟩
  | .hbm, ⟨21, _⟩ => ⟨S256x1024, .f32⟩
  | .hbm, ⟨22, _⟩ => ⟨S1024x1024, .f32⟩
  | .hbm, ⟨23, _⟩ => ⟨S1024x1024, .f32⟩
  | .local _ .vmem, ⟨0, _⟩ => ⟨S32x1024, .f32⟩
  | .local _ .vmem, ⟨1, _⟩ => ⟨S32x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S32x1024, .f32⟩
  | .local _ .vmem, ⟨7, _⟩ => ⟨S32x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S32x1024, .f32⟩
  | .local _ .vmem, ⟨13, _⟩ => ⟨S32x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S32x1024, .f32⟩
  | .local _ .vmem, ⟨19, _⟩ => ⟨S32x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S32x1024, .f32⟩
  | .local _ .vmem, ⟨25, _⟩ => ⟨S32x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S32x1024, .f32⟩
  | .local _ .vmem, ⟨31, _⟩ => ⟨S32x1024, .f32⟩
  | .local _ .vmem, ⟨32, _⟩ => ⟨S128x1024, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | .local _ .vmem, ⟨36, _⟩ => ⟨S32x1024, .f32⟩
  | .local _ .vmem, ⟨37, _⟩ => ⟨S32x1024, .f32⟩
  | .local _ .vmem, ⟨38, _⟩ => ⟨S128x1024, .f32⟩
  | .local _ .vmem, ⟨39, _⟩ => ⟨S128x1024, .f32⟩
  | .local _ .vmem, ⟨40, _⟩ => ⟨S128x1024, .f32⟩
  | .local _ .vmem, ⟨41, _⟩ => ⟨S128x1024, .f32⟩
  | .local _ .vmem, ⟨42, _⟩ => ⟨S32x1024, .f32⟩
  | .local _ .vmem, ⟨43, _⟩ => ⟨S32x1024, .f32⟩
  | .local _ .vmem, ⟨44, _⟩ => ⟨S128x1024, .f32⟩
  | .local _ .vmem, ⟨45, _⟩ => ⟨S128x1024, .f32⟩
  | .local _ .vmem, ⟨46, _⟩ => ⟨S128x1024, .f32⟩
  | .local _ .vmem, ⟨47, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S32x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S128x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S128x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== ReferenceAdamMlpIdeal.lean ====
abbrev S256x1024 : Shape := ⟨2, ![256, 1024]⟩
abbrev S1024x1024 : Shape := ⟨2, ![1024, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S256x1024, .f32⟩
  | .hbm, ⟨7, _⟩ => ⟨S1024x1024, .f32⟩
  | .hbm, ⟨8, _⟩ => ⟨S1024x1024, .f32⟩
  | .hbm, ⟨9, _⟩ => ⟨S256x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S_, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S_, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S_, .f32⟩
  | .hbm, ⟨57, _⟩ => ⟨S1024x1024, .f32⟩
  | .hbm, ⟨58, _⟩ => ⟨S1024x1024, .f32⟩
  | .hbm, ⟨59, _⟩ => ⟨S1024x1024, .f32⟩
  | .hbm, ⟨60, _⟩ => ⟨S_, .f32⟩
  | .hbm, ⟨61, _⟩ => ⟨S1024x1024, .f32⟩
  | .hbm, ⟨62, _⟩ => ⟨S1024x1024, .f32⟩
  | .hbm, ⟨63, _⟩ => ⟨S_, .f32⟩
  | .hbm, ⟨64, _⟩ => ⟨S1024x1024, .f32⟩
  | .hbm, ⟨65, _⟩ => ⟨S1024x1024, .f32⟩
  | .hbm, ⟨66, _⟩ => ⟨S1024x1024, .f32⟩
  | .hbm, ⟨67, _⟩ => ⟨S_, .f32⟩
  | .hbm, ⟨68, _⟩ => ⟨S1024x1024, .f32⟩
  | .hbm, ⟨69, _⟩ => ⟨S1024x1024, .f32⟩
  | .hbm, ⟨70, _⟩ => ⟨S1024x1024, .f32⟩
  | .hbm, ⟨71, _⟩ => ⟨S_, .f32⟩
  | .hbm, ⟨72, _⟩ => ⟨S1024x1024, .f32⟩
  | .hbm, ⟨73, _⟩ => ⟨S1024x1024, .f32⟩
  | .hbm, ⟨74, _⟩ => ⟨S1024x1024, .f32⟩
  | .hbm, ⟨75, _⟩ => ⟨S_, .f32⟩
  | .hbm, ⟨76, _⟩ => ⟨S1024x1024, .f32⟩
  | .hbm, ⟨77, _⟩ => ⟨S1024x1024, .f32⟩
  | .hbm, ⟨78, _⟩ => ⟨S_, .f32⟩
  | .hbm, ⟨79, _⟩ => ⟨S1024x1024, .f32⟩
  | .hbm, ⟨80, _⟩ => ⟨S1024x1024, .f32⟩
  | .hbm, ⟨81, _⟩ => ⟨S_, .f32⟩
  | .hbm, ⟨82, _⟩ => ⟨S1024x1024, .f32⟩
  | .hbm, ⟨83, _⟩ => ⟨S1024x1024, .f32⟩
  | .hbm, ⟨84, _⟩ => ⟨S1024x1024, .f32⟩
  | .hbm, ⟨85, _⟩ => ⟨S_, .f32⟩
  | .hbm, ⟨86, _⟩ => ⟨S1024x1024, .f32⟩
  | .hbm, ⟨87, _⟩ => ⟨S1024x1024, .f32⟩
  | .hbm, ⟨88, _⟩ => ⟨S1024x1024, .f32⟩
  | .hbm, ⟨89, _⟩ => ⟨S_, .f32⟩
  | .hbm, ⟨90, _⟩ => ⟨S1024x1024, .f32⟩
  | .hbm, ⟨91, _⟩ => ⟨S1024x1024, .f32⟩
  | .hbm, ⟨92, _⟩ => ⟨S1024x1024, .f32⟩
  | .hbm, ⟨93, _⟩ => ⟨S_, .f32⟩
  | .hbm, ⟨94, _⟩ => ⟨S1024x1024, .f32⟩
  | .hbm, ⟨95, _⟩ => ⟨S1024x1024, .f32⟩
  | .hbm, ⟨96, _⟩ => ⟨S_, .f32⟩
  | .hbm, ⟨97, _⟩ => ⟨S1024x1024, .f32⟩
  | .hbm, ⟨98, _⟩ => ⟨S1024x1024, .f32⟩
  | .hbm, ⟨99, _⟩ => ⟨S1024x1024, .f32⟩
  | .hbm, ⟨100, _⟩ => ⟨S_, .f32⟩
  | .hbm, ⟨101, _⟩ => ⟨S1024x1024, .f32⟩
  | .hbm, ⟨102, _⟩ => ⟨S1024x1024, .f32⟩
  | .hbm, ⟨103, _⟩ => ⟨S1024x1024, .f32⟩
  | .hbm, ⟨104, _⟩ => ⟨S_, .f32⟩
  | .hbm, ⟨105, _⟩ => ⟨S1024x1024, .f32⟩
  | .hbm, ⟨106, _⟩ => ⟨S1024x1024, .f32⟩
  | .hbm, ⟨107, _⟩ => ⟨S1024x1024, .f32⟩
  | .hbm, ⟨108, _⟩ => ⟨S_, .f32⟩
  | .hbm, ⟨109, _⟩ => ⟨S1024x1024, .f32⟩
  | .hbm, ⟨110, _⟩ => ⟨S1024x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Proof.Base.lean ====
/-
  What the launch of the fused layer-half kernel is stated over: the staging buffers the body is handed at a point,
  the weight buffers it fills itself at the first point, the nine semaphores of those copies, and the three weight
  arrays it leaves in HBM; and the launch kit of the printed program restated over the resources of a launch whose
  body moves data itself.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Half

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-- The host program up to the call: the call alone. -/
theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The body's own operands -/

/-- The buffers the weights are copied into, and the one the rectified products wait in, each whole. -/
abbrev woutBuf : Memref sig .tc .vmem S1024x1024 .bf16 := Memref.whole cc0_scratch0
abbrev wupBuf : Memref sig .tc .vmem S4x1024x1024 .bf16 := Memref.whole cc0_scratch1
abbrev wdownBuf : Memref sig .tc .vmem S4x1024x1024 .bf16 := Memref.whole cc0_scratch2
abbrev rzBuf : Memref sig .tc .vmem S256x4096 .f32 := Memref.whole cc0_scratch3

/-- What buffer `M` of core `c` may hold, and `M` held whole at such contents. -/
abbrev Held (c : Dev nD) {sp : Space} {S : Shape} {e : EltTy} (M : Memref sig .tc sp S e) : Type :=
  Buf (Elt F) (M.view.loc (c : Thread nD τ))
abbrev heldAt (c : Dev nD) {sp : Space} {S : Shape} {e : EltTy} (M : Memref sig .tc sp S e) (f : Held (F := F) c M) : sProp 𝕄 :=
  M.view.loc (c : Thread nD τ) ↦{fullShare} f

/-- The weight arrays, left in HBM. -/
abbrev woutArr : Memref sig .tc .hbm S1024x1024 .bf16 := Memref.whole main_arg4
abbrev wupArr : Memref sig .tc .hbm S4x1024x1024 .bf16 := Memref.whole main_arg5
abbrev wdownArr : Memref sig .tc .hbm S4x1024x1024 .bf16 := Memref.whole main_arg6

/-- The nine semaphores of the weight copies, by their places in the pool. -/
abbrev copySem : Fin 9 → SemLoc sig := fun j =>
  (![SemLoc.dma 29, SemLoc.dma 30, SemLoc.dma 31, SemLoc.dma 32, SemLoc.dma 33, SemLoc.dma 34, SemLoc.dma 35, SemLoc.dma 36, SemLoc.dma 37] : Fin 9 → SemLoc sig) j
theorem copySem_own : Pipeline.OwnSemFacts spec0 copySem := by decide

/-- Those semaphores at zero. -/
def copySems (c : Dev nD) : sProp 𝕄 :=
  iprop(semVal ((c : Thread nD τ), SemLoc.dma 29) 0 ∗ semVal ((c : Thread nD τ), SemLoc.dma 30) 0
    ∗ semVal ((c : Thread nD τ), SemLoc.dma 31) 0 ∗ semVal ((c : Thread nD τ), SemLoc.dma 32) 0
    ∗ semVal ((c : Thread nD τ), SemLoc.dma 33) 0 ∗ semVal ((c : Thread nD τ), SemLoc.dma 34) 0
    ∗ semVal ((c : Thread nD τ), SemLoc.dma 35) 0 ∗ semVal ((c : Thread nD τ), SemLoc.dma 36) 0
    ∗ semVal ((c : Thread nD τ), SemLoc.dma 37) 0)
theorem ownSems_eq (c : Dev nD) :
    (Pipeline.ownSems0 (Ix := Unit) (Name := ℕ) (U := Pipeline.UD sig nD τ) (Lvl := ℕ) (Val := Elt F) (τ := τ) copySem c : sProp 𝕄)
      = copySems c := by
  rw [Pipeline.ownSems0_eq_of_list c copySem [0, 1, 2, 3, 4, 5, 6, 7, 8] (by decide) (by decide)]; rfl

/-- The weight arrays as references: neither scoped nor any window's array. -/
def weightRefs : Finset (Ref sig .tc) := {main_arg4, main_arg5, main_arg6}
theorem weightRefs_sub : weightRefs ⊆ Pipeline.restRefs sig spec0 := by decide

/-- The weight arrays held whole at given contents. -/
def weights (c : Dev nD) (f4 : Held (F := F) c woutArr) (f5 : Held (F := F) c wupArr) (f6 : Held (F := F) c wdownArr) : sProp 𝕄 :=
  iprop(heldAt c woutArr f4 ∗ heldAt c wupArr f5 ∗ heldAt c wdownArr f6)
theorem weights_eq (c : Dev nD) :
    (bigSep weightRefs (fun b => ((c : Thread nD τ).loc b) ↦{fullShare} V m c b) : sProp 𝕄)
      = weights c (V m c main_arg4) (V m c main_arg5) (V m c main_arg6) := by
  rw [BI.bigSep_eq_bigSepL_of_eq [main_arg4, main_arg5, main_arg6] (by decide) (by decide)]; rfl

/-- What the launch hands the body's region beside the windows, piece by piece: the four scoped buffers at anything,
    the generator register, the copies' semaphores at zero and the weight arrays as launched. -/
theorem region_eq (c : Dev nD) :
    (Pipeline.ΦD copySem spec0 weightRefs (V m) c : sProp 𝕄)
      = iprop(iprop((∃ d, owns (c : Thread nD τ) woutBuf fullShare d) ∗ (∃ d, owns (c : Thread nD τ) wupBuf fullShare d)
          ∗ (∃ d, owns (c : Thread nD τ) wdownBuf fullShare d) ∗ (∃ d, owns (c : Thread nD τ) rzBuf fullShare d))
        ∗ (∃ r, prngReg c r) ∗ copySems c ∗ weights c (V m c main_arg4) (V m c main_arg5) (V m c main_arg6)) := by
  rw [Pipeline.ΦD_eq, scopedRest0_eq, ownSems_eq, weights_eq]
  simp only [woutBuf, wupBuf, wdownBuf, rzBuf, owns_whole]; rfl

/-! ## The branch of the first point -/

/-- The condition under which the body fills its weight buffers. -/
abbrev atFirst (i : grid0.Coords) : Prop :=
  (Scalar.cmpi .ne (Scalar.extui (Scalar.cmpi .eq (BitVec.ofNat 32 (i 0).val) 0#32)) 0#32) = 1#1
/-- It holds at the first point alone. -/
theorem atFirst_iff (t : Fin cfg0.N) : atFirst (grid0.coords t) ↔ t.val = 0 := by
  have ht : t.val < 32 := Nat.lt_of_lt_of_eq t.isLt N_0
  have e0 : (grid0.coords t 0).val = t.val / 1 % 32 := Pipeline.Grid.coords_val t 0 (by decide) rfl
  have h : atFirst (grid0.coords t) ↔ t.val % 32 = 0 := by
    simp only [atFirst, e0]
    word_cmp
  rw [h]; omega

end Cert.KernelIdeal.Half

end
-- ==== Proof.Fill.lean ====
/-
  What the four copies of a weight array's shards leave in the buffer they fill: the array.
-/
module

public import proofs.«01_k».proof.Proof.Base

@[expose] public section

set_option maxRecDepth 16384

noncomputable section

namespace Cert.KernelIdeal.Half

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- Shard `j` of a memref of four, as the kernel slices it. -/
abbrev shardRect (j : ℕ) (h : ∀ a, (![j, 0, 0] : Fin 3 → ℕ) a + S1x1024x1024.size a ≤ S4x1024x1024.size a) : Rect S4x1024x1024 :=
  Rect.unit (s := S4x1024x1024) ![j, 0, 0] S1x1024x1024.size h
abbrev shard {sp : Space} (M : Memref sig .tc sp S4x1024x1024 .bf16) (j : ℕ)
    (h : ∀ a, (![j, 0, 0] : Fin 3 → ℕ) a + S1x1024x1024.size a ≤ S4x1024x1024.size a) : Memref sig .tc sp S1024x1024 .bf16 :=
  (M.slice (shardRect j h) (fun _ => rfl)).squeeze S1024x1024 squeezes_S1x1024x1024_S1024x1024

/-- A shard as a piece of a list of writes, its payload the same shard of the array. -/
def shardPiece {sp : Space} (A : Memref sig .tc sp S4x1024x1024 .bf16) (g : A.view.ty.Contents (Elt F)) (j : ℕ)
    (h : ∀ a, (![j, 0, 0] : Fin 3 → ℕ) a + S1x1024x1024.size a ≤ S4x1024x1024.size a) : View.Piece (Elt F) S4x1024x1024 .bf16 :=
  ⟨shardRect j h, fun x => A.view.read (Elt F) g ((shardRect j h).emb x)⟩

theorem write_shard {sp sp' : Space} (M : Memref sig .tc sp S4x1024x1024 .bf16) (A : Memref sig .tc sp' S4x1024x1024 .bf16)
    (g : A.view.ty.Contents (Elt F)) (j : ℕ) (h) (f₀ f : M.view.ty.Contents (Elt F)) (L : List (View.Piece (Elt F) S4x1024x1024 .bf16))
    (hf : f = M.view.writes (Elt F) f₀ L) :
    (shard M j h).view.write (Elt F) f ((shard A j h).view.read (Elt F) g) Finset.univ
      = M.view.writes (Elt F) f₀ (shardPiece A g j h :: L) := by
  subst hf
  refine (View.write_reshape_univ (M.view.slice (shardRect j h)) squeezes_S1x1024x1024_S1024x1024.numel_eq _ _).trans ?_
  refine congrArg (fun w => (M.view.slice (shardRect j h)).write (Elt F) (M.view.writes (Elt F) f₀ L) w Finset.univ) (funext fun x => ?_)
  show A.view.read (Elt F) g ((shardRect j h).emb (Shape.reshapeEquiv _ ((Shape.reshapeEquiv _).symm x))) = _
  rw [Equiv.apply_symm_apply]
  rfl

theorem fill_shards {sp sp' : Space} (M : Memref sig .tc sp S4x1024x1024 .bf16) (hM : M.IsWhole) (A : Memref sig .tc sp' S4x1024x1024 .bf16)
    (g : A.view.ty.Contents (Elt F)) (f : M.view.ty.Contents (Elt F)) (h0 h1 h2 h3) :
    (shard M 3 h3).view.write (Elt F) ((shard M 2 h2).view.write (Elt F) ((shard M 1 h1).view.write (Elt F)
        ((shard M 0 h0).view.write (Elt F) f ((shard A 0 h0).view.read (Elt F) g) Finset.univ)
        ((shard A 1 h1).view.read (Elt F) g) Finset.univ) ((shard A 2 h2).view.read (Elt F) g) Finset.univ)
        ((shard A 3 h3).view.read (Elt F) g) Finset.univ
      = hM.unread (A.view.read (Elt F) g) := by
  refine (write_shard M A g 3 h3 f _ _ (write_shard M A g 2 h2 f _ _ (write_shard M A g 1 h1 f _ _ (write_shard M A g 0 h0 f _ [] rfl)))).trans ?_
  refine hM.eq_unread (funext fun y => ?_)
  show M.view.read (Elt F) (M.view.writes (Elt F) f [shardPiece A g 3 h3, shardPiece A g 2 h2, shardPiece A g 1 h1, shardPiece A g 0 h0]) y = _
  refine View.read_writes_apply_of_pieces M.view f (A.view.read (Elt F) g) _ ?_ y ?_
  · intro p hp x
    simp only [List.mem_cons, List.not_mem_nil, or_false] at hp
    rcases hp with rfl | rfl | rfl | rfl <;> rfl
  · have key : ∀ j h, (y 0).val = j → y ∈ (shardRect j h).set := fun j h hj => by
      refine (shardRect j h).mem_set.mpr fun a => ?_
      match a with
      | ⟨0, _⟩ => exact ⟨0, Nat.zero_lt_one, by show (y 0).val = j + 1 * 0; omega⟩
      | ⟨1, _⟩ => exact ⟨(y 1).val, (y 1).isLt, by show (y 1).val = 0 + 1 * (y 1).val; omega⟩
      | ⟨2, _⟩ => exact ⟨(y 2).val, (y 2).isLt, by show (y 2).val = 0 + 1 * (y 2).val; omega⟩
    have hy : (y 0).val < 4 := (y 0).isLt
    have : (y 0).val = 0 ∨ (y 0).val = 1 ∨ (y 0).val = 2 ∨ (y 0).val = 3 := by omega
    rcases this with e | e | e | e
    · exact ⟨shardPiece A g 0 h0, by simp, key 0 h0 e⟩
    · exact ⟨shardPiece A g 1 h1, by simp, key 1 h1 e⟩
    · exact ⟨shardPiece A g 2 h2, by simp, key 2 h2 e⟩
    · exact ⟨shardPiece A g 3 h3, by simp, key 3 h3 e⟩

/-- A copy of a whole array into a whole buffer leaves the array. -/
theorem fill_whole {sp sp' : Space} {S : Shape} {e : EltTy} (M : Memref sig .tc sp S e) (hM : M.IsWhole) (w : S.Idx → Elt F e) (f : M.view.ty.Contents (Elt F)) :
    M.view.write (Elt F) f w Finset.univ = hM.unread w := by
  refine hM.eq_unread (funext fun y => ?_)
  exact View.read_write_of_mem _ _ (Finset.mem_univ y)

end Cert.KernelIdeal.Half

end
-- ==== Proof.Head.lean ====
/-
  The head of the body: at the first point the weight buffers are filled and the two accumulators set to zero, at a
  later point they stand as the point before left them; then the joined mixer outputs, the residual row, its norm and
  the first product of the up-projection are computed.
-/
module

public import proofs.«01_k».proof.Proof.Fill
public import Idealize.ShloMosaic.Lib.WholeRead

@[expose] public section

set_option maxRecDepth 16384

noncomputable section

namespace Cert.KernelIdeal.Half

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S256x512 .bf16) (harg3 : arg3.IsWhole) (arg4 : Memref sig .tc .vmem S256x512 .f32) (harg4 : arg4.IsWhole)
  (arg5 : Memref sig .tc .vmem S1x1024 .f32) (harg5 : arg5.IsWhole)
  (arg9 : Memref sig .tc .vmem S256x1024 .bf16) (harg9 : arg9.IsWhole) (arg10 : Memref sig .tc .vmem S256x1024 .bf16) (harg10 : arg10.IsWhole)
  (arg11 : Memref sig .tc .vmem S256x4096 .bf16) (harg11 : arg11.IsWhole) (arg12 : Memref sig .tc .vmem S256x4096 .bf16) (harg12 : arg12.IsWhole)
  (arg13 : Memref sig .tc .vmem S256x1024 .bf16) (harg13 : arg13.IsWhole) (arg14 : Memref sig .tc .vmem S256x1024 .f32) (harg14 : arg14.IsWhole)
  (arg15 : Memref sig .tc .vmem S256x512 .f32) (harg15 : arg15.IsWhole) (arg16 : Memref sig .tc .vmem S256x512 .f32) (harg16 : arg16.IsWhole)
  (arg17 : Memref sig .tc .vmem S256x512 .f32) (harg17 : arg17.IsWhole) (arg18 : Memref sig .tc .vmem S1x1024 .f32) (harg18 : arg18.IsWhole)
  (arg19 : Memref sig .tc .vmem S1x128 .f32) (harg19 : arg19.IsWhole)
  (arg20 : Memref sig .tc .vmem S1024x1024 .bf16) (harg20 : arg20.IsWhole)
  (arg21 : Memref sig .tc .vmem S4x1024x1024 .bf16) (harg21 : arg21.IsWhole) (arg22 : Memref sig .tc .vmem S4x1024x1024 .bf16) (harg22 : arg22.IsWhole)
  (arg23 : Memref sig .tc .vmem S256x4096 .f32) (harg23 : arg23.IsWhole)

/-- The head's program. -/
abbrev headProg : Prog (TpuEff nD τ sig (Elt F) Λ₀ .tc) (Σ' (_ : Vec F S256x512 .f32) (_ : FVec F S256x1024 .f32) (_ : FVec F S256x1 .f32) (_ : FVec F S256x1024 .f32) (_ : FVec F S256x1024 .bf16) (_ : FVec F S256x1024 .f32), FVec F S256x1024 .f32) :=
  k0_part5 i arg1 harg1 arg2 harg2 arg3 harg3 arg4 harg4 arg5 harg5 woutArr (Memref.isWhole_whole _) wupArr (Memref.isWhole_whole _) wdownArr (Memref.isWhole_whole _) arg9 harg9 arg10 harg10 arg11 harg11 arg12 harg12 arg13 harg13 arg14 harg14 arg15 harg15 arg16 harg16 arg17 harg17 arg18 harg18 arg19 harg19 arg20 harg20 arg21 harg21 arg22 harg22 arg23 harg23 cc0_scratch4

/-- Shard `j` of a vector of four, as the kernel loads it. -/
def shardOf (w : Vec F S4x1024x1024 .bf16) (j : Fin 4) : Vec F S1x1024x1024 .bf16 := fun x =>
  w (fun a => match a with | ⟨0, _⟩ => j | ⟨1, _⟩ => x 1 | ⟨2, _⟩ => x 2)

/-- What the head hands on. -/
abbrev headVal (x0 : Vec F S256x1024 .f32) (x2 : Vec F S256x512 .bf16) (x3 : Vec F S256x512 .f32) (x4 : Vec F S1x1024 .f32)
    (w4 : Vec F S1024x1024 .bf16) (w5 : Vec F S4x1024x1024 .bf16) :
    Σ' (_ : Vec F S256x512 .f32) (_ : FVec F S256x1024 .f32) (_ : FVec F S256x1 .f32) (_ : FVec F S256x1024 .f32) (_ : FVec F S256x1024 .bf16) (_ : FVec F S256x1024 .f32), FVec F S256x1024 .f32 :=
  ⟨x3, k0_pay5 x3 x2 x0 w4, k0_pay6 x3 x2 x0 w4, k0_pay7 x3 x2 x0 w4, k0_pay8 x3 x2 x0 w4 x4, k0_pay9 x3 x2 x0 w4 x4 (shardOf w5 0), k0_pay10⟩

/-- What stands after the head. -/
def headPost (x0 : Vec F S256x1024 .f32) (x2 : Vec F S256x512 .bf16) (x3 : Vec F S256x512 .f32) (x4 : Vec F S1x1024 .f32)
    (w4 : Vec F S1024x1024 .bf16) (w5 w6 : Vec F S4x1024x1024 .bf16) (a14 : Vec F S1x1024 .f32) (a15 : Vec F S1x128 .f32) : sProp 𝕄 :=
  iprop(owns (c : Thread nD τ) arg1 fullShare x0 ∗ owns (c : Thread nD τ) arg3 fullShare x2 ∗ owns (c : Thread nD τ) arg4 fullShare x3
    ∗ owns (c : Thread nD τ) arg5 fullShare x4
    ∗ owns (c : Thread nD τ) arg9 fullShare (k0_pay4 x3 x2) ∗ owns (c : Thread nD τ) arg10 fullShare (k0_pay8 x3 x2 x0 w4 x4)
    ∗ owns (c : Thread nD τ) arg18 fullShare a14 ∗ owns (c : Thread nD τ) arg19 fullShare a15
    ∗ owns (c : Thread nD τ) arg20 fullShare w4 ∗ owns (c : Thread nD τ) arg21 fullShare w5 ∗ owns (c : Thread nD τ) arg22 fullShare w6)

theorem shardOf_idx (w : Vec F S4x1024x1024 .bf16) (j : Fin 4) (h) (x : S1x1024x1024.Idx) :
    w ((Rect.unit (s := S4x1024x1024) ![j.val, 0, 0] S1x1024x1024.size h).toLoadRect.idx x) = shardOf w j x := by
  refine congrArg w (funext fun a => Fin.ext ?_)
  have h0 : (x 0).val < 1 := (x 0).isLt
  match a with
  | ⟨0, _⟩ => show j.val + 1 * (x 0).val = j.val; omega
  | ⟨1, _⟩ => show 0 + 1 * (x 1).val = (x 1).val; omega
  | ⟨2, _⟩ => show 0 + 1 * (x 2).val = (x 2).val; omega

/-- A load of a whole memref held at `X` reads `X`. -/
theorem readAt_full {sp : Space} {S : Shape} {e : EltTy} {M : Memref sig .tc sp S e} (hM : M.IsWhole) (X : Vec F S e) (off : Fin S.rank → ℕ) (h)
    (h0 : ∀ a, off a = 0) :
    M.view.readAt (Elt F) (Rect.unit (s := S) off S.size h).toLoadRect (hM.unread X) = X := by
  funext x
  rw [hM.readAt_unread]
  refine congrArg X (funext fun a => Fin.ext ?_)
  show off a + 1 * (x a).val = (x a).val
  rw [h0]; omega

/-- A store of a whole memref leaves the payload. -/
theorem read_full {sp : Space} {S : Shape} {e : EltTy} (M : Memref sig .tc sp S e) (f : M.view.ty.Contents (Elt F)) (X : Vec F S e) (off : Fin S.rank → ℕ) (h)
    (h0 : ∀ a, off a = 0) (L : List (View.Piece (Elt F) S e)) :
    M.view.read (Elt F) (M.view.writes (Elt F) f (⟨Rect.unit (s := S) off S.size h, X⟩ :: L)) = X := by
  funext y
  refine View.read_writes_cons_hit _ _ _ _ _ _ _ (funext fun a => Fin.ext ?_)
  show off a + 1 * (y a).val = (y a).val
  rw [h0]; omega

/-- A copy of a whole memref leaves the payload. -/
theorem read_whole_piece {sp : Space} {S : Shape} {e : EltTy} (M : Memref sig .tc sp S e) (f : M.view.ty.Contents (Elt F)) (X : Vec F S e)
    (L : List (View.Piece (Elt F) S e)) :
    M.view.read (Elt F) (M.view.writes (Elt F) f (⟨Rect.whole S, X⟩ :: L)) = X := by
  funext y
  refine View.read_writes_cons_hit _ _ _ _ _ _ _ (funext fun a => Fin.ext ?_)
  show 0 + 1 * (y a).val = (y a).val
  omega

theorem headLater (h : ¬ atFirst i)
    (x0 : Vec F S256x1024 .f32) (x2 : Vec F S256x512 .bf16) (x3 : Vec F S256x512 .f32) (x4 : Vec F S1x1024 .f32)
    (w4 : Vec F S1024x1024 .bf16) (w5 w6 : Vec F S4x1024x1024 .bf16) (a14 : Vec F S1x1024 .f32) (a15 : Vec F S1x128 .f32) :
    iprop(owns (c : Thread nD τ) arg1 fullShare x0 ∗ owns (c : Thread nD τ) arg3 fullShare x2 ∗ owns (c : Thread nD τ) arg4 fullShare x3
        ∗ owns (c : Thread nD τ) arg5 fullShare x4
        ∗ (∃ d, owns (c : Thread nD τ) arg9 fullShare d) ∗ (∃ d, owns (c : Thread nD τ) arg10 fullShare d)
        ∗ owns (c : Thread nD τ) arg18 fullShare a14 ∗ owns (c : Thread nD τ) arg19 fullShare a15
        ∗ owns (c : Thread nD τ) arg20 fullShare w4 ∗ owns (c : Thread nD τ) arg21 fullShare w5 ∗ owns (c : Thread nD τ) arg22 fullShare w6)
      ⊢ wp frame (wpE (defs₀ (F := F)) Variants.none c none) Set.univ
          (headProg i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun r => iprop(⌜r = headVal x0 x2 x3 x4 w4 w5⌝ ∗ headPost c arg1 arg3 arg4 arg5 arg9 arg10 arg18 arg19 arg20 arg21 arg22 x0 x2 x3 x4 w4 w5 w6 a14 a15)) := by
  have z0 : ∀ a : Fin 2, (![0, 0] : Fin 2 → ℕ) a = 0 := by decide
  have e0 := readAt_full harg1 x0 ![0, 0] inb_S256x1024_S256x1024_0_0 z0
  have e2 := readAt_full harg3 x2 ![0, 0] inb_S256x512_S256x512_0_0 z0
  have e3 := readAt_full harg4 x3 ![0, 0] inb_S256x512_S256x512_0_0 z0
  have e4 := readAt_full harg5 x4 ![0, 0] inb_S1x1024_S1x1024_0_0 z0
  have ew4 := readAt_full harg20 w4 ![0, 0] inb_S1024x1024_S1024x1024_0_0 z0
  have ew5 : arg21.view.readAt (Elt F) (Rect.unit (s := S4x1024x1024) ![0, 0, 0] S1x1024x1024.size inb_S4x1024x1024_S1x1024x1024_0_0_0).toLoadRect (harg21.unread w5) = shardOf w5 0 :=
    funext fun x => (harg21.readAt_unread _ _ x).trans (shardOf_idx _ 0 _ x)
  unfold headProg headPost
  simp only [k0_part5_eq_skeleton]; unfold k0_part5_skel
  unfold owns
  iintro ⟨⟨%f0, %hf0, H0⟩, ⟨%f2, %hf2, H2⟩, ⟨%f3, %hf3, H3⟩, ⟨%g4, %hf4, H4⟩, ⟨%d5, %f5', -, H5⟩, ⟨%d6, %f6', -, H6⟩, ⟨%f14, %hf14, H14⟩, ⟨%f15, %hf15, H15⟩, ⟨%fs0, %hs0, HS0⟩, ⟨%fs1, %hs1, HS1⟩, ⟨%fs2, %hs2, HS2⟩⟩
  obtain rfl := harg1.eq_unread hf0; obtain rfl := harg3.eq_unread hf2; obtain rfl := harg4.eq_unread hf3; obtain rfl := harg5.eq_unread hf4
  obtain rfl := harg18.eq_unread hf14; obtain rfl := harg19.eq_unread hf15
  obtain rfl := harg20.eq_unread hs0; obtain rfl := harg21.eq_unread hs1; obtain rfl := harg22.eq_unread hs2
  sl_exec (disch := first | sl_exact h)
  simp only [e0, e2, e3, e4, ew4, ew5]
  sl_step
  isplitr; · ipureintro; rfl
  isplitl [H0]
  · iexists _; isplitr; swap; · iexact H0
    ipureintro; exact harg1.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact read_full arg9 _ _ ![0, 0] inb_S256x1024_S256x1024_0_0 z0 _
  isplitl [H6]
  · iexists _; isplitr; swap; · iexact H6
    ipureintro; exact read_full arg10 _ _ ![0, 0] inb_S256x1024_S256x1024_0_0 z0 _
  isplitl [H14]
  · iexists _; isplitr; swap; · iexact H14
    ipureintro; exact harg18.read_unread _
  isplitl [H15]
  · iexists _; isplitr; swap; · iexact H15
    ipureintro; exact harg19.read_unread _
  isplitl [HS0]
  · iexists _; isplitr; swap; · iexact HS0
    ipureintro; exact harg20.read_unread _
  isplitl [HS1]
  · iexists _; isplitr; swap; · iexact HS1
    ipureintro; exact harg21.read_unread _
  iexists _; isplitr; · ipureintro; exact harg22.read_unread _
  iexact HS2

set_option sl_exec.dmaWindow true in
set_option sl_exec.dmaWindowSet true in
theorem headFirst (h : atFirst i)
    (x0 : Vec F S256x1024 .f32) (x2 : Vec F S256x512 .bf16) (x3 : Vec F S256x512 .f32) (x4 : Vec F S1x1024 .f32)
    (f4 : Held (F := F) c woutArr) (f5 : Held (F := F) c wupArr) (f6 : Held (F := F) c wdownArr) (W : Waits sig Unit) :
    iprop(owns (c : Thread nD τ) arg1 fullShare x0 ∗ owns (c : Thread nD τ) arg3 fullShare x2 ∗ owns (c : Thread nD τ) arg4 fullShare x3
        ∗ owns (c : Thread nD τ) arg5 fullShare x4
        ∗ (∃ d, owns (c : Thread nD τ) arg9 fullShare d) ∗ (∃ d, owns (c : Thread nD τ) arg10 fullShare d)
        ∗ (∃ d, owns (c : Thread nD τ) arg18 fullShare d) ∗ (∃ d, owns (c : Thread nD τ) arg19 fullShare d)
        ∗ (∃ d, owns (c : Thread nD τ) arg20 fullShare d) ∗ (∃ d, owns (c : Thread nD τ) arg21 fullShare d) ∗ (∃ d, owns (c : Thread nD τ) arg22 fullShare d)
        ∗ copySems c ∗ weights c f4 f5 f6 ∗ owes (c : Thread nD τ) 0 W)
      ⊢ wp frame (wpE (defs₀ (F := F)) Variants.none c none) Set.univ
          (headProg i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun r => iprop(⌜r = headVal x0 x2 x3 x4 (woutArr.view.read (Elt F) f4) (wupArr.view.read (Elt F) f5)⌝
            ∗ headPost c arg1 arg3 arg4 arg5 arg9 arg10 arg18 arg19 arg20 arg21 arg22 x0 x2 x3 x4
                (woutArr.view.read (Elt F) f4) (wupArr.view.read (Elt F) f5) (wdownArr.view.read (Elt F) f6) k0_pay2 k0_pay3
            ∗ copySems c ∗ weights c f4 f5 f6 ∗ (∃ W', owes (c : Thread nD τ) 0 W'))) := by
  have z0 : ∀ a : Fin 2, (![0, 0] : Fin 2 → ℕ) a = 0 := by decide
  have e0 := readAt_full harg1 x0 ![0, 0] inb_S256x1024_S256x1024_0_0 z0
  have e2 := readAt_full harg3 x2 ![0, 0] inb_S256x512_S256x512_0_0 z0
  have e3 := readAt_full harg4 x3 ![0, 0] inb_S256x512_S256x512_0_0 z0
  have e4 := readAt_full harg5 x4 ![0, 0] inb_S1x1024_S1x1024_0_0 z0
  unfold headProg headPost
  simp only [k0_part5_eq_skeleton]; unfold k0_part5_skel
  unfold owns copySems weights
  iintro ⟨⟨%f0, %hf0, H0⟩, ⟨%f2, %hf2, H2⟩, ⟨%f3, %hf3, H3⟩, ⟨%g4, %hf4, H4⟩, ⟨%d5, %f5', -, H5⟩, ⟨%d6, %f6', -, H6⟩, ⟨%d14, %f14, -, H14⟩, ⟨%d15, %f15, -, H15⟩, ⟨%ds0, %fs0, -, HS0⟩, ⟨%ds1, %fs1, -, HS1⟩, ⟨%ds2, %fs2, -, HS2⟩, ⟨Hq0, Hq1, Hq2, Hq3, Hq4, Hq5, Hq6, Hq7, Hq8⟩, ⟨Hh0, Hh1, Hh2⟩, HW⟩
  obtain rfl := harg1.eq_unread hf0; obtain rfl := harg3.eq_unread hf2; obtain rfl := harg4.eq_unread hf3; obtain rfl := harg5.eq_unread hf4
  sl_exec (disch := first | sl_exact h)
  have c1 := fill_shards arg21 harg21 wupArr f5 fs1 inb_S4x1024x1024_S1x1024x1024_0_0_0 inb_S4x1024x1024_S1x1024x1024_1_0_0 inb_S4x1024x1024_S1x1024x1024_2_0_0 inb_S4x1024x1024_S1x1024x1024_3_0_0
  have c2 := fill_shards arg22 harg22 wdownArr f6 fs2 inb_S4x1024x1024_S1x1024x1024_0_0_0 inb_S4x1024x1024_S1x1024x1024_1_0_0 inb_S4x1024x1024_S1x1024x1024_2_0_0 inb_S4x1024x1024_S1x1024x1024_3_0_0
  have v9e : headFirst.sl.v9 c arg20 f4 = woutArr.view.read (Elt F) f4 := by
    unfold headFirst.sl.v9
    funext x
    refine (congrFun (read_whole_piece arg20 _ (headFirst.sl.dma0 c f4) []) _).trans ?_
    refine congrArg (woutArr.view.read (Elt F) f4) (funext fun a => Fin.ext ?_)
    show (![0, 0] : Fin 2 → ℕ) a + 1 * (x a).val = (x a).val
    rw [z0]; omega
  have v27e : headFirst.sl.v27 c arg21 f5 fs1 = shardOf (wupArr.view.read (Elt F) f5) 0 :=
    (congrArg (arg21.view.readAt (Elt F) (Rect.unit (s := S4x1024x1024) ![0, 0, 0] S1x1024x1024.size inb_S4x1024x1024_S1x1024x1024_0_0_0).toLoadRect) c1).trans
      (funext fun x => (harg21.readAt_unread _ _ x).trans (shardOf_idx _ 0 _ x))
  simp only [e0, e2, e3, e4, v9e, v27e]
  sl_step
  isplitr; · ipureintro; rfl
  isplitl [H0 H2 H3 H4 H5 H6 H14 H15 HS0 HS1 HS2]
  · isplitl [H0]
    · iexists _; isplitr; swap; · iexact H0
      ipureintro; exact harg1.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; exact harg5.read_unread _
    isplitl [H5]
    · iexists _; isplitr; swap; · iexact H5
      ipureintro; exact read_full arg9 _ _ ![0, 0] inb_S256x1024_S256x1024_0_0 z0 _
    isplitl [H6]
    · iexists _; isplitr; swap; · iexact H6
      ipureintro; exact read_full arg10 _ _ ![0, 0] inb_S256x1024_S256x1024_0_0 z0 _
    isplitl [H14]
    · iexists _; isplitr; swap; · iexact H14
      ipureintro; exact read_full arg18 _ _ ![0, 0] inb_S1x1024_S1x1024_0_0 z0 _
    isplitl [H15]
    · iexists _; isplitr; swap; · iexact H15
      ipureintro; exact read_full arg19 _ _ ![0, 0] inb_S1x128_S1x128_0_0 z0 _
    isplitl [HS0]
    · iexists _; isplitr; swap; · iexact HS0
      ipureintro; exact read_whole_piece arg20 _ _ _
    isplitl [HS1]
    · iexists _; isplitr; swap; · iexact HS1
      ipureintro; exact (congrArg _ c1).trans (harg21.read_unread _)
    iexists _; isplitr; swap; · iexact HS2
    ipureintro; exact (congrArg _ c2).trans (harg22.read_unread _)
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  isplitl [Hh0 Hh1 Hh2]
  · isplitl [Hh0]; · iexact Hh0
    isplitl [Hh1]; · iexact Hh1
    iexact Hh2
  iexists _; iexact HW

end Cert.KernelIdeal.Half

end
-- ==== Proof.Stages.lean ====
/-
  The values of one grid point: the residual row and its norm, the four quarters of the rectified products, the error,
  and the gradients that go back through the two projections, the norm and the output projection.
-/
module

public import proofs.«01_k».proof.Proof.Head

@[expose] public section

set_option maxRecDepth 16384

noncomputable section

namespace Cert.KernelIdeal.Half

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (x0 x1 : Vec F S256x1024 .f32) (x2 : Vec F S256x512 .bf16) (x3 : Vec F S256x512 .f32) (x4 : Vec F S1x1024 .f32)
  (w4 : Vec F S1024x1024 .bf16) (w5 w6 : Vec F S4x1024x1024 .bf16)

/-- The residual row, its inverse root mean square, the normed row and the scaled normed row. -/
def hB : FVec F S256x1024 .f32 := k0_pay5 x3 x2 x0 w4
def rB : FVec F S256x1 .f32 := k0_pay6 x3 x2 x0 w4
def hnB : FVec F S256x1024 .f32 := k0_pay7 x3 x2 x0 w4
def cB : FVec F S256x1024 .bf16 := k0_pay8 x3 x2 x0 w4 x4
/-- The quarters of the up-projection, rectified and squared. -/
def z0B : FVec F S256x1024 .f32 := k0_pay9 x3 x2 x0 w4 x4 (shardOf w5 0)
def rz0B : FVec F S256x1024 .f32 := k0_pay12 (z0B x0 x2 x3 x4 w4 w5) k0_pay10
def ff0B : FVec F S256x1024 .bf16 := k0_pay13 (z0B x0 x2 x3 x4 w4 w5) k0_pay10
def rz1B : FVec F S256x1024 .f32 := k0_pay15 (cB x0 x2 x3 x4 w4) (shardOf w5 1)
def ff1B : FVec F S256x1024 .bf16 := k0_pay16 (cB x0 x2 x3 x4 w4) (shardOf w5 1)
def y01B : FVec F S256x1024 .f32 := k0_pay17 (hB x0 x2 x3 w4) (cB x0 x2 x3 x4 w4) (z0B x0 x2 x3 x4 w4 w5) k0_pay10 (shardOf w6 0) (shardOf w5 1) (shardOf w6 1)
def z2B : FVec F S256x1024 .f32 := k0_pay18 (cB x0 x2 x3 x4 w4) (shardOf w5 2)
def rz2B : FVec F S256x1024 .f32 := k0_pay21 (z2B x0 x2 x3 x4 w4 w5) k0_pay19
def ff2B : FVec F S256x1024 .bf16 := k0_pay22 (z2B x0 x2 x3 x4 w4 w5) k0_pay19
def rz3B : FVec F S256x1024 .f32 := k0_pay24 (cB x0 x2 x3 x4 w4) (shardOf w5 3)
def ff3B : FVec F S256x1024 .bf16 := k0_pay25 (cB x0 x2 x3 x4 w4) (shardOf w5 3)
/-- The error, its square, the loss carried on, and the output's gradient. -/
def errB : FVec F S256x1024 .f32 := k0_pay26 (cB x0 x2 x3 x4 w4) (y01B x0 x2 x3 x4 w4 w5 w6) (z2B x0 x2 x3 x4 w4 w5) k0_pay19 (shardOf w6 2) (shardOf w5 3) (shardOf w6 3) x1
def sqB : FVec F S256x1024 .f32 := k0_pay28 (cB x0 x2 x3 x4 w4) (y01B x0 x2 x3 x4 w4 w5 w6) (z2B x0 x2 x3 x4 w4 w5) k0_pay19 (shardOf w6 2) (shardOf w5 3) (shardOf w6 3) x1
def lossB (a15 : Vec F S1x128 .f32) : FVec F S1x128 .f32 := k0_pay29 (k0_pay27 a15) (sqB x0 x1 x2 x3 x4 w4 w5 w6)
def dyB : FVec F S256x1024 .f32 := k0_pay30 (errB x0 x1 x2 x3 x4 w4 w5 w6)
def dybB : FVec F S256x1024 .bf16 := k0_pay31 (errB x0 x1 x2 x3 x4 w4 w5 w6)
/-- The quarters of the up-projection's gradient, and the normed row's gradient gathered from them. -/
def dz0B : FVec F S256x1024 .bf16 := k0_pay32 (errB x0 x1 x2 x3 x4 w4 w5 w6) (shardOf w6 0) (rz0B x0 x2 x3 x4 w4 w5)
def dc0B : FVec F S256x1024 .f32 := k0_pay33 (errB x0 x1 x2 x3 x4 w4 w5 w6) (shardOf w6 0) (rz0B x0 x2 x3 x4 w4 w5) (shardOf w5 0)
def t1B : FVec F S256x1024 .f32 := k0_pay34 (errB x0 x1 x2 x3 x4 w4 w5 w6) (shardOf w6 1)
def dz1B : FVec F S256x1024 .bf16 := k0_pay35 (t1B x0 x1 x2 x3 x4 w4 w5 w6) (rz1B x0 x2 x3 x4 w4 w5)
def dz2B : FVec F S256x1024 .bf16 := k0_pay36 (dybB x0 x1 x2 x3 x4 w4 w5 w6) (shardOf w6 2) (rz2B x0 x2 x3 x4 w4 w5)
def dc012B : FVec F S256x1024 .f32 := k0_pay37 (dybB x0 x1 x2 x3 x4 w4 w5 w6) (dc0B x0 x1 x2 x3 x4 w4 w5 w6) (t1B x0 x1 x2 x3 x4 w4 w5 w6) (rz1B x0 x2 x3 x4 w4 w5) (shardOf w5 1) (shardOf w6 2) (rz2B x0 x2 x3 x4 w4 w5) (shardOf w5 2)
def dz3B : FVec F S256x1024 .bf16 := k0_pay38 (dybB x0 x1 x2 x3 x4 w4 w5 w6) (shardOf w6 3) (rz3B x0 x2 x3 x4 w4 w5)
/-- The gain's gradient carried on, the residual row's gradient, and those of the two mixers' outputs. -/
def dgB (a14 : Vec F S1x1024 .f32) : FVec F S1x1024 .f32 := k0_pay40 (hnB x0 x2 x3 w4) (dc012B x0 x1 x2 x3 x4 w4 w5 w6) (dz3B x0 x1 x2 x3 x4 w4 w5 w6) (shardOf w5 3) a14
def dhB : FVec F S256x1024 .f32 := k0_pay41 (rB x0 x2 x3 w4) (hnB x0 x2 x3 w4) (dyB x0 x1 x2 x3 x4 w4 w5 w6) (dc012B x0 x1 x2 x3 x4 w4 w5 w6) (dz3B x0 x1 x2 x3 x4 w4 w5 w6) (shardOf w5 3) x4
def dypB : FVec F S256x512 .f32 := k0_pay43 (rB x0 x2 x3 w4) (hnB x0 x2 x3 w4) (dyB x0 x1 x2 x3 x4 w4 w5 w6) (dc012B x0 x1 x2 x3 x4 w4 w5 w6) (dz3B x0 x1 x2 x3 x4 w4 w5 w6) (shardOf w5 3) x4 w4
def doB : FVec F S256x512 .f32 := k0_pay44 (rB x0 x2 x3 w4) (hnB x0 x2 x3 w4) (dyB x0 x1 x2 x3 x4 w4 w5 w6) (dc012B x0 x1 x2 x3 x4 w4 w5 w6) (dz3B x0 x1 x2 x3 x4 w4 w5 w6) (shardOf w5 3) x4 w4
/-- The head sums of an attention gradient against the attention's output. -/
def headSums (x3 : Vec F S256x512 .f32) (d : FVec F S256x512 .f32) : FVec F S256x512 .f32 :=
  k0_pay1 (k0_pay45 x3 d) k0_pay46 (k0_pay47 x3 d) (k0_pay48 x3 d) (k0_pay49 x3 d) k0_pay50 k0_pay51
def dltB : FVec F S256x512 .f32 := headSums x3 (doB x0 x1 x2 x3 x4 w4 w5 w6)

/-! ## Four quarters side by side -/

/-- The `j`-th of four. -/
def nth4 {α : Type} (q0 q1 q2 q3 : α) : ℕ → α | 0 => q0 | 1 => q1 | 2 => q2 | _ => q3

/-- Four blocks of 1024 columns as one of 4096. -/
def quarters {e : EltTy} (q0 q1 q2 q3 : Vec F S256x1024 e) : Vec F S256x4096 e := fun ix =>
  nth4 q0 q1 q2 q3 ((ix 1).val / 1024)
    (fun a => match a with | ⟨0, _⟩ => ix 0 | ⟨1, _⟩ => ⟨(ix 1).val % 1024, Nat.mod_lt _ (by decide)⟩)

def ffB : Vec F S256x4096 .bf16 := quarters (ff0B x0 x2 x3 x4 w4 w5) (ff1B x0 x2 x3 x4 w4 w5) (ff2B x0 x2 x3 x4 w4 w5) (ff3B x0 x2 x3 x4 w4 w5)
def dzB : Vec F S256x4096 .bf16 :=
  quarters (dz0B x0 x1 x2 x3 x4 w4 w5 w6) (dz1B x0 x1 x2 x3 x4 w4 w5 w6) (dz2B x0 x1 x2 x3 x4 w4 w5 w6) (dz3B x0 x1 x2 x3 x4 w4 w5 w6)

abbrev quarterRect (k : ℕ) (h : ∀ a, (![0, k] : Fin 2 → ℕ) a + S256x1024.size a ≤ S256x4096.size a) : Rect S256x4096 :=
  Rect.unit (s := S256x4096) ![0, k] S256x1024.size h

theorem quarters_at {e : EltTy} (q0 q1 q2 q3 : Vec F S256x1024 e) (j : ℕ) (hj : j < 4) (k : ℕ) (hk : k = 1024 * j) (h) (x : S256x1024.Idx) :
    quarters q0 q1 q2 q3 ((quarterRect k h).emb x) = nth4 q0 q1 q2 q3 j x := by
  have hx : (x 1).val < 1024 := (x 1).isLt
  have h1 : (((quarterRect k h).emb x) 1).val = 1024 * j + (x 1).val := by
    show k + 1 * (x 1).val = _; omega
  have h0 : (((quarterRect k h).emb x) 0).val = (x 0).val := by
    show 0 + 1 * (x 0).val = _; omega
  unfold quarters
  rw [show (((quarterRect k h).emb x) 1).val / 1024 = j by omega]
  refine congrArg _ (funext fun a => Fin.ext ?_)
  match a with
  | ⟨0, _⟩ => exact h0
  | ⟨1, _⟩ => show (((quarterRect k h).emb x) 1).val % 1024 = (x 1).val; omega

/-- Stores of the four quarters, in order, leave them side by side. -/
theorem read_quarters {sp : Space} {e : EltTy} (M : Memref sig .tc sp S256x4096 e) (f : M.view.ty.Contents (Elt F)) (q0 q1 q2 q3 : Vec F S256x1024 e) (h0 h1 h2 h3) :
    M.view.read (Elt F) (M.view.writes (Elt F) f
        [⟨quarterRect 3072 h3, q3⟩, ⟨quarterRect 2048 h2, q2⟩, ⟨quarterRect 1024 h1, q1⟩, ⟨quarterRect 0 h0, q0⟩])
      = quarters q0 q1 q2 q3 := by
  funext y
  refine View.read_writes_apply_of_pieces M.view f (quarters q0 q1 q2 q3) _ ?_ y ?_
  · intro p hp x
    simp only [List.mem_cons, List.not_mem_nil, or_false] at hp
    rcases hp with rfl | rfl | rfl | rfl
    · exact (quarters_at q0 q1 q2 q3 3 (by decide) _ rfl h3 x).symm
    · exact (quarters_at q0 q1 q2 q3 2 (by decide) _ rfl h2 x).symm
    · exact (quarters_at q0 q1 q2 q3 1 (by decide) _ rfl h1 x).symm
    · exact (quarters_at q0 q1 q2 q3 0 (by decide) _ rfl h0 x).symm
  · have hy : (y 1).val < 4096 := (y 1).isLt
    have hy0 : (y 0).val < 256 := (y 0).isLt
    have key : ∀ k h, k ≤ (y 1).val → (y 1).val < k + 1024 → y ∈ (quarterRect k h).set := fun k h ha hb => by
      refine Rect.mem_set_unit.mpr fun a => ?_
      match a with
      | ⟨0, _⟩ => exact ⟨Nat.zero_le _, (Nat.zero_add 256).symm ▸ hy0⟩
      | ⟨1, _⟩ => exact ⟨ha, hb⟩
    have : (y 1).val < 1024 ∨ (1024 ≤ (y 1).val ∧ (y 1).val < 2048) ∨ (2048 ≤ (y 1).val ∧ (y 1).val < 3072) ∨ 3072 ≤ (y 1).val := by omega
    rcases this with e | e | e | e
    · exact ⟨⟨quarterRect 0 h0, q0⟩, .tail _ (.tail _ (.tail _ (.head _))), key 0 h0 (by omega) (by omega)⟩
    · exact ⟨⟨quarterRect 1024 h1, q1⟩, .tail _ (.tail _ (.head _)), key 1024 h1 (by omega) (by omega)⟩
    · exact ⟨⟨quarterRect 2048 h2, q2⟩, .tail _ (.head _), key 2048 h2 (by omega) (by omega)⟩
    · exact ⟨⟨quarterRect 3072 h3, q3⟩, .head _, key 3072 h3 (by omega) (by omega)⟩

/-- A load of one quarter after the stores of all four reads that quarter. -/
theorem load_quarter {sp : Space} {e : EltTy} (M : Memref sig .tc sp S256x4096 e) (q0 q1 q2 q3 : Vec F S256x1024 e) (h0 h1 h2 h3)
    (j : ℕ) (hj : j < 4) (k : ℕ) (hk : k = 1024 * j) (h) :
    M.view.readCov [⟨quarterRect 3072 h3, q3⟩, ⟨quarterRect 2048 h2, q2⟩, ⟨quarterRect 1024 h1, q1⟩, ⟨quarterRect 0 h0, q0⟩] (quarterRect k h).toLoadRect
      = nth4 q0 q1 q2 q3 j := by
  funext x
  unfold View.readCov
  rw [View.readAt_apply]
  exact (congrFun (read_quarters M _ q0 q1 q2 q3 h0 h1 h2 h3) _).trans (quarters_at q0 q1 q2 q3 j hj k hk h x)

end Cert.KernelIdeal.Half

end
-- ==== Proof.Tail.lean ====
/-
  The body of one grid point, run through: from what stands after its head to the values it leaves in every buffer.
-/
module

public import proofs.«01_k».proof.Proof.Stages

@[expose] public section

set_option maxRecDepth 16384

noncomputable section

namespace Cert.KernelIdeal.Half

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S256x512 .bf16) (harg3 : arg3.IsWhole) (arg4 : Memref sig .tc .vmem S256x512 .f32) (harg4 : arg4.IsWhole)
  (arg5 : Memref sig .tc .vmem S1x1024 .f32) (harg5 : arg5.IsWhole)
  (arg9 : Memref sig .tc .vmem S256x1024 .bf16) (harg9 : arg9.IsWhole) (arg10 : Memref sig .tc .vmem S256x1024 .bf16) (harg10 : arg10.IsWhole)
  (arg11 : Memref sig .tc .vmem S256x4096 .bf16) (harg11 : arg11.IsWhole) (arg12 : Memref sig .tc .vmem S256x4096 .bf16) (harg12 : arg12.IsWhole)
  (arg13 : Memref sig .tc .vmem S256x1024 .bf16) (harg13 : arg13.IsWhole) (arg14 : Memref sig .tc .vmem S256x1024 .f32) (harg14 : arg14.IsWhole)
  (arg15 : Memref sig .tc .vmem S256x512 .f32) (harg15 : arg15.IsWhole) (arg16 : Memref sig .tc .vmem S256x512 .f32) (harg16 : arg16.IsWhole)
  (arg17 : Memref sig .tc .vmem S256x512 .f32) (harg17 : arg17.IsWhole) (arg18 : Memref sig .tc .vmem S1x1024 .f32) (harg18 : arg18.IsWhole)
  (arg19 : Memref sig .tc .vmem S1x128 .f32) (harg19 : arg19.IsWhole)
  (arg20 : Memref sig .tc .vmem S1024x1024 .bf16) (harg20 : arg20.IsWhole)
  (arg21 : Memref sig .tc .vmem S4x1024x1024 .bf16) (harg21 : arg21.IsWhole) (arg22 : Memref sig .tc .vmem S4x1024x1024 .bf16) (harg22 : arg22.IsWhole)
  (arg23 : Memref sig .tc .vmem S256x4096 .f32) (harg23 : arg23.IsWhole)

/-- What stands after the body. -/
def bodyEnd (x0 x1 : Vec F S256x1024 .f32) (x2 : Vec F S256x512 .bf16) (x3 : Vec F S256x512 .f32) (x4 : Vec F S1x1024 .f32)
    (w4 : Vec F S1024x1024 .bf16) (w5 w6 : Vec F S4x1024x1024 .bf16) (a14 : Vec F S1x1024 .f32) (a15 : Vec F S1x128 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg9 fullShare (k0_pay4 x3 x2) ∗ owns (c : Thread nD τ) arg10 fullShare (cB x0 x2 x3 x4 w4) ∗ owns (c : Thread nD τ) arg11 fullShare (ffB x0 x2 x3 x4 w4 w5) ∗ owns (c : Thread nD τ) arg12 fullShare (dzB x0 x1 x2 x3 x4 w4 w5 w6) ∗ owns (c : Thread nD τ) arg13 fullShare (dybB x0 x1 x2 x3 x4 w4 w5 w6) ∗ owns (c : Thread nD τ) arg14 fullShare (dhB x0 x1 x2 x3 x4 w4 w5 w6) ∗ owns (c : Thread nD τ) arg15 fullShare (dypB x0 x1 x2 x3 x4 w4 w5 w6) ∗ owns (c : Thread nD τ) arg16 fullShare (doB x0 x1 x2 x3 x4 w4 w5 w6) ∗ owns (c : Thread nD τ) arg17 fullShare (dltB x0 x1 x2 x3 x4 w4 w5 w6) ∗ owns (c : Thread nD τ) arg18 fullShare (dgB x0 x1 x2 x3 x4 w4 w5 w6 a14) ∗ owns (c : Thread nD τ) arg19 fullShare (lossB x0 x1 x2 x3 x4 w4 w5 w6 a15) ∗ owns (c : Thread nD τ) arg20 fullShare w4 ∗ owns (c : Thread nD τ) arg21 fullShare w5 ∗ owns (c : Thread nD τ) arg22 fullShare w6 ∗ (∃ d, owns (c : Thread nD τ) arg23 fullShare d))

set_option maxHeartbeats 4000000 in
theorem bodyRun (R T : sProp 𝕄) (x0 x1 : Vec F S256x1024 .f32) (x2 : Vec F S256x512 .bf16) (x3 : Vec F S256x512 .f32) (x4 : Vec F S1x1024 .f32)
    (w4 : Vec F S1024x1024 .bf16) (w5 w6 : Vec F S4x1024x1024 .bf16) (a14 : Vec F S1x1024 .f32) (a15 : Vec F S1x128 .f32)
    (hR : R ⊢ wp frame (wpE (defs₀ (F := F)) Variants.none c none) Set.univ (headProg i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 arg21 harg21 arg22 harg22 arg23 harg23)
      (fun r => iprop(⌜r = headVal x0 x2 x3 x4 w4 w5⌝ ∗ headPost c arg1 arg3 arg4 arg5 arg9 arg10 arg18 arg19 arg20 arg21 arg22 x0 x2 x3 x4 w4 w5 w6 a14 a15 ∗ T)))
    (K : PUnit → sProp 𝕄) :
    iprop(R ∗ owns (c : Thread nD τ) arg2 fullShare x1 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg23 fullShare d)
        ∗ (bodyEnd c arg1 arg2 arg3 arg4 arg5 arg9 arg10 arg11 arg12 arg13 arg14 arg15 arg16 arg17 arg18 arg19 arg20 arg21 arg22 arg23 x0 x1 x2 x3 x4 w4 w5 w6 a14 a15 ∗ T -∗ K ⟨⟩))
      ⊢ wp frame (wpE (defs₀ (F := F)) Variants.none c none) Set.univ (cc0_fwd_mlp_bwd_mlp i arg1 harg1 arg2 harg2 arg3 harg3 arg4 harg4 arg5 harg5 woutArr (Memref.isWhole_whole _) wupArr (Memref.isWhole_whole _) wdownArr (Memref.isWhole_whole _) arg9 harg9 arg10 harg10 arg11 harg11 arg12 harg12 arg13 harg13 arg14 harg14 arg15 harg15 arg16 harg16 arg17 harg17 arg18 harg18 arg19 harg19 arg20 harg20 arg21 harg21 arg22 harg22 arg23 harg23 cc0_scratch4) K := by
  have z0 : ∀ a : Fin 2, (![0, 0] : Fin 2 → ℕ) a = 0 := by decide
  have e1 := readAt_full harg2 x1 ![0, 0] inb_S256x1024_S256x1024_0_0 z0
  have e4 := readAt_full harg5 x4 ![0, 0] inb_S1x1024_S1x1024_0_0 z0
  have ew4 := readAt_full harg20 w4 ![0, 0] inb_S1024x1024_S1024x1024_0_0 z0
  have e14 := readAt_full harg18 a14 ![0, 0] inb_S1x1024_S1x1024_0_0 z0
  have e15 := readAt_full harg19 a15 ![0, 0] inb_S1x128_S1x128_0_0 z0
  have ew50 : arg21.view.readAt (Elt F) (Rect.unit (s := S4x1024x1024) ![0, 0, 0] S1x1024x1024.size inb_S4x1024x1024_S1x1024x1024_0_0_0).toLoadRect (harg21.unread w5) = shardOf w5 0 :=
    funext fun x => (harg21.readAt_unread _ _ x).trans (shardOf_idx _ 0 _ x)
  have ew51 : arg21.view.readAt (Elt F) (Rect.unit (s := S4x1024x1024) ![1, 0, 0] S1x1024x1024.size inb_S4x1024x1024_S1x1024x1024_1_0_0).toLoadRect (harg21.unread w5) = shardOf w5 1 :=
    funext fun x => (harg21.readAt_unread _ _ x).trans (shardOf_idx _ 1 _ x)
  have ew52 : arg21.view.readAt (Elt F) (Rect.unit (s := S4x1024x1024) ![2, 0, 0] S1x1024x1024.size inb_S4x1024x1024_S1x1024x1024_2_0_0).toLoadRect (harg21.unread w5) = shardOf w5 2 :=
    funext fun x => (harg21.readAt_unread _ _ x).trans (shardOf_idx _ 2 _ x)
  have ew53 : arg21.view.readAt (Elt F) (Rect.unit (s := S4x1024x1024) ![3, 0, 0] S1x1024x1024.size inb_S4x1024x1024_S1x1024x1024_3_0_0).toLoadRect (harg21.unread w5) = shardOf w5 3 :=
    funext fun x => (harg21.readAt_unread _ _ x).trans (shardOf_idx _ 3 _ x)
  have ew60 : arg22.view.readAt (Elt F) (Rect.unit (s := S4x1024x1024) ![0, 0, 0] S1x1024x1024.size inb_S4x1024x1024_S1x1024x1024_0_0_0).toLoadRect (harg22.unread w6) = shardOf w6 0 :=
    funext fun x => (harg22.readAt_unread _ _ x).trans (shardOf_idx _ 0 _ x)
  have ew61 : arg22.view.readAt (Elt F) (Rect.unit (s := S4x1024x1024) ![1, 0, 0] S1x1024x1024.size inb_S4x1024x1024_S1x1024x1024_1_0_0).toLoadRect (harg22.unread w6) = shardOf w6 1 :=
    funext fun x => (harg22.readAt_unread _ _ x).trans (shardOf_idx _ 1 _ x)
  have ew62 : arg22.view.readAt (Elt F) (Rect.unit (s := S4x1024x1024) ![2, 0, 0] S1x1024x1024.size inb_S4x1024x1024_S1x1024x1024_2_0_0).toLoadRect (harg22.unread w6) = shardOf w6 2 :=
    funext fun x => (harg22.readAt_unread _ _ x).trans (shardOf_idx _ 2 _ x)
  have ew63 : arg22.view.readAt (Elt F) (Rect.unit (s := S4x1024x1024) ![3, 0, 0] S1x1024x1024.size inb_S4x1024x1024_S1x1024x1024_3_0_0).toLoadRect (harg22.unread w6) = shardOf w6 3 :=
    funext fun x => (harg22.readAt_unread _ _ x).trans (shardOf_idx _ 3 _ x)
  rw [cc0_fwd_mlp_bwd_mlp_eq_skeleton]; unfold cc0_fwd_mlp_bwd_mlp_skel
  rw [wp_bind]
  refine (sep_mono_left hR).trans ((wp_frame_r _ _ _).trans (wp_mono _ _ _ fun r => ?_))
  simp only [k0_part6_eq_skeleton, k0_part7_eq_skeleton, k0_part8_eq_skeleton, k0_part9_eq_skeleton, k0_part10_eq_skeleton, k0_part11_eq_skeleton]
  unfold headPost owns
  iintro ⟨⟨%hr, ⟨⟨%f0, %hf0, H0⟩, ⟨%f2, %hf2, H2⟩, ⟨%f3, %hf3, H3⟩, ⟨%g4, %hf4, H4⟩, ⟨%f5, %hf5, H5⟩, ⟨%f6, %hf6, H6⟩, ⟨%f14, %hf14, H14⟩, ⟨%f15, %hf15, H15⟩, ⟨%fs0, %hs0, HS0⟩, ⟨%fs1, %hs1, HS1⟩, ⟨%fs2, %hs2, HS2⟩⟩, HT⟩, ⟨%f1, %hf1, H1⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds3, %fs3, -, HS3⟩, Hk⟩
  subst hr
  obtain rfl := harg2.eq_unread hf1; obtain rfl := harg5.eq_unread hf4
  obtain rfl := harg18.eq_unread hf14; obtain rfl := harg19.eq_unread hf15
  obtain rfl := harg20.eq_unread hs0; obtain rfl := harg21.eq_unread hs1; obtain rfl := harg22.eq_unread hs2
  dsimp only [headVal]
  sl_exec
  have E108 : bodyRun.sl.v108 arg23 x0 x2 x3 x4 w4 w5 = rz0B x0 x2 x3 x4 w4 w5 := load_quarter arg23 _ _ _ _ _ _ _ _ 0 (by decide) _ rfl _
  have E121 : bodyRun.sl.v121 arg23 x0 x2 x3 x4 w4 w5 = rz1B x0 x2 x3 x4 w4 w5 := load_quarter arg23 _ _ _ _ _ _ _ _ 1 (by decide) _ rfl _
  have E134 : bodyRun.sl.v134 arg23 x0 x2 x3 x4 w4 w5 = rz2B x0 x2 x3 x4 w4 w5 := load_quarter arg23 _ _ _ _ _ _ _ _ 2 (by decide) _ rfl _
  have E147 : bodyRun.sl.v147 arg23 x0 x2 x3 x4 w4 w5 = rz3B x0 x2 x3 x4 w4 w5 := load_quarter arg23 _ _ _ _ _ _ _ _ 3 (by decide) _ rfl _
  have E9 : bodyRun.sl.r_9 arg23 x0 x1 x2 x3 x4 w4 w5 w6 = dz3B x0 x1 x2 x3 x4 w4 w5 w6 := congrArg (k0_pay38 _ _) E147
  have E6 : bodyRun.sl.r_6 arg23 x0 x1 x2 x3 x4 w4 w5 w6 = dc0B x0 x1 x2 x3 x4 w4 w5 w6 := congrArg (k0_pay33 _ _ · _) E108
  have E8 : bodyRun.sl.r_8 arg23 x0 x1 x2 x3 x4 w4 w5 w6 = dc012B x0 x1 x2 x3 x4 w4 w5 w6 := by unfold bodyRun.sl.r_8; rw [E6, E121, E134]; rfl
  have E10 : bodyRun.sl.r_10 arg23 x0 x1 x2 x3 x4 w4 w5 w6 = doB x0 x1 x2 x3 x4 w4 w5 w6 := by unfold bodyRun.sl.r_10; rw [E8, E9]; rfl
  sl_step
  iapply Hk
  unfold bodyEnd owns
  isplitr [HT]
  swap
  · iexact HT
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact read_quarters arg11 _ _ _ _ _ _ _ _ _
  isplitl [H8]
  · iexists _; isplitr; swap; · iexact H8
    ipureintro; rw [E9, E108, E121, E134]; exact read_quarters arg12 _ _ _ _ _ _ _ _ _
  isplitl [H9]
  · iexists _; isplitr; swap; · iexact H9
    ipureintro; exact (read_full arg13 _ _ ![0, 0] inb_S256x1024_S256x1024_0_0 z0 _).trans rfl
  isplitl [H10]
  · iexists _; isplitr; swap; · iexact H10
    ipureintro; rw [E8, E9]; exact (read_full arg14 _ _ ![0, 0] inb_S256x1024_S256x1024_0_0 z0 _).trans rfl
  isplitl [H11]
  · iexists _; isplitr; swap; · iexact H11
    ipureintro; rw [E8, E9]; exact (read_full arg15 _ _ ![0, 0] inb_S256x512_S256x512_0_0 z0 _).trans rfl
  isplitl [H12]
  · iexists _; isplitr; swap; · iexact H12
    ipureintro; rw [E10]; exact (read_full arg16 _ _ ![0, 0] inb_S256x512_S256x512_0_0 z0 _).trans rfl
  isplitl [H13]
  · iexists _; isplitr; swap; · iexact H13
    ipureintro; refine (read_full arg17 _ _ ![0, 0] inb_S256x512_S256x512_0_0 z0 _).trans ?_; exact congrArg (headSums x3) E10
  isplitl [H14]
  · iexists _; isplitr; swap; · iexact H14
    ipureintro; rw [E8, E9]; exact (read_full arg18 _ _ ![0, 0] inb_S1x1024_S1x1024_0_0 z0 _).trans rfl
  isplitl [H15]
  · iexists _; isplitr; swap; · iexact H15
    ipureintro; exact (read_full arg19 _ _ ![0, 0] inb_S1x128_S1x128_0_0 z0 _).trans rfl
  isplitl [HS0]
  · iexists _; isplitr; swap; · iexact HS0
    ipureintro; exact hs0
  isplitl [HS1]
  · iexists _; isplitr; swap; · iexact HS1
    ipureintro; exact hs1
  isplitl [HS2]
  · iexists _; isplitr; swap; · iexact HS2
    ipureintro; exact hs2
  iexists _; iexists _; isplitr; swap
  · iexact HS3
  ipureintro; rfl

end Cert.KernelIdeal.Half

end
-- ==== Proof.Body.lean ====
/-
  The launch of the fused layer-half kernel: what every buffer holds after each of its 32 points, the body's run at a
  point put together from its head and its tail, and the run of the whole program.
-/
module

public import proofs.«01_k».proof.Proof.Tail

@[expose] public section

set_option maxRecDepth 16384

noncomputable section

namespace Cert.KernelIdeal.Half

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The blocks of a point and the weights -/

def xAt (c : Dev nD) (t : Fin cfg0.N) : Vec F S256x1024 .f32 := iblk m c 0 t
def tgtAt (c : Dev nD) (t : Fin cfg0.N) : Vec F S256x1024 .f32 := iblk m c 1 t
def poolAt (c : Dev nD) (t : Fin cfg0.N) : Vec F S256x512 .bf16 := iblk m c 2 t
def attnAt (c : Dev nD) (t : Fin cfg0.N) : Vec F S256x512 .f32 := iblk m c 3 t
def gainAt (c : Dev nD) (t : Fin cfg0.N) : Vec F S1x1024 .f32 := iblk m c 4 t
def woutAt (c : Dev nD) : Vec F S1024x1024 .bf16 := woutArr.view.read (Elt F) (V m c main_arg4)
def wupAt (c : Dev nD) : Vec F S4x1024x1024 .bf16 := wupArr.view.read (Elt F) (V m c main_arg5)
def wdownAt (c : Dev nD) : Vec F S4x1024x1024 .bf16 := wdownArr.view.read (Elt F) (V m c main_arg6)

/-! ## What the outputs hold after a point -/

def mixedAt (c : Dev nD) (t : Fin cfg0.N) : Vec F S256x1024 .bf16 := k0_pay4 (attnAt m c t) (poolAt m c t)
def normedAt (c : Dev nD) (t : Fin cfg0.N) : Vec F S256x1024 .bf16 := cB (xAt m c t) (poolAt m c t) (attnAt m c t) (gainAt m c t) (woutAt m c)
def ffAt (c : Dev nD) (t : Fin cfg0.N) : Vec F S256x4096 .bf16 := ffB (xAt m c t) (poolAt m c t) (attnAt m c t) (gainAt m c t) (woutAt m c) (wupAt m c)
def dzAt (c : Dev nD) (t : Fin cfg0.N) : Vec F S256x4096 .bf16 := dzB (xAt m c t) (tgtAt m c t) (poolAt m c t) (attnAt m c t) (gainAt m c t) (woutAt m c) (wupAt m c) (wdownAt m c)
def dyAt (c : Dev nD) (t : Fin cfg0.N) : Vec F S256x1024 .bf16 := dybB (xAt m c t) (tgtAt m c t) (poolAt m c t) (attnAt m c t) (gainAt m c t) (woutAt m c) (wupAt m c) (wdownAt m c)
def dhAt (c : Dev nD) (t : Fin cfg0.N) : Vec F S256x1024 .f32 := dhB (xAt m c t) (tgtAt m c t) (poolAt m c t) (attnAt m c t) (gainAt m c t) (woutAt m c) (wupAt m c) (wdownAt m c)
def dpoolAt (c : Dev nD) (t : Fin cfg0.N) : Vec F S256x512 .f32 := dypB (xAt m c t) (tgtAt m c t) (poolAt m c t) (attnAt m c t) (gainAt m c t) (woutAt m c) (wupAt m c) (wdownAt m c)
def dattnAt (c : Dev nD) (t : Fin cfg0.N) : Vec F S256x512 .f32 := doB (xAt m c t) (tgtAt m c t) (poolAt m c t) (attnAt m c t) (gainAt m c t) (woutAt m c) (wupAt m c) (wdownAt m c)
def deltaAt (c : Dev nD) (t : Fin cfg0.N) : Vec F S256x512 .f32 := dltB (xAt m c t) (tgtAt m c t) (poolAt m c t) (attnAt m c t) (gainAt m c t) (woutAt m c) (wupAt m c) (wdownAt m c)
/-- One point's step of the two accumulators. -/
def gainStep (c : Dev nD) (t : Fin cfg0.N) (acc : Vec F S1x1024 .f32) : Vec F S1x1024 .f32 := dgB (xAt m c t) (tgtAt m c t) (poolAt m c t) (attnAt m c t) (gainAt m c t) (woutAt m c) (wupAt m c) (wdownAt m c) acc
def lossStep (c : Dev nD) (t : Fin cfg0.N) (acc : Vec F S1x128 .f32) : Vec F S1x128 .f32 := lossB (xAt m c t) (tgtAt m c t) (poolAt m c t) (attnAt m c t) (gainAt m c t) (woutAt m c) (wupAt m c) (wdownAt m c) acc
/-- The accumulators after point `n`: zero before the first. -/
def gainAcc (c : Dev nD) : (n : ℕ) → n < cfg0.N → Vec F S1x1024 .f32
  | 0, h => gainStep m c ⟨0, h⟩ k0_pay2
  | n + 1, h => gainStep m c ⟨n + 1, h⟩ (gainAcc c n (Nat.lt_of_succ_lt h))
def lossAcc (c : Dev nD) : (n : ℕ) → n < cfg0.N → Vec F S1x128 .f32
  | 0, h => lossStep m c ⟨0, h⟩ k0_pay3
  | n + 1, h => lossStep m c ⟨n + 1, h⟩ (lossAcc c n (Nat.lt_of_succ_lt h))

theorem gainAcc_first (c : Dev nD) (t : Fin cfg0.N) (h : t.val = 0) : gainAcc m c t.val t.isLt = gainStep m c t k0_pay2 := by
  obtain ⟨n, hn⟩ := t; obtain rfl : n = 0 := h; rfl
theorem gainAcc_later (c : Dev nD) (t : Fin cfg0.N) (h : t.val ≠ 0) :
    gainAcc m c t.val t.isLt = gainStep m c t (gainAcc m c (t.val - 1) (by omega)) := by
  obtain ⟨_ | n, hn⟩ := t
  · exact absurd rfl h
  · rfl
theorem lossAcc_first (c : Dev nD) (t : Fin cfg0.N) (h : t.val = 0) : lossAcc m c t.val t.isLt = lossStep m c t k0_pay3 := by
  obtain ⟨n, hn⟩ := t; obtain rfl : n = 0 := h; rfl
theorem lossAcc_later (c : Dev nD) (t : Fin cfg0.N) (h : t.val ≠ 0) :
    lossAcc m c t.val t.isLt = lossStep m c t (lossAcc m c (t.val - 1) (by omega)) := by
  obtain ⟨_ | n, hn⟩ := t
  · exact absurd rfl h
  · rfl

/-! ## The launch's data -/

/-- The weight arrays as launched. -/
abbrev weights0 (c : Dev nD) : sProp 𝕄 := weights c (V m c main_arg4) (V m c main_arg5) (V m c main_arg6)

/-- What the body keeps to itself between points: before the first everything at anything, later its weight buffers
    filled. -/
def kept (c : Dev nD) : ℕ → sProp 𝕄
  | 0 => Pipeline.ΦD copySem spec0 weightRefs (V m) c
  | _ + 1 => iprop(iprop(owns (c : Thread nD τ) woutBuf fullShare (woutAt m c) ∗ owns (c : Thread nD τ) wupBuf fullShare (wupAt m c)
      ∗ owns (c : Thread nD τ) wdownBuf fullShare (wdownAt m c) ∗ (∃ d, owns (c : Thread nD τ) rzBuf fullShare d))
      ∗ (∃ r, prngReg c r) ∗ copySems c ∗ weights0 m c)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => mixedAt m c t
    | ⟨6, _⟩ => normedAt m c t
    | ⟨7, _⟩ => ffAt m c t
    | ⟨8, _⟩ => dzAt m c t
    | ⟨9, _⟩ => dyAt m c t
    | ⟨10, _⟩ => dhAt m c t
    | ⟨11, _⟩ => dpoolAt m c t
    | ⟨12, _⟩ => dattnAt m c t
    | ⟨13, _⟩ => deltaAt m c t
    | ⟨14, _⟩ => gainAcc m c t.val t.isLt
    | ⟨15, _⟩ => lossAcc m c t.val t.isLt
    | ⟨_ + 16, h⟩ => absurd h (Nat.not_lt.2 (Nat.le_add_left _ _))
  Φ t := kept m c t.val
  q _ := fullShare
  owed _ := 0

theorem A_eq (c : Dev nD) (w : Fin cfg0.W) : (dats m 0 c).A w = V m c (Pipeline.arrRef spec0 w) := by
  dsimp only [dats]

/-! ## What the body finds -/

/-- An input's staging buffer holds its block at every point. -/
theorem finds0 (c : Dev nD) (t : Fin cfg0.N) (d) : (dats m 0 c).before 0 t d = xAt m c t :=
  ((dats m 0 c).before_in_eq_fetched 0 rfl (fun _ => rfl) (fun _ _ _ => rfl)
    (fun t => by rw [show (dats m 0 c).after 0 t = iblk m c 0 t from rfl]; unfold Dat.blockOf iblk; rw [A_eq]; try rfl) t d).trans
    (by unfold Dat.fetched Dat.blockOf xAt iblk; rw [A_eq]; try rfl)
theorem finds1 (c : Dev nD) (t : Fin cfg0.N) (d) : (dats m 0 c).before 1 t d = tgtAt m c t :=
  ((dats m 0 c).before_in_eq_fetched 1 rfl (fun _ => rfl) (fun _ _ _ => rfl)
    (fun t => by rw [show (dats m 0 c).after 1 t = iblk m c 1 t from rfl]; unfold Dat.blockOf iblk; rw [A_eq]; try rfl) t d).trans
    (by unfold Dat.fetched Dat.blockOf tgtAt iblk; rw [A_eq]; try rfl)
theorem finds2 (c : Dev nD) (t : Fin cfg0.N) (d) : (dats m 0 c).before 2 t d = poolAt m c t :=
  ((dats m 0 c).before_in_eq_fetched 2 rfl (fun _ => rfl) (fun _ _ _ => rfl)
    (fun t => by rw [show (dats m 0 c).after 2 t = iblk m c 2 t from rfl]; unfold Dat.blockOf iblk; rw [A_eq]; try rfl) t d).trans
    (by unfold Dat.fetched Dat.blockOf poolAt iblk; rw [A_eq]; try rfl)
theorem finds3 (c : Dev nD) (t : Fin cfg0.N) (d) : (dats m 0 c).before 3 t d = attnAt m c t :=
  ((dats m 0 c).before_in_eq_fetched 3 rfl (fun _ => rfl) (fun _ _ _ => rfl)
    (fun t => by rw [show (dats m 0 c).after 3 t = iblk m c 3 t from rfl]; unfold Dat.blockOf iblk; rw [A_eq]; try rfl) t d).trans
    (by unfold Dat.fetched Dat.blockOf attnAt iblk; rw [A_eq]; try rfl)
theorem finds4 (c : Dev nD) (t : Fin cfg0.N) (d) : (dats m 0 c).before 4 t d = gainAt m c t :=
  ((dats m 0 c).before_in_eq_fetched 4 rfl (fun _ => rfl) (fun _ _ _ => rfl)
    (fun t => by rw [show (dats m 0 c).after 4 t = iblk m c 4 t from rfl]; unfold Dat.blockOf iblk; rw [A_eq]; try rfl) t d).trans
    (by unfold Dat.fetched Dat.blockOf gainAt iblk; rw [A_eq]; try rfl)
theorem finds14 (c : Dev nD) (t : Fin cfg0.N) (h0 : t.val ≠ 0) (d) : (dats m 0 c).before 14 t d = gainAcc m c (t.val - 1) (by omega) := by
  have hN : t.val < 32 := Nat.lt_of_lt_of_eq t.isLt N_0
  rw [Dat.before_out_kept _ 14 rfl t (by omega) (Bool.eq_false_iff.mpr fun h => by
    have := (flush0_14 _).mp h; dsimp only at this; omega) (fun _ => rfl) (fun _ _ => rfl)]
  dsimp only [dats]
theorem finds15 (c : Dev nD) (t : Fin cfg0.N) (h0 : t.val ≠ 0) (d) : (dats m 0 c).before 15 t d = lossAcc m c (t.val - 1) (by omega) := by
  have hN : t.val < 32 := Nat.lt_of_lt_of_eq t.isLt N_0
  rw [Dat.before_out_kept _ 15 rfl t (by omega) (Bool.eq_false_iff.mpr fun h => by
    have := (flush0_15 _).mp h; dsimp only at this; omega) (fun _ => rfl) (fun _ _ => rfl)]
  dsimp only [dats]

/-! ## The body at a point -/

/-- What the body is called with at a point, window by window, and what it gives back. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

/-- What is left aside while the body works: the copies' semaphores, the weight arrays and the waits. -/
def aside (c : Dev nD) : sProp 𝕄 := iprop(copySems c ∗ weights0 m c ∗ (∃ W', owes (c : Thread nD τ) 0 W'))

/-- The waits so far are within what a point allows. -/
theorem waits_ok (c : Dev nD) (t : Fin (cfg0.N + 1)) : iprop(∃ W', owes (c : Thread nD τ) 0 W') ⊢ ((dats m 0 c).owesAt () t : sProp 𝕄) := by
  unfold Dat.owesAt Pipeline.owesWithin
  rw [show (dats m 0 c).owed t = 0 from rfl]
  iintro ⟨%W', HW⟩; iexists W'; isplitr
  · ipureintro; exact fun _ _ => Or.inl trivial
  · iexact HW

theorem kept_first (c : Dev nD) (n : ℕ) (h : n = 0) : kept m c n
    = iprop(iprop((∃ d, owns (c : Thread nD τ) woutBuf fullShare d) ∗ (∃ d, owns (c : Thread nD τ) wupBuf fullShare d)
        ∗ (∃ d, owns (c : Thread nD τ) wdownBuf fullShare d) ∗ (∃ d, owns (c : Thread nD τ) rzBuf fullShare d))
      ∗ (∃ r, prngReg c r) ∗ copySems c ∗ weights0 m c) := by
  subst h; exact region_eq m c
theorem kept_later (c : Dev nD) (n : ℕ) (h : n ≠ 0) : kept m c n
    = iprop(iprop(owns (c : Thread nD τ) woutBuf fullShare (woutAt m c) ∗ owns (c : Thread nD τ) wupBuf fullShare (wupAt m c)
      ∗ owns (c : Thread nD τ) wdownBuf fullShare (wdownAt m c) ∗ (∃ d, owns (c : Thread nD τ) rzBuf fullShare d))
      ∗ (∃ r, prngReg c r) ∗ copySems c ∗ weights0 m c) := by
  obtain _ | n := n
  · exact absurd rfl h
  · rfl

/-- A point's run from what its head leaves. -/
theorem point_run (c : Dev nD) (t : Fin cfg0.N) (R : sProp 𝕄) (a14 : Vec F S1x1024 .f32) (a15 : Vec F S1x128 .f32)
    (e14 : gainAcc m c t.val t.isLt = gainStep m c t a14) (e15 : lossAcc m c t.val t.isLt = lossStep m c t a15)
    (hR : R ⊢ wp frame (wpE (defs₀ (F := F)) Variants.none c none) Set.univ (headProg (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) woutBuf (Memref.isWhole_whole _) wupBuf (Memref.isWhole_whole _) wdownBuf (Memref.isWhole_whole _) rzBuf (Memref.isWhole_whole _))
      (fun r => iprop(⌜r = headVal (xAt m c t) (poolAt m c t) (attnAt m c t) (gainAt m c t) (woutAt m c) (wupAt m c)⌝
        ∗ headPost c (st0_0 t) (st0_2 t) (st0_3 t) (st0_4 t) (st0_5 t) (st0_6 t) (st0_14 t) (st0_15 t) woutBuf wupBuf wdownBuf (xAt m c t) (poolAt m c t) (attnAt m c t) (gainAt m c t) (woutAt m c) (wupAt m c) (wdownAt m c) a14 a15 ∗ aside m c))) :
    iprop(R ∗ owns (c : Thread nD τ) (st0_1 t) fullShare (tgtAt m c t) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d) ∗ (∃ d, owns (c : Thread nD τ) (st0_12 t) fullShare d) ∗ (∃ d, owns (c : Thread nD τ) (st0_13 t) fullShare d) ∗ (∃ d, owns (c : Thread nD τ) rzBuf fullShare d) ∗ (∃ r, prngReg c r))
      ⊢ wp frame (wpE (defs₀ (F := F)) Variants.none c none) Set.univ (bodyAt0 t) (fun _ => returned m c t) := by
  have key := bodyRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) woutBuf (Memref.isWhole_whole _) wupBuf (Memref.isWhole_whole _) wdownBuf (Memref.isWhole_whole _) rzBuf (Memref.isWhole_whole _) R (aside m c) (xAt m c t) (tgtAt m c t) (poolAt m c t) (attnAt m c t) (gainAt m c t) (woutAt m c) (wupAt m c) (wdownAt m c) a14 a15 hR (fun _ => returned m c t)
  refine BIBase.Entails.trans ?_ key
  iintro ⟨HR, H1, H7, H8, H9, H10, H11, H12, H13, HS3, Hg⟩
  isplitl [HR]; · iexact HR
  isplitl [H1]; · iexact H1
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS3]; · iexact HS3
  unfold bodyEnd aside returned
  rw [show (dats m 0 c).Φ t.succ = kept m c (t.val + 1) from rfl, kept_later m c _ (Nat.succ_ne_zero _)]
  iintro ⟨⟨G0, G1, G2, G3, G4, G5, G6, G7, G8, G9, G10, G11, G12, G13, G14, G15, GS0, GS1, GS2, GS3⟩, Hq, Hw, HW⟩
  isplitl [GS0 GS1 GS2 GS3 Hg Hq Hw]
  · isplitl [GS0 GS1 GS2 GS3]
    · isplitl [GS0]; · iexact GS0
      isplitl [GS1]; · iexact GS1
      isplitl [GS2]; · iexact GS2
      iexact GS3
    isplitl [Hg]; · iexact Hg
    isplitl [Hq]; · iexact Hq
    iexact Hw
  isplitl [HW]; · iapply (waits_ok m c t.succ) $$ [HW]; iexact HW
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]
  · rw [show (dats m 0 c).after 14 t = gainAcc m c t.val t.isLt from rfl, e14]; iexact G14
  · rw [show (dats m 0 c).after 15 t = lossAcc m c t.val t.isLt from rfl, e15]; iexact G15

theorem body_sound (c : Dev nD) (t : Fin cfg0.N) :
    given m c t ⊢ wp frame (wpE (defs₀ (F := F)) Variants.none c none) Set.univ (bodyAt0 t) (fun _ => returned m c t) := by
  unfold given
  simp only [finds0, finds1, finds2, finds3, finds4]
  rw [show (dats m 0 c).Φ t.castSucc = kept m c t.val from rfl]
  unfold Dat.owesAt Pipeline.owesWithin
  rw [show (dats m 0 c).owed t.castSucc = 0 from rfl]
  by_cases h0 : t.val = 0
  · rw [kept_first m c _ h0]
    iintro ⟨⟨⟨HS0, HS1, HS2, HS3⟩, Hg, Hq, Hw⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (point_run m c t _ k0_pay2 k0_pay3 (gainAcc_first m c t h0) (lossAcc_first m c t h0)
      (headFirst c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) woutBuf (Memref.isWhole_whole _) wupBuf (Memref.isWhole_whole _) wdownBuf (Memref.isWhole_whole _) rzBuf (Memref.isWhole_whole _) ((atFirst_iff t).mpr h0) (xAt m c t) (poolAt m c t) (attnAt m c t) (gainAt m c t) (V m c main_arg4) (V m c main_arg5) (V m c main_arg6) W))
    isplitl [H0 H2 H3 H4 H5 H6 H14 H15 HS0 HS1 HS2 Hq Hw HW]
    · isplitl [H0]; · iexact H0
      isplitl [H2]; · iexact H2
      isplitl [H3]; · iexact H3
      isplitl [H4]; · iexact H4
      isplitl [H5]; · iexists _; iexact H5
      isplitl [H6]; · iexists _; iexact H6
      isplitl [H14]; · iexists _; iexact H14
      isplitl [H15]; · iexists _; iexact H15
      isplitl [HS0]; · iexact HS0
      isplitl [HS1]; · iexact HS1
      isplitl [HS2]; · iexact HS2
      isplitl [Hq]; · iexact Hq
      isplitl [Hw]; · iexact Hw
      iexact HW
    isplitl [H1]; · iexact H1
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS3]; · iexact HS3
    iexact Hg
  · rw [kept_later m c _ h0]
    simp only [finds14 m c t h0, finds15 m c t h0]
    iintro ⟨⟨⟨HS0, HS1, HS2, HS3⟩, Hg, Hq, Hw⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (point_run m c t _ _ _ (gainAcc_later m c t h0) (lossAcc_later m c t h0)
      ((sep_mono_left (headLater c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) woutBuf (Memref.isWhole_whole _) wupBuf (Memref.isWhole_whole _) wdownBuf (Memref.isWhole_whole _) rzBuf (Memref.isWhole_whole _) (fun h => h0 ((atFirst_iff t).mp h)) (xAt m c t) (poolAt m c t) (attnAt m c t) (gainAt m c t) (woutAt m c) (wupAt m c) (wdownAt m c) (gainAcc m c (t.val - 1) (by omega)) (lossAcc m c (t.val - 1) (by omega)))).trans
        ((wp_frame_r _ _ _).trans (wp_mono _ _ _ fun r => sep_assoc_l (R := aside m c)))))
    isplitl [H0 H2 H3 H4 H5 H6 H14 H15 HS0 HS1 HS2 Hq Hw HW]
    · isplitr [Hq Hw HW]
      · isplitl [H0]; · iexact H0
        isplitl [H2]; · iexact H2
        isplitl [H3]; · iexact H3
        isplitl [H4]; · iexact H4
        isplitl [H5]; · iexists _; iexact H5
        isplitl [H6]; · iexists _; iexact H6
        isplitl [H14]; · iexact H14
        isplitl [H15]; · iexact H15
        isplitl [HS0]; · iexact HS0
        isplitl [HS1]; · iexact HS1
        iexact HS2
      unfold aside
      isplitl [Hq]; · iexact Hq
      isplitl [Hw]; · iexact Hw
      iexists _; iexact HW
    isplitl [H1]; · iexact H1
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS3]; · iexact HS3
    iexact Hg

theorem defs₀_row (t : Fin cfg0.N) : defs₀ (F := F) .tc cfg0.body (cfg0.bodyArgs t (cfg0.slots t)) = bodyAt0 t := by
  unfold defs₀; rw [Defs.onTc_tc]

/-- The body's obligation, at every point. -/
theorem body_obligation (c : Dev nD) : BodyObligation (dats m 0 c) (defs₀ (F := F)) Variants.none () Set.univ := fun t => by
  rw [bigSep_W0, bigSep_W0, defs₀_row]
  exact triple_restated (body_sound m c t) rfl .rfl fun _ => .rfl

theorem hin (c : Dev nD) : Pipeline.ΦD copySem spec0 weightRefs (V m) c ⊢ (dats m 0 c).Φ 0 :=
  Idealize.SL.BI.Entails.refl _

theorem hout (c : Dev nD) : (dats m 0 c).Φ (Fin.last cfg0.N) ⊢ Pipeline.ΦD copySem spec0 weightRefs (V m) c := by
  rw [show (dats m 0 c).Φ (Fin.last cfg0.N) = kept m c cfg0.N from rfl, show cfg0.N = 31 + 1 from N_0, region_eq]
  unfold kept
  iintro ⟨⟨H0, H1, H2, H3⟩, Hr⟩
  isplitl [H0 H1 H2 H3]
  · isplitl [H0]; · iexists _; iexact H0
    isplitl [H1]; · iexists _; iexact H1
    isplitl [H2]; · iexists _; iexact H2
    iexact H3
  · iexact Hr

set_option backward.isDefEq.respectTransparency.types false in
/-- The run of the whole program: every array ends as the points' write-backs leave it, every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 copySem defs₀ Variants.none copySem_own weightRefs weightRefs_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- In a state that the launch ends in, every argument array is as launched, and every semaphore at zero. -/
theorem args_kept {r : PUnit × MemSt nD τ sig (Elt F)} (h : Pipeline.FramePost cfgs (dats m) 0 (V m) r ∧ r.2.sem = fun _ => 0) :
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 := by
  obtain ⟨h, hs⟩ := h
  have staged := fun (c : Dev nD) (w : Fin cfg0.W) hw =>
    ((h c).1 w).trans (((dats m 0 c).arrAt_in w hw _).trans (A_eq m c w))
  have rest := fun (c : Dev nD) (b : Ref sig .tc) hb => (h c).2 b hb
  exact ⟨fun c => ⟨staged c 0 rfl, staged c 1 rfl, staged c 2 rfl, staged c 3 rfl,
    rest c main_arg4 (Pipeline.mem_restRefs_of main_arg4 (by decide) (by decide)),
    rest c main_arg5 (Pipeline.mem_restRefs_of main_arg5 (by decide) (by decide)),
    rest c main_arg6 (Pipeline.mem_restRefs_of main_arg6 (by decide) (by decide)),
    staged c 4 rfl⟩, hs⟩

/-- Every argument array ends as launched, and every semaphore ends at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => args_kept m h) (run_main m ρ)

end Cert.KernelIdeal.Half

end
-- ==== Proof.RowMath.lean ====
/-
  The layer half on one token: from the token's row of the inputs and the weights, the forward values, the squared error
  and the gradients, over the extended reals, with every contraction a plain sum.
-/
module

public import Idealize.ShloMosaic.PureOps.Ideal

@[expose] public section

noncomputable section

namespace Cert.HalfRow

open Idealize.ShloMosaic

/-- The weights: the output projection by (input, output), the four column pieces of the up projection by (piece, input,
    column), the four row pieces of the down projection by (piece, row, output), and the norm's gain. -/
structure Wts where
  wo : Fin 1024 → Fin 1024 → EReal
  wu : Fin 4 → Fin 1024 → Fin 1024 → EReal
  wd : Fin 4 → Fin 1024 → Fin 1024 → EReal
  g : Fin 1024 → EReal

/-- One token's inputs: the residual stream, the target, the pooling mixer's output and the attention's output. -/
structure Row where
  x : Fin 1024 → EReal
  t : Fin 1024 → EReal
  p : Fin 512 → EReal
  a : Fin 512 → EReal

variable (W : Wts) (R : Row)

/-- The two mixers' outputs side by side. -/
def mix (k : Fin 1024) : EReal := if h : k.val < 512 then R.p ⟨k.val, h⟩ else R.a ⟨k.val - 512, by omega⟩
/-- The residual stream after the output projection. -/
def h (j : Fin 1024) : EReal := R.x j + ∑ k, mix R k * W.wo k j
/-- The mean of its squares, with the norm's small constant. -/
def v : EReal := Ideal.div (∑ j, h W R j * h W R j) (Ideal.ofBits .f32 0x44800000#32) + Ideal.ofBits .f32 0x358637BD#32
/-- One over its root. -/
def r : EReal := Ideal.rsqrt (v W R)
/-- The normed row … -/
def hn (j : Fin 1024) : EReal := h W R j * r W R
/-- … with the gain. -/
def c (j : Fin 1024) : EReal := hn W R j * W.g j
/-- The up projection's piece `q`, rectified … -/
def rz (q : Fin 4) (f : Fin 1024) : EReal := max (∑ k, c W R k * W.wu q k f) 0
/-- … and squared. -/
def ff (q : Fin 4) (f : Fin 1024) : EReal := rz W R q f * rz W R q f
/-- The layer's output … -/
def y (j : Fin 1024) : EReal := h W R j + ∑ q, ∑ f, ff W R q f * W.wd q f j
/-- … less the target. -/
def err (j : Fin 1024) : EReal := y W R j - R.t j
/-- The loss's gradient in the output. -/
def dy (j : Fin 1024) : EReal := err W R j * Ideal.ofBits .f32 0x3A800000#32
/-- The gradient before the square and the rectifier. -/
def dz (q : Fin 4) (f : Fin 1024) : EReal :=
  (∑ j, dy W R j * W.wd q f j) * (Ideal.ofBits .f32 0x40000000#32 * rz W R q f)
/-- The gradient in the normed row with the gain … -/
def dc (k : Fin 1024) : EReal := ∑ q, ∑ f, dz W R q f * W.wu q k f
/-- … and without. -/
def dn (k : Fin 1024) : EReal := dc W R k * W.g k
/-- The mean that the norm's gradient takes off. -/
def mean : EReal := Ideal.div (∑ k, dn W R k * hn W R k) (Ideal.ofBits .f32 0x44800000#32)
/-- The gradient in the residual stream. -/
def dh (j : Fin 1024) : EReal := dy W R j + r W R * (dn W R j - hn W R j * mean W R)
/-- The gradient in the mixers' outputs. -/
def dmix (k : Fin 1024) : EReal := ∑ j, dh W R j * W.wo k j
/-- The attention's rows of it, times the attention's output, summed over the head of lane `l`. -/
def dlt (l : Fin 512) : EReal :=
  ∑ d : Fin 64, dmix W R ⟨512 + (64 * (l.val / 64) + d.val), by omega⟩ * R.a ⟨64 * (l.val / 64) + d.val, by omega⟩

end Cert.HalfRow

end
-- ==== Proof.Rows.lean ====
/-
  One grid point's values at the extended reals, a row at a time: each block that the body writes holds, on its row, the
  row's forward value or gradient.
-/
module

public import proofs.«01_k».proof.Proof.Stages
public import proofs.«01_k».proof.Proof.RowMath
public import Idealize.ShloMosaic.Lib.Pointwise

@[expose] public section

set_option maxRecDepth 16384

noncomputable section

namespace Cert.KernelIdeal.Half

open Idealize.ShloMosaic Cert.KernelIdeal.Gen Cert.HalfRow

variable (x0 x1 : Vec Ideal S256x1024 .f32) (x2 : Vec Ideal S256x512 .bf16) (x3 : Vec Ideal S256x512 .f32)
  (x4 : Vec Ideal S1x1024 .f32) (w4 : Vec Ideal S1024x1024 .bf16) (w5 w6 : Vec Ideal S4x1024x1024 .bf16)

/-- The weights of the spec from the buffers. -/
def wtsOf : Wts where
  wo k j := w4 (ix2 k j)
  wu q k f := w5 (ix3 q k f)
  wd q f j := w6 (ix3 q f j)
  g j := x4 (ix2 0 j)

/-- Row `r` of the spec from the blocks. -/
def rowOf (s : Fin 256) : Row where
  x j := x0 (ix2 s j)
  t j := x1 (ix2 s j)
  p j := x2 (ix2 s j)
  a j := x3 (ix2 s j)

/-- The mixers' outputs side by side. -/
theorem mixed_at (s : Fin 256) (l : Fin 1024) : k0_pay4 x3 x2 (ix2 s l) = mix (rowOf x0 x1 x2 x3 s) l := by
  pointwise [k0_pay4]
  simp only [mix, rowOf]

/-- The residual row. -/
theorem h_at (s : Fin 256) (l : Fin 1024) : k0_pay5 x3 x2 x0 w4 (ix2 s l) = h (wtsOf x4 w4 w5 w6) (rowOf x0 x1 x2 x3 s) l := by
  pointwise [k0_pay5, h]
  simp only [mixed_at x0 x1 x2 x3, wtsOf, rowOf]

/-- One over its root mean square. -/
theorem r_at (s : Fin 256) (u : Fin 1) : k0_pay6 x3 x2 x0 w4 (ix2 s u) = r (wtsOf x4 w4 w5 w6) (rowOf x0 x1 x2 x3 s) := by
  pointwise [k0_pay6, r, v]
  simp only [h_at x0 x1 x2 x3 x4 w4 w5 w6]

/-- The normed row … -/
theorem hn_at (s : Fin 256) (l : Fin 1024) : k0_pay7 x3 x2 x0 w4 (ix2 s l) = hn (wtsOf x4 w4 w5 w6) (rowOf x0 x1 x2 x3 s) l := by
  pointwise [k0_pay7, hn]
  simp only [h_at x0 x1 x2 x3 x4 w4 w5 w6, r_at x0 x1 x2 x3 x4 w4 w5 w6]

/-- … with the gain. -/
theorem c_at (s : Fin 256) (l : Fin 1024) : cB x0 x2 x3 x4 w4 (ix2 s l) = c (wtsOf x4 w4 w5 w6) (rowOf x0 x1 x2 x3 s) l := by
  pointwise [cB, k0_pay8, c]
  simp only [hn_at x0 x1 x2 x3 x4 w4 w5 w6, wtsOf]

/-- A quarter of the weights, read at an index. -/
theorem shard_at (w : Vec Ideal S4x1024x1024 .bf16) (q : Fin 4) (k f : Fin 1024) (u : Fin 1) : shardOf w q (ix3 u k f) = w (ix3 q k f) :=
  congrArg w (funext fun a => match a with | ⟨0, _⟩ => rfl | ⟨1, _⟩ => rfl | ⟨2, _⟩ => rfl)
theorem z0_at (s : Fin 256) (l : Fin 1024) : z0B x0 x2 x3 x4 w4 w5 (ix2 s l) = ∑ k, c (wtsOf x4 w4 w5 w6) (rowOf x0 x1 x2 x3 s) k * (wtsOf x4 w4 w5 w6).wu 0 k l := by
  pointwise [z0B, k0_pay9]
  exact Finset.sum_congr rfl fun k _ => congrArg₂ (· * ·) (c_at x0 x1 x2 x3 x4 w4 w5 w6 s k) (shard_at w5 0 k l 0)

theorem z2_at (s : Fin 256) (l : Fin 1024) : z2B x0 x2 x3 x4 w4 w5 (ix2 s l) = ∑ k, c (wtsOf x4 w4 w5 w6) (rowOf x0 x1 x2 x3 s) k * (wtsOf x4 w4 w5 w6).wu 2 k l := by
  pointwise [z2B, k0_pay18]
  simp only [c_at x0 x1 x2 x3 x4 w4 w5 w6, shard_at, wtsOf]

theorem rz0_at (s : Fin 256) (l : Fin 1024) : rz0B x0 x2 x3 x4 w4 w5 (ix2 s l) = rz (wtsOf x4 w4 w5 w6) (rowOf x0 x1 x2 x3 s) 0 l := by
  pointwise [rz0B, k0_pay12, k0_pay11, k0_pay10]
  simp only [z0_at x0 x1 x2 x3 x4 w4 w5 w6, wtsOf, rz]

theorem rz1_at (s : Fin 256) (l : Fin 1024) : rz1B x0 x2 x3 x4 w4 w5 (ix2 s l) = rz (wtsOf x4 w4 w5 w6) (rowOf x0 x1 x2 x3 s) 1 l := by
  pointwise [rz1B, k0_pay15, k0_pay14]
  simp only [c_at x0 x1 x2 x3 x4 w4 w5 w6, shard_at, wtsOf, rz]

theorem rz2_at (s : Fin 256) (l : Fin 1024) : rz2B x0 x2 x3 x4 w4 w5 (ix2 s l) = rz (wtsOf x4 w4 w5 w6) (rowOf x0 x1 x2 x3 s) 2 l := by
  pointwise [rz2B, k0_pay21, k0_pay20, k0_pay19]
  simp only [z2_at x0 x1 x2 x3 x4 w4 w5 w6, wtsOf, rz]

theorem rz3_at (s : Fin 256) (l : Fin 1024) : rz3B x0 x2 x3 x4 w4 w5 (ix2 s l) = rz (wtsOf x4 w4 w5 w6) (rowOf x0 x1 x2 x3 s) 3 l := by
  pointwise [rz3B, k0_pay24, k0_pay23]
  simp only [c_at x0 x1 x2 x3 x4 w4 w5 w6, shard_at, wtsOf, rz]

theorem ff0_at (s : Fin 256) (l : Fin 1024) : k0_pay13 (z0B x0 x2 x3 x4 w4 w5) k0_pay10 (ix2 s l) = ff (wtsOf x4 w4 w5 w6) (rowOf x0 x1 x2 x3 s) 0 l := by
  pointwise [k0_pay13, k0_pay11, k0_pay10]
  simp only [z0_at x0 x1 x2 x3 x4 w4 w5 w6, wtsOf, rz, ff]

theorem ff1_at (s : Fin 256) (l : Fin 1024) : k0_pay16 (cB x0 x2 x3 x4 w4) (shardOf w5 1) (ix2 s l) = ff (wtsOf x4 w4 w5 w6) (rowOf x0 x1 x2 x3 s) 1 l := by
  pointwise [k0_pay16, k0_pay14]
  simp only [c_at x0 x1 x2 x3 x4 w4 w5 w6, shard_at, wtsOf, rz, ff]

theorem ff2_at (s : Fin 256) (l : Fin 1024) : k0_pay22 (z2B x0 x2 x3 x4 w4 w5) k0_pay19 (ix2 s l) = ff (wtsOf x4 w4 w5 w6) (rowOf x0 x1 x2 x3 s) 2 l := by
  pointwise [k0_pay22, k0_pay20, k0_pay19]
  simp only [z2_at x0 x1 x2 x3 x4 w4 w5 w6, wtsOf, rz, ff]

theorem ff3_at (s : Fin 256) (l : Fin 1024) : k0_pay25 (cB x0 x2 x3 x4 w4) (shardOf w5 3) (ix2 s l) = ff (wtsOf x4 w4 w5 w6) (rowOf x0 x1 x2 x3 s) 3 l := by
  pointwise [k0_pay25, k0_pay23]
  simp only [c_at x0 x1 x2 x3 x4 w4 w5 w6, shard_at, wtsOf, rz, ff]

/-- The error. -/
theorem err_at (s : Fin 256) (l : Fin 1024) : errB x0 x1 x2 x3 x4 w4 w5 w6 (ix2 s l) = err (wtsOf x4 w4 w5 w6) (rowOf x0 x1 x2 x3 s) l := by
  pointwise [errB, k0_pay26, y01B, k0_pay17, hB, err, y]
  simp only [h_at x0 x1 x2 x3 x4 w4 w5 w6, ff0_at x0 x1 x2 x3 x4 w4 w5 w6, ff1_at x0 x1 x2 x3 x4 w4 w5 w6, ff2_at x0 x1 x2 x3 x4 w4 w5 w6, ff3_at x0 x1 x2 x3 x4 w4 w5 w6, shard_at, Fin.sum_univ_four, wtsOf, rowOf, ← add_assoc]

theorem dy_at (s : Fin 256) (l : Fin 1024) : k0_pay30 (errB x0 x1 x2 x3 x4 w4 w5 w6) (ix2 s l) = dy (wtsOf x4 w4 w5 w6) (rowOf x0 x1 x2 x3 s) l := by
  pointwise [k0_pay30, dy]
  simp only [err_at x0 x1 x2 x3 x4 w4 w5 w6]

theorem dyb_at (s : Fin 256) (l : Fin 1024) : k0_pay31 (errB x0 x1 x2 x3 x4 w4 w5 w6) (ix2 s l) = dy (wtsOf x4 w4 w5 w6) (rowOf x0 x1 x2 x3 s) l := by
  pointwise [k0_pay31]
  simp only [dy_at x0 x1 x2 x3 x4 w4 w5 w6]

theorem dz0_at (s : Fin 256) (l : Fin 1024) : k0_pay32 (errB x0 x1 x2 x3 x4 w4 w5 w6) (shardOf w6 0) (rz0B x0 x2 x3 x4 w4 w5) (ix2 s l) = dz (wtsOf x4 w4 w5 w6) (rowOf x0 x1 x2 x3 s) 0 l := by
  pointwise [k0_pay32, dz]
  simp only [dyb_at x0 x1 x2 x3 x4 w4 w5 w6, rz0_at x0 x1 x2 x3 x4 w4 w5 w6, shard_at, wtsOf]

theorem t1_at (s : Fin 256) (l : Fin 1024) : t1B x0 x1 x2 x3 x4 w4 w5 w6 (ix2 s l) = ∑ j, dy (wtsOf x4 w4 w5 w6) (rowOf x0 x1 x2 x3 s) j * (wtsOf x4 w4 w5 w6).wd 1 l j := by
  pointwise [t1B, k0_pay34]
  simp only [dyb_at x0 x1 x2 x3 x4 w4 w5 w6, shard_at, wtsOf]

theorem dz1_at (s : Fin 256) (l : Fin 1024) : k0_pay35 (t1B x0 x1 x2 x3 x4 w4 w5 w6) (rz1B x0 x2 x3 x4 w4 w5) (ix2 s l) = dz (wtsOf x4 w4 w5 w6) (rowOf x0 x1 x2 x3 s) 1 l := by
  pointwise [k0_pay35, dz]
  simp only [t1_at x0 x1 x2 x3 x4 w4 w5 w6, rz1_at x0 x1 x2 x3 x4 w4 w5 w6, shard_at, wtsOf]

theorem dz2_at (s : Fin 256) (l : Fin 1024) : k0_pay36 (dybB x0 x1 x2 x3 x4 w4 w5 w6) (shardOf w6 2) (rz2B x0 x2 x3 x4 w4 w5) (ix2 s l) = dz (wtsOf x4 w4 w5 w6) (rowOf x0 x1 x2 x3 s) 2 l := by
  pointwise [k0_pay36, dz, dybB]
  simp only [dyb_at x0 x1 x2 x3 x4 w4 w5 w6, rz2_at x0 x1 x2 x3 x4 w4 w5 w6, shard_at, wtsOf]

theorem dz3_at (s : Fin 256) (l : Fin 1024) : dz3B x0 x1 x2 x3 x4 w4 w5 w6 (ix2 s l) = dz (wtsOf x4 w4 w5 w6) (rowOf x0 x1 x2 x3 s) 3 l := by
  pointwise [dz3B, k0_pay38, dz, dybB]
  simp only [dyb_at x0 x1 x2 x3 x4 w4 w5 w6, rz3_at x0 x1 x2 x3 x4 w4 w5 w6, shard_at, wtsOf]

theorem dc_at (s : Fin 256) (l : Fin 1024) : k0_pay39 (dc012B x0 x1 x2 x3 x4 w4 w5 w6) (dz3B x0 x1 x2 x3 x4 w4 w5 w6) (shardOf w5 3) (ix2 s l) = dc (wtsOf x4 w4 w5 w6) (rowOf x0 x1 x2 x3 s) l := by
  pointwise [k0_pay39, dc012B, k0_pay37, dc0B, k0_pay33, dc]
  simp only [dz0_at x0 x1 x2 x3 x4 w4 w5 w6, dz1_at x0 x1 x2 x3 x4 w4 w5 w6, dz2_at x0 x1 x2 x3 x4 w4 w5 w6, dz3_at x0 x1 x2 x3 x4 w4 w5 w6, shard_at, Fin.sum_univ_four, wtsOf]

theorem dh_at (s : Fin 256) (l : Fin 1024) : dhB x0 x1 x2 x3 x4 w4 w5 w6 (ix2 s l) = dh (wtsOf x4 w4 w5 w6) (rowOf x0 x1 x2 x3 s) l := by
  pointwise [dhB, hnB, rB, dyB, k0_pay41, dh, mean, dn]
  simp only [dc_at x0 x1 x2 x3 x4 w4 w5 w6, hn_at x0 x1 x2 x3 x4 w4 w5 w6, r_at x0 x1 x2 x3 x4 w4 w5 w6, dy_at x0 x1 x2 x3 x4 w4 w5 w6, wtsOf]

theorem dmix_at (s : Fin 256) (l : Fin 1024) : k0_pay42 (rB x0 x2 x3 w4) (hnB x0 x2 x3 w4) (dyB x0 x1 x2 x3 x4 w4 w5 w6) (dc012B x0 x1 x2 x3 x4 w4 w5 w6) (dz3B x0 x1 x2 x3 x4 w4 w5 w6) (shardOf w5 3) x4 w4 (ix2 s l) = dmix (wtsOf x4 w4 w5 w6) (rowOf x0 x1 x2 x3 s) l := by
  pointwise [k0_pay42, dmix]
  exact Finset.sum_congr rfl fun k _ => congrArg₂ (· * ·) (dh_at x0 x1 x2 x3 x4 w4 w5 w6 s k) rfl

theorem dyp_at (s : Fin 256) (l : Fin 512) : dypB x0 x1 x2 x3 x4 w4 w5 w6 (ix2 s l) = dmix (wtsOf x4 w4 w5 w6) (rowOf x0 x1 x2 x3 s) ⟨l.val, by omega⟩ := by
  pointwise [dypB, k0_pay43]
  simp only [dmix_at x0 x1 x2 x3 x4 w4 w5 w6]

theorem do_at (s : Fin 256) (l : Fin 512) : doB x0 x1 x2 x3 x4 w4 w5 w6 (ix2 s l) = dmix (wtsOf x4 w4 w5 w6) (rowOf x0 x1 x2 x3 s) ⟨512 + l.val, by omega⟩ := by
  pointwise [doB, k0_pay44]
  simp only [dmix_at x0 x1 x2 x3 x4 w4 w5 w6]

theorem dg_at (a14 : Vec Ideal S1x1024 .f32) (u : Fin 1) (l : Fin 1024) : dgB x0 x1 x2 x3 x4 w4 w5 w6 a14 (ix2 u l) = a14 (ix2 u l) + ∑ s, dc (wtsOf x4 w4 w5 w6) (rowOf x0 x1 x2 x3 s) l * hn (wtsOf x4 w4 w5 w6) (rowOf x0 x1 x2 x3 s) l := by
  pointwise [dgB, hnB, k0_pay40]
  simp only [dc_at x0 x1 x2 x3 x4 w4 w5 w6, hn_at x0 x1 x2 x3 x4 w4 w5 w6]

theorem loss_at (a15 : Vec Ideal S1x128 .f32) (u : Fin 1) (l : Fin 128) : lossB x0 x1 x2 x3 x4 w4 w5 w6 a15 (ix2 u l) = a15 (ix2 u l) + (∑ s, ∑ j, err (wtsOf x4 w4 w5 w6) (rowOf x0 x1 x2 x3 s) j * err (wtsOf x4 w4 w5 w6) (rowOf x0 x1 x2 x3 s) j) * Ideal.ofBits .f32 0x3A000000#32 := by
  pointwise [lossB, sqB, k0_pay27, k0_pay28, k0_pay29]
  refine congrArg (a15 (ix2 u l) + · * _) (Finset.sum_congr rfl fun s _ => Finset.sum_congr rfl fun j _ => ?_)
  exact congrArg₂ (· * ·) (err_at x0 x1 x2 x3 x4 w4 w5 w6 s j) (err_at x0 x1 x2 x3 x4 w4 w5 w6 s j)

/-- A lane below 128 is of the low half or of the high one. -/
theorem low_bit : ∀ n : Fin 128, IntOp.cmpi .slt (BitVec.ofNat 32 n.val) 64#32 = if n.val < 64 then 1#1 else 0#1 := by decide

/-- Of 128 lanes, the sum over the half that lane `n` is in. -/
theorem half_sum (f : Fin 128 → EReal) (n : ℕ) (hn : n < 128) :
    Scalar.select (IntOp.cmpi .slt (BitVec.ofNat 32 n) 64#32)
        (∑ x : Fin 128, Scalar.select (IntOp.cmpi .slt (BitVec.ofNat 32 x.val) 64#32) (f x) 0)
        (∑ x : Fin 128, Scalar.select (IntOp.cmpi .slt (BitVec.ofNat 32 x.val) 64#32) 0 (f x))
      = ∑ e : Fin 64, f ⟨64 * (n / 64) + e.val, by omega⟩ := by
  have hlo : ∀ e : Fin 64, IntOp.cmpi .slt (BitVec.ofNat 32 e.val) 64#32 = 1#1 := fun e => by
    have := low_bit ⟨e.val, by omega⟩; rwa [if_pos e.isLt] at this
  have hhi : ∀ e : Fin 64, IntOp.cmpi .slt (BitVec.ofNat 32 (64 + e.val)) 64#32 = 0#1 := fun e => by
    have := low_bit ⟨64 + e.val, by omega⟩; rwa [if_neg (by simp)] at this
  have cut : ∀ g : Fin 128 → EReal, ∑ x, g x = (∑ e : Fin 64, g ⟨e.val, by omega⟩) + ∑ e : Fin 64, g ⟨64 + e.val, by omega⟩ :=
    fun g => Fin.sum_univ_add (a := 64) (b := 64) g
  rw [cut, cut]
  simp only [hlo, hhi, ValueIdx.select_one, ValueIdx.select_zero, Finset.sum_const_zero, add_zero, zero_add]
  have hb := low_bit ⟨n, hn⟩
  by_cases h : n < 64
  · rw [if_pos h] at hb
    rw [hb, ValueIdx.select_one]
    exact Finset.sum_congr rfl fun e _ => congrArg f (Fin.ext (by show e.val = 64 * (n / 64) + e.val; omega))
  · rw [if_neg h] at hb
    rw [hb, ValueIdx.select_zero]
    exact Finset.sum_congr rfl fun e _ => congrArg f (Fin.ext (by show 64 + e.val = 64 * (n / 64) + e.val; omega))

/-- The head sums of a gradient against the attention's output. -/
theorem sums_at (d : FVec Ideal S256x512 .f32) (s : Fin 256) (l : Fin 512) :
    headSums x3 d (ix2 s l) = ∑ e : Fin 64, d (ix2 s ⟨64 * (l.val / 64) + e.val, by omega⟩) * x3 (ix2 s ⟨64 * (l.val / 64) + e.val, by omega⟩) := by
  have key : ∀ (o : ℕ) (ho : o + 128 ≤ 512) (n : ℕ) (hn : n < 128), l.val = o + n → 64 ∣ o →
      (∑ e : Fin 64, (fun x : Fin 128 => d (ix2 s ⟨o + x.val, by omega⟩) * x3 (ix2 s ⟨o + x.val, by omega⟩)) ⟨64 * (n / 64) + e.val, by omega⟩)
        = ∑ e : Fin 64, d (ix2 s ⟨64 * (l.val / 64) + e.val, by omega⟩) * x3 (ix2 s ⟨64 * (l.val / 64) + e.val, by omega⟩) := by
    intro o ho n hn hl h64
    refine Finset.sum_congr rfl fun e _ => ?_
    have he : (⟨o + (64 * (n / 64) + e.val), by omega⟩ : Fin 512) = ⟨64 * (l.val / 64) + e.val, by omega⟩ := Fin.ext (by show o + (64 * (n / 64) + e.val) = 64 * (l.val / 64) + e.val; omega)
    show d (ix2 s ⟨o + (64 * (n / 64) + e.val), _⟩) * x3 (ix2 s ⟨o + (64 * (n / 64) + e.val), _⟩) = _
    rw [he]
  have hl := l.isLt
  pointwise [headSums, k0_pay1, k0_pay45, k0_pay46, k0_pay47, k0_pay48, k0_pay49, k0_pay50, k0_pay51]
  split
  · rename_i h
    exact half_sum (fun x => d (ix2 s ⟨x.val, by omega⟩) * x3 (ix2 s ⟨x.val, by omega⟩)) _ h
  split
  · rename_i h
    exact (half_sum _ _ h).trans (key 128 (by omega) (l.val - 128) h (by omega) (by omega))
  split
  · rename_i h
    exact (half_sum _ _ h).trans (key 256 (by omega) (l.val - 128 - 128) h (by omega) (by omega))
  · exact (half_sum _ _ (by omega)).trans (key 384 (by omega) (l.val - 128 - 128 - 128) (by omega) (by omega) (by omega))
theorem dlt_at (s : Fin 256) (l : Fin 512) : dltB x0 x1 x2 x3 x4 w4 w5 w6 (ix2 s l) = dlt (wtsOf x4 w4 w5 w6) (rowOf x0 x1 x2 x3 s) l := by
  pointwise [dltB, dlt]
  simp only [sums_at, do_at x0 x1 x2 x3 x4 w4 w5 w6, rowOf]

/-- Four quarters that each hold, at row `s`, a value of the piece and the lane, hold it side by side. -/
theorem quarters_row (q0 q1 q2 q3 : Vec Ideal S256x1024 .bf16) (s : Fin 256) (g : Fin 4 → Fin 1024 → EReal)
    (h0 : ∀ l, q0 (ix2 s l) = g 0 l) (h1 : ∀ l, q1 (ix2 s l) = g 1 l) (h2 : ∀ l, q2 (ix2 s l) = g 2 l) (h3 : ∀ l, q3 (ix2 s l) = g 3 l)
    (f : Fin 4096) : quarters q0 q1 q2 q3 (ix2 s f) = g ⟨f.val / 1024, by omega⟩ ⟨f.val % 1024, by omega⟩ := by
  have pick : ∀ q : Fin 4, nth4 q0 q1 q2 q3 q.val (ix2 s ⟨f.val % 1024, by omega⟩) = g q ⟨f.val % 1024, by omega⟩
    | 0 => h0 _
    | 1 => h1 _
    | 2 => h2 _
    | 3 => h3 _
  refine Eq.trans (congrArg (nth4 q0 q1 q2 q3 (f.val / 1024)) (funext fun a => ?_)) (pick ⟨f.val / 1024, by omega⟩)
  match a with
  | ⟨0, _⟩ => rfl
  | ⟨1, _⟩ => rfl

theorem ffB_at (s : Fin 256) (f : Fin 4096) : ffB x0 x2 x3 x4 w4 w5 (ix2 s f) = ff (wtsOf x4 w4 w5 w6) (rowOf x0 x1 x2 x3 s) ⟨f.val / 1024, by omega⟩ ⟨f.val % 1024, by omega⟩ :=
  quarters_row _ _ _ _ s _ (ff0_at x0 x1 x2 x3 x4 w4 w5 w6 s) (ff1_at x0 x1 x2 x3 x4 w4 w5 w6 s) (ff2_at x0 x1 x2 x3 x4 w4 w5 w6 s) (ff3_at x0 x1 x2 x3 x4 w4 w5 w6 s) f

theorem dzB_at (s : Fin 256) (f : Fin 4096) : dzB x0 x1 x2 x3 x4 w4 w5 w6 (ix2 s f) = dz (wtsOf x4 w4 w5 w6) (rowOf x0 x1 x2 x3 s) ⟨f.val / 1024, by omega⟩ ⟨f.val % 1024, by omega⟩ :=
  quarters_row _ _ _ _ s _ (dz0_at x0 x1 x2 x3 x4 w4 w5 w6 s) (dz1_at x0 x1 x2 x3 x4 w4 w5 w6 s) (dz2_at x0 x1 x2 x3 x4 w4 w5 w6 s) (dz3_at x0 x1 x2 x3 x4 w4 w5 w6 s) f

end Cert.KernelIdeal.Half

end
-- ==== Proof.RowReal.lean ====
/-
  The layer half on one token whose inputs are all real numbers: every value that the norm's gradient and the loss are
  made of is real, and there the two ways to write each agree.
-/
module

public import proofs.«01_k».proof.Proof.RowMath
public import Idealize.ShloMosaic.PureOps.Ideal.Laws

@[expose] public section

noncomputable section

namespace Cert.HalfRow

open Idealize.ShloMosaic

/-! ## The constants -/

theorem b1024 : Ideal.ofBits .f32 0x44800000#32 = ((1024 : ℝ) : EReal) := by
  simp [Ideal.ofBits, Ideal.ieee, -EReal.coe_mul]; norm_num
theorem bHalf : Ideal.ofBits .f32 0x3F000000#32 = ((1 / 2 : ℝ) : EReal) := by
  simp [Ideal.ofBits, Ideal.ieee, -EReal.coe_mul]; norm_num
theorem bNegHalf : Ideal.ofBits .f32 0xBF000000#32 = ((-(1 / 2) : ℝ) : EReal) := by
  simp [Ideal.ofBits, Ideal.ieee, -EReal.coe_mul, -EReal.coe_neg]; norm_num
theorem bTwo : Ideal.ofBits .f32 0x40000000#32 = ((2 : ℝ) : EReal) := by
  simp [Ideal.ofBits, Ideal.ieee, -EReal.coe_mul]; norm_num
theorem b1024th : Ideal.ofBits .f32 0x3A800000#32 = ((1 / 1024 : ℝ) : EReal) := by
  simp [Ideal.ofBits, Ideal.ieee, -EReal.coe_mul]; norm_num
theorem b2048th : Ideal.ofBits .f32 0x3A000000#32 = ((1 / 2048 : ℝ) : EReal) := by
  simp [Ideal.ofBits, Ideal.ieee, -EReal.coe_mul]; norm_num
theorem bEps : ∃ e : ℝ, 0 < e ∧ Ideal.ofBits .f32 0x358637BD#32 = (e : EReal) := by
  refine ⟨_, ?_, by simp [Ideal.ofBits, Ideal.ieee, -EReal.coe_mul]; rfl⟩
  norm_num

/-! ## Being real -/

/-- An extended real that is a real number. -/
def IsReal (x : EReal) : Prop := ∃ a : ℝ, x = (a : EReal)

theorem IsReal.coe (a : ℝ) : IsReal (a : EReal) := ⟨a, rfl⟩
theorem IsReal.zero : IsReal 0 := ⟨0, rfl⟩
theorem IsReal.add {x y : EReal} : IsReal x → IsReal y → IsReal (x + y) | ⟨a, ha⟩, ⟨b, hb⟩ => ⟨a + b, by rw [ha, hb, EReal.coe_add]⟩
theorem IsReal.sub {x y : EReal} : IsReal x → IsReal y → IsReal (x - y) | ⟨a, ha⟩, ⟨b, hb⟩ => ⟨a - b, by rw [ha, hb, EReal.coe_sub]⟩
theorem IsReal.mul {x y : EReal} : IsReal x → IsReal y → IsReal (x * y) | ⟨a, ha⟩, ⟨b, hb⟩ => ⟨a * b, by rw [ha, hb, EReal.coe_mul]⟩
theorem IsReal.max {x y : EReal} (hx : IsReal x) (hy : IsReal y) : IsReal (max x y) := by
  rcases max_choice x y with h | h <;> rw [h] <;> assumption

theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

theorem IsReal.sum {ι : Type} [Fintype ι] {f : ι → EReal} (h : ∀ i, IsReal (f i)) : IsReal (∑ i, f i) := by
  choose g hg using h
  exact ⟨∑ i, g i, by rw [← coe_sum]; exact Finset.sum_congr rfl fun i _ => hg i⟩

/-- A real factor goes into a sum of reals. -/
theorem mul_sum_real {ι : Type} [Fintype ι] (a : ℝ) {f : ι → EReal} (h : ∀ i, IsReal (f i)) : (a : EReal) * ∑ i, f i = ∑ i, (a : EReal) * f i := by
  choose g hg using h
  simp only [hg, coe_sum, ← EReal.coe_mul, Finset.mul_sum]

/-! ## A token of real numbers -/

/-- Every weight and every input of the token is real. -/
structure AllReal (W : Wts) (R : Row) : Prop where
  wo : ∀ k j, IsReal (W.wo k j)
  wu : ∀ q k f, IsReal (W.wu q k f)
  wd : ∀ q f j, IsReal (W.wd q f j)
  g : ∀ j, IsReal (W.g j)
  x : ∀ j, IsReal (R.x j)
  t : ∀ j, IsReal (R.t j)
  p : ∀ j, IsReal (R.p j)
  a : ∀ j, IsReal (R.a j)

variable {W : Wts} {R : Row} (H : AllReal W R)
include H

theorem AllReal.h (j : Fin 1024) : IsReal (h W R j) :=
  (H.x j).add (.sum fun k => .mul (by unfold mix; split; exacts [H.p _, H.a _]) (H.wo k j))

/-- The norm's mean square is a positive real number, and one over its root is what it should be. -/
theorem AllReal.root : ∃ b : ℝ, 0 < b ∧ v W R = (b : EReal) ∧ r W R = (((Real.sqrt b)⁻¹ : ℝ) : EReal) := by
  choose z hz using H.h
  obtain ⟨e, he, hb⟩ := bEps
  have hpos : 0 < (∑ j, z j * z j) * (1 / 1024) + e :=
    add_pos_of_nonneg_of_pos (mul_nonneg (Finset.sum_nonneg fun j _ => mul_self_nonneg _) (by norm_num)) he
  have hv : v W R = (((∑ j, z j * z j) * (1 / 1024) + e : ℝ) : EReal) := by
    unfold v
    rw [b1024, hb, Ideal.div_coe (by norm_num)]
    simp only [hz, ← EReal.coe_mul, coe_sum, ← EReal.coe_add]
  refine ⟨_, hpos, hv, ?_⟩
  unfold r
  rw [hv, Ideal.rsqrt_coe, if_neg hpos.le.not_gt, if_neg hpos.ne']

theorem AllReal.r : IsReal (r W R) := let ⟨_, _, _, e⟩ := H.root; ⟨_, e⟩
theorem AllReal.hn (j : Fin 1024) : IsReal (hn W R j) := (H.h j).mul H.r
theorem AllReal.c (j : Fin 1024) : IsReal (c W R j) := (H.hn j).mul (H.g j)
theorem AllReal.rz (q : Fin 4) (f : Fin 1024) : IsReal (rz W R q f) := .max (.sum fun k => (H.c k).mul (H.wu q k f)) .zero
theorem AllReal.y (j : Fin 1024) : IsReal (y W R j) :=
  (H.h j).add (.sum fun q => .sum fun f => ((H.rz q f).mul (H.rz q f)).mul (H.wd q f j))
theorem AllReal.err (j : Fin 1024) : IsReal (err W R j) := (H.y j).sub (H.t j)
theorem AllReal.dy (j : Fin 1024) : IsReal (dy W R j) := (H.err j).mul (b1024th ▸ .coe _)
theorem AllReal.dz (q : Fin 4) (f : Fin 1024) : IsReal (dz W R q f) :=
  .mul (.sum fun j => (H.dy j).mul (H.wd q f j)) (.mul (bTwo ▸ .coe _) (H.rz q f))
theorem AllReal.dc (k : Fin 1024) : IsReal (dc W R k) := .sum fun q => .sum fun f => (H.dz q f).mul (H.wu q k f)
theorem AllReal.dn (k : Fin 1024) : IsReal (dn W R k) := (H.dc k).mul (H.g k)

/-- The norm's gradient: the derivative of each factor by itself, as a derivative of the root writes it, is the normed
    row's gradient less its part along the row. -/
theorem norm_back (j : Fin 1024) :
    dn W R j * r W R
        + h W R j * Ideal.div ((∑ k, h W R k * dn W R k) * (Ideal.ofBits .f32 0xBF000000#32 * Ideal.div (r W R) (v W R))) (Ideal.ofBits .f32 0x44800000#32)
        + Ideal.div ((∑ k, h W R k * dn W R k) * (Ideal.ofBits .f32 0xBF000000#32 * Ideal.div (r W R) (v W R))) (Ideal.ofBits .f32 0x44800000#32) * h W R j
      = r W R * (dn W R j - hn W R j * mean W R) := by
  obtain ⟨b, hb, hv, hr⟩ := H.root
  choose z hz using H.h
  choose d hd using H.dn
  have hs : (Real.sqrt b) * (Real.sqrt b) = b := Real.mul_self_sqrt hb.le
  unfold mean hn
  rw [b1024, bNegHalf, hv, hr]
  simp only [Ideal.div_coe (show (1024 : ℝ) ≠ 0 by norm_num), Ideal.div_coe hb.ne', hz, hd, ← EReal.coe_mul, coe_sum, ← EReal.coe_add, ← EReal.coe_sub]
  refine congrArg _ ?_
  have hS : ∑ k, d k * (z k * (Real.sqrt b)⁻¹) = (∑ k, z k * d k) * (Real.sqrt b)⁻¹ := by
    rw [Finset.sum_mul]; exact Finset.sum_congr rfl fun k _ => by ring
  rw [hS]
  generalize (∑ k, z k * d k) = S
  rw [show (1 / b : ℝ) = (Real.sqrt b)⁻¹ * (Real.sqrt b)⁻¹ by rw [← mul_inv, hs, one_div]]
  ring

omit H in
/-- The output's gradient, with the loss's factors one after another. -/
theorem dy_factors (x : EReal) :
    Ideal.div (Ideal.ofBits .f32 0x3F000000#32) (Ideal.ofBits .f32 0x44800000#32) * (Ideal.ofBits .f32 0x40000000#32 * x)
      = x * Ideal.ofBits .f32 0x3A800000#32 := by
  rw [bHalf, b1024, bTwo, b1024th, Ideal.div_coe (by norm_num), ← mul_assoc, mul_comm x]
  simp only [← EReal.coe_mul]
  norm_num

omit H in
/-- Halving the sum of the tokens' means is summing each token's share. -/
theorem loss_shares {n : ℕ} {e : Fin n → EReal} (he : ∀ s, IsReal (e s)) :
    Ideal.ofBits .f32 0x3F000000#32 * ∑ s, Ideal.div (e s) (Ideal.ofBits .f32 0x44800000#32) = ∑ s, e s * Ideal.ofBits .f32 0x3A000000#32 := by
  simp only [bHalf, b1024, b2048th, Ideal.div_coe (show (1024 : ℝ) ≠ 0 by norm_num)]
  rw [mul_sum_real _ fun s => (he s).mul (.coe _)]
  refine Finset.sum_congr rfl fun s _ => ?_
  rw [mul_comm, mul_assoc, ← EReal.coe_mul]
  norm_num

/-- A token's part of the loss. -/
theorem AllReal.sq : IsReal (∑ j, HalfRow.err W R j * HalfRow.err W R j) := .sum fun j => (H.err j).mul (H.err j)

end Cert.HalfRow

end
-- ==== Proof.Spec.lean ====
/-
  The eleven arrays of the layer half as one function each of the weights and the tokens.
-/
module

public import proofs.«01_k».proof.Proof.RowMath
public import Idealize.ShloMosaic.Lib.Pointwise.Index

@[expose] public section

noncomputable section

namespace Cert.HalfRow

open Idealize.ShloMosaic

/-- Arrays of two axes are equal when they are row by row. -/
theorem of_rows {a b : ℕ} {A B : (⟨2, ![a, b]⟩ : Shape).Idx → EReal} (h : ∀ r l, A (ix2 r l) = B (ix2 r l)) : A = B :=
  funext fun i => (congrArg A (eq_ix2 i)).trans ((h _ _).trans (congrArg B (eq_ix2 i)).symm)

variable (W : Wts) (R : Fin 8192 → Row)

/-- The mixers' outputs side by side. -/
def mixedOf : (⟨2, ![8192, 1024]⟩ : Shape).Idx → EReal := fun i => mix (R (i 0)) (i 1)
/-- The normed rows. -/
def normedOf : (⟨2, ![8192, 1024]⟩ : Shape).Idx → EReal := fun i => c W (R (i 0)) (i 1)
/-- The squared rectified products. -/
def ffOf : (⟨2, ![8192, 4096]⟩ : Shape).Idx → EReal := fun i => ff W (R (i 0)) ⟨(i 1).val / 1024, Nat.div_lt_of_lt_mul (i 1).isLt⟩ ⟨(i 1).val % 1024, Nat.mod_lt _ (by decide)⟩
/-- Their gradients. -/
def dzOf : (⟨2, ![8192, 4096]⟩ : Shape).Idx → EReal := fun i => dz W (R (i 0)) ⟨(i 1).val / 1024, Nat.div_lt_of_lt_mul (i 1).isLt⟩ ⟨(i 1).val % 1024, Nat.mod_lt _ (by decide)⟩
/-- The output's gradient. -/
def dyOf : (⟨2, ![8192, 1024]⟩ : Shape).Idx → EReal := fun i => dy W (R (i 0)) (i 1)
/-- The residual stream's gradient. -/
def dhOf : (⟨2, ![8192, 1024]⟩ : Shape).Idx → EReal := fun i => dh W (R (i 0)) (i 1)
/-- The two mixers' gradients. -/
def dpoolOf : (⟨2, ![8192, 512]⟩ : Shape).Idx → EReal := fun i => dmix W (R (i 0)) ⟨(i 1).val, Nat.lt_of_lt_of_le (i 1).isLt (show 512 ≤ 1024 by decide)⟩
def dattnOf : (⟨2, ![8192, 512]⟩ : Shape).Idx → EReal := fun i => dmix W (R (i 0)) ⟨512 + (i 1).val, Nat.add_lt_add_left (i 1).isLt 512⟩
/-- The head sums. -/
def deltaOf : (⟨2, ![8192, 512]⟩ : Shape).Idx → EReal := fun i => dlt W (R (i 0)) (i 1)
/-- The gain's gradient, summed over all tokens. -/
def dgainOf : (⟨2, ![1, 1024]⟩ : Shape).Idx → EReal := fun i => ∑ s, dc W (R s) (i 1) * hn W (R s) (i 1)
/-- The loss, the same in every lane. -/
def lossOf : (⟨2, ![1, 128]⟩ : Shape).Idx → EReal := fun _ => ∑ s, (∑ j, err W (R s) j * err W (R s) j) * Ideal.ofBits .f32 0x3A000000#32

end Cert.HalfRow

end
-- ==== Proof.Arrays.lean ====
/-
  The arrays that the launch leaves at the extended reals: row by row, the forward values and the gradients of the tokens
  of the argument arrays; and the two accumulators, sums over all tokens.
-/
module

public import proofs.«01_k».proof.Proof.Body
public import proofs.«01_k».proof.Proof.Rows
public import proofs.«01_k».proof.Proof.RowReal
public import proofs.«01_k».proof.Proof.Spec
public import Idealize.ShloMosaic.Lib.Pipeline.ValueKit

@[expose] public section

set_option maxRecDepth 16384

noncomputable section

namespace Cert.KernelIdeal.Half

open Idealize.ShloMosaic Idealize.ShloMosaic.TcCoe
open Idealize.SL Idealize.SL.Sem
open Idealize.ShloMosaic.Pipeline (Dat Cfg Window)
open Cert.KernelIdeal.Gen Cert.HalfRow

variable (m : (ℓ : Loc nD τ sig) → Buf (Elt Ideal) ℓ) (c : Dev nD)

/-- The weights of the spec from the argument arrays. -/
def argWts : Wts where
  wo k j := V m c main_arg4 (ix2 k j)
  wu q k f := V m c main_arg5 (ix3 q k f)
  wd q f j := V m c main_arg6 (ix3 q f j)
  g j := V m c main_arg7 (ix2 0 j)

/-- Token `s` of the argument arrays. -/
def argRow (s : Fin 8192) : Row where
  x j := V m c main_arg0 (ix2 s j)
  t j := V m c main_arg1 (ix2 s j)
  p j := V m c main_arg2 (ix2 s j)
  a j := V m c main_arg3 (ix2 s j)

/-! ## Where the blocks lie -/

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![t.val, 0] := (by decide +kernel : ∀ t : Fin grid0.N, _)
theorem at9 : ∀ t : Fin cfg0.N, win0_9.index t = ![t.val, 0] := (by decide +kernel : ∀ t : Fin grid0.N, _)
theorem at10 : ∀ t : Fin cfg0.N, win0_10.index t = ![t.val, 0] := (by decide +kernel : ∀ t : Fin grid0.N, _)
theorem at11 : ∀ t : Fin cfg0.N, win0_11.index t = ![t.val, 0] := (by decide +kernel : ∀ t : Fin grid0.N, _)
theorem at12 : ∀ t : Fin cfg0.N, win0_12.index t = ![t.val, 0] := (by decide +kernel : ∀ t : Fin grid0.N, _)
theorem at13 : ∀ t : Fin cfg0.N, win0_13.index t = ![t.val, 0] := (by decide +kernel : ∀ t : Fin grid0.N, _)

/-- Row `s` of point `t`'s blocks is this token. -/
def tok (t : Fin cfg0.N) (s : Fin 256) : Fin 8192 := ⟨t.val * 256 + s.val, by have := Nat.lt_of_lt_of_eq t.isLt N_0; omega⟩

theorem row_of (t : Fin cfg0.N) (s : Fin 256) : rowOf (xAt m c t) (tgtAt m c t) (poolAt m c t) (attnAt m c t) s = argRow m c (tok t s) := by
  unfold rowOf argRow
  congr 1 <;> funext j
  · unfold xAt; blk_simp [iblk]; exact congrArg _ (by blk_ext [at0 t, tok])
  · unfold tgtAt; blk_simp [iblk]; exact congrArg _ (by blk_ext [at1 t, tok])
  · unfold poolAt; blk_simp [iblk]; exact congrArg _ (by blk_ext [at2 t, tok])
  · unfold attnAt; blk_simp [iblk]; exact congrArg _ (by blk_ext [at3 t, tok])

theorem wts_of (t : Fin cfg0.N) : wtsOf (gainAt m c t) (woutAt m c) (wupAt m c) (wdownAt m c) = argWts m c := by
  unfold wtsOf argWts
  congr 1
  funext j
  unfold gainAt; blk_simp [iblk]; exact congrArg _ (by blk_ext [at4 t])

/-! ## The arrays that are written block by block -/

theorem mixed_final : (dats m 0 c).arrAt 5 cfg0.N = mixedOf (argRow m c) := by
  refine (dats m 0 c).arrAt_eq_of_covers 5 _ (by decide +kernel) fun t hf y => ?_
  blk_simp
  have e : (win0_5.blk t).view.emb y = ix2 (tok t (y 0)) (y 1) := by blk_ext [at5 t, tok]
  rw [e]
  exact (congrArg _ (eq_ix2 y)).trans ((mixed_at (xAt m c t) (tgtAt m c t) (poolAt m c t) (attnAt m c t) (y 0) (y 1)).trans (congrArg (fun R => mix R (y 1)) (row_of m c t (y 0))))
theorem normed_final : (dats m 0 c).arrAt 6 cfg0.N = normedOf (argWts m c) (argRow m c) := by
  refine (dats m 0 c).arrAt_eq_of_covers 6 _ (by decide +kernel) fun t hf y => ?_
  blk_simp
  have e : (win0_6.blk t).view.emb y = ix2 (tok t (y 0)) (y 1) := by blk_ext [at6 t, tok]
  rw [e]
  exact (congrArg _ (eq_ix2 y)).trans ((c_at (xAt m c t) (tgtAt m c t) (poolAt m c t) (attnAt m c t) (gainAt m c t) (woutAt m c) (wupAt m c) (wdownAt m c) (y 0) (y 1)).trans (congrArg₂ (fun W R => HalfRow.c W R (y 1)) (wts_of m c t) (row_of m c t (y 0))))
theorem ff_final : (dats m 0 c).arrAt 7 cfg0.N = ffOf (argWts m c) (argRow m c) := by
  refine (dats m 0 c).arrAt_eq_of_covers 7 _ (by decide +kernel) fun t hf y => ?_
  blk_simp
  have e : (win0_7.blk t).view.emb y = ix2 (tok t (y 0)) (y 1) := by blk_ext [at7 t, tok]
  rw [e]
  exact (congrArg _ (eq_ix2 y)).trans ((ffB_at (xAt m c t) (tgtAt m c t) (poolAt m c t) (attnAt m c t) (gainAt m c t) (woutAt m c) (wupAt m c) (wdownAt m c) (y 0) (y 1)).trans (congrArg₂ (fun W R => ff W R ⟨(y 1).val / 1024, Nat.div_lt_of_lt_mul (y 1).isLt⟩ ⟨(y 1).val % 1024, Nat.mod_lt _ (by decide)⟩) (wts_of m c t) (row_of m c t (y 0))))
theorem dz_final : (dats m 0 c).arrAt 8 cfg0.N = dzOf (argWts m c) (argRow m c) := by
  refine (dats m 0 c).arrAt_eq_of_covers 8 _ (by decide +kernel) fun t hf y => ?_
  blk_simp
  have e : (win0_8.blk t).view.emb y = ix2 (tok t (y 0)) (y 1) := by blk_ext [at8 t, tok]
  rw [e]
  exact (congrArg _ (eq_ix2 y)).trans ((dzB_at (xAt m c t) (tgtAt m c t) (poolAt m c t) (attnAt m c t) (gainAt m c t) (woutAt m c) (wupAt m c) (wdownAt m c) (y 0) (y 1)).trans (congrArg₂ (fun W R => dz W R ⟨(y 1).val / 1024, Nat.div_lt_of_lt_mul (y 1).isLt⟩ ⟨(y 1).val % 1024, Nat.mod_lt _ (by decide)⟩) (wts_of m c t) (row_of m c t (y 0))))
theorem dy_final : (dats m 0 c).arrAt 9 cfg0.N = dyOf (argWts m c) (argRow m c) := by
  refine (dats m 0 c).arrAt_eq_of_covers 9 _ (by decide +kernel) fun t hf y => ?_
  blk_simp
  have e : (win0_9.blk t).view.emb y = ix2 (tok t (y 0)) (y 1) := by blk_ext [at9 t, tok]
  rw [e]
  exact (congrArg _ (eq_ix2 y)).trans ((dyb_at (xAt m c t) (tgtAt m c t) (poolAt m c t) (attnAt m c t) (gainAt m c t) (woutAt m c) (wupAt m c) (wdownAt m c) (y 0) (y 1)).trans (congrArg₂ (fun W R => dy W R (y 1)) (wts_of m c t) (row_of m c t (y 0))))
theorem dh_final : (dats m 0 c).arrAt 10 cfg0.N = dhOf (argWts m c) (argRow m c) := by
  refine (dats m 0 c).arrAt_eq_of_covers 10 _ (by decide +kernel) fun t hf y => ?_
  blk_simp
  have e : (win0_10.blk t).view.emb y = ix2 (tok t (y 0)) (y 1) := by blk_ext [at10 t, tok]
  rw [e]
  exact (congrArg _ (eq_ix2 y)).trans ((dh_at (xAt m c t) (tgtAt m c t) (poolAt m c t) (attnAt m c t) (gainAt m c t) (woutAt m c) (wupAt m c) (wdownAt m c) (y 0) (y 1)).trans (congrArg₂ (fun W R => dh W R (y 1)) (wts_of m c t) (row_of m c t (y 0))))
theorem dpool_final : (dats m 0 c).arrAt 11 cfg0.N = dpoolOf (argWts m c) (argRow m c) := by
  refine (dats m 0 c).arrAt_eq_of_covers 11 _ (by decide +kernel) fun t hf y => ?_
  blk_simp
  have e : (win0_11.blk t).view.emb y = ix2 (tok t (y 0)) (y 1) := by blk_ext [at11 t, tok]
  rw [e]
  exact (congrArg _ (eq_ix2 y)).trans ((dyp_at (xAt m c t) (tgtAt m c t) (poolAt m c t) (attnAt m c t) (gainAt m c t) (woutAt m c) (wupAt m c) (wdownAt m c) (y 0) (y 1)).trans (congrArg₂ (fun W R => dmix W R ⟨(y 1).val, Nat.lt_of_lt_of_le (y 1).isLt (show 512 ≤ 1024 by decide)⟩) (wts_of m c t) (row_of m c t (y 0))))
theorem dattn_final : (dats m 0 c).arrAt 12 cfg0.N = dattnOf (argWts m c) (argRow m c) := by
  refine (dats m 0 c).arrAt_eq_of_covers 12 _ (by decide +kernel) fun t hf y => ?_
  blk_simp
  have e : (win0_12.blk t).view.emb y = ix2 (tok t (y 0)) (y 1) := by blk_ext [at12 t, tok]
  rw [e]
  exact (congrArg _ (eq_ix2 y)).trans ((do_at (xAt m c t) (tgtAt m c t) (poolAt m c t) (attnAt m c t) (gainAt m c t) (woutAt m c) (wupAt m c) (wdownAt m c) (y 0) (y 1)).trans (congrArg₂ (fun W R => dmix W R ⟨512 + (y 1).val, Nat.add_lt_add_left (y 1).isLt 512⟩) (wts_of m c t) (row_of m c t (y 0))))
theorem delta_final : (dats m 0 c).arrAt 13 cfg0.N = deltaOf (argWts m c) (argRow m c) := by
  refine (dats m 0 c).arrAt_eq_of_covers 13 _ (by decide +kernel) fun t hf y => ?_
  blk_simp
  have e : (win0_13.blk t).view.emb y = ix2 (tok t (y 0)) (y 1) := by blk_ext [at13 t, tok]
  rw [e]
  exact (congrArg _ (eq_ix2 y)).trans ((dlt_at (xAt m c t) (tgtAt m c t) (poolAt m c t) (attnAt m c t) (gainAt m c t) (woutAt m c) (wupAt m c) (wdownAt m c) (y 0) (y 1)).trans (congrArg₂ (fun W R => dlt W R (y 1)) (wts_of m c t) (row_of m c t (y 0))))

/-! ## The two accumulators -/

/-- Sums over the points so far of sums over each point's tokens are, at the last point, sums over all tokens. -/
theorem sum_tokens (f : Fin 8192 → EReal) : ∑ t : Fin 32, ∑ s : Fin 256, f (tok ⟨t.val, t.isLt⟩ s) = ∑ s, f s :=
  Fin.sum_mul_add_fin 32 256 f

theorem gainStep_at (t : Fin cfg0.N) (acc : Vec Ideal S1x1024 .f32) (u : Fin 1) (l : Fin 1024) :
    gainStep m c t acc (ix2 u l) = acc (ix2 u l) + ∑ s : Fin 256, dc (argWts m c) (argRow m c (tok t s)) l * hn (argWts m c) (argRow m c (tok t s)) l := by
  unfold gainStep
  rw [dg_at]
  simp only [row_of, wts_of]
theorem lossStep_at (t : Fin cfg0.N) (acc : Vec Ideal S1x128 .f32) (u : Fin 1) (l : Fin 128) :
    lossStep m c t acc (ix2 u l) = acc (ix2 u l) + (∑ s : Fin 256, ∑ j, err (argWts m c) (argRow m c (tok t s)) j * err (argWts m c) (argRow m c (tok t s)) j) * Ideal.ofBits .f32 0x3A000000#32 := by
  unfold lossStep
  rw [loss_at]
  simp only [row_of, wts_of]

theorem gainAcc_at (u : Fin 1) (l : Fin 1024) : ∀ (n : ℕ) (h : n < cfg0.N), gainAcc m c n h (ix2 u l)
    = ∑ t : Fin (n + 1), ∑ s : Fin 256, dc (argWts m c) (argRow m c (tok ⟨t.val, by omega⟩ s)) l * hn (argWts m c) (argRow m c (tok ⟨t.val, by omega⟩ s)) l
  | 0, h => by
    rw [gainAcc, gainStep_at, Fin.sum_univ_one, show k0_pay2 (F := Ideal) (ix2 u l) = 0 by pointwise [k0_pay2], zero_add]; rfl
  | n + 1, h => by
    rw [gainAcc, gainStep_at]
    refine Eq.trans ?_ (Fin.sum_univ_castSucc _).symm
    exact congrArg (· + _) (gainAcc_at u l n _)
theorem lossAcc_at (u : Fin 1) (l : Fin 128) : ∀ (n : ℕ) (h : n < cfg0.N), lossAcc m c n h (ix2 u l)
    = ∑ t : Fin (n + 1), (∑ s : Fin 256, ∑ j, err (argWts m c) (argRow m c (tok ⟨t.val, by omega⟩ s)) j * err (argWts m c) (argRow m c (tok ⟨t.val, by omega⟩ s)) j) * Ideal.ofBits .f32 0x3A000000#32
  | 0, h => by
    rw [lossAcc, lossStep_at, Fin.sum_univ_one, show k0_pay3 (F := Ideal) (ix2 u l) = 0 by pointwise [k0_pay3], zero_add]; rfl
  | n + 1, h => by
    rw [lossAcc, lossStep_at]
    refine Eq.trans ?_ (Fin.sum_univ_castSucc _).symm
    exact congrArg (· + _) (lossAcc_at u l n _)

theorem dgain_final : (dats m 0 c).arrAt 14 cfg0.N = dgainOf (argWts m c) (argRow m c) := by
  refine (dats m 0 c).arrAt_eq_of_after_last 14 ⟨31, by decide⟩ (by decide +kernel) _ fun y => ?_
  blk_simp
  have e : (fun a => ⟨(y a).val, (y a).isLt⟩ : S1x1024.Idx) = ix2 (y 0) (y 1) := eq_ix2 y
  refine (congrArg (gainAcc m c 31 (by decide)) e).trans ((gainAcc_at m c (y 0) (y 1) 31 _).trans ?_)
  exact sum_tokens fun s => dc (argWts m c) (argRow m c s) (y 1) * hn (argWts m c) (argRow m c s) (y 1)
/-- The last point's loss, for finite arguments: the common factor moves out of the sum over the points. -/
theorem loss_final (H : ∀ s, AllReal (argWts m c) (argRow m c s)) : (dats m 0 c).arrAt 15 cfg0.N = lossOf (argWts m c) (argRow m c) := by
  refine (dats m 0 c).arrAt_eq_of_after_last 15 ⟨31, by decide⟩ (by decide +kernel) _ fun y => ?_
  blk_simp
  have e : (fun a => ⟨(y a).val, (y a).isLt⟩ : S1x128.Idx) = ix2 (y 0) (y 1) := eq_ix2 y
  refine (congrArg (lossAcc m c 31 (by decide)) e).trans ((lossAcc_at m c (y 0) (y 1) 31 _).trans ?_)
  refine (Finset.sum_congr rfl fun t _ => ?_).trans (sum_tokens fun s => (∑ j, err (argWts m c) (argRow m c s) j * err (argWts m c) (argRow m c s) j) * Ideal.ofBits .f32 0x3A000000#32)
  rw [mul_comm, b2048th, mul_sum_real _ fun s => (H _).sq]
  exact Finset.sum_congr rfl fun s _ => mul_comm _ _

end Cert.KernelIdeal.Half

end
-- ==== Proof.Finite.lean ====
/-
  What the precondition says: every element of the eight arguments is a real number.
-/
module

public import proofs.«01_k».proof.Pre_finite
public import proofs.«01_k».proof.Proof.RowReal
public import Idealize.ShloMosaic.Lib.Pointwise

@[expose] public section

noncomputable section

namespace Cert.HalfRow

open Idealize.ShloMosaic Cert.Pre_finite

/-- The predicate's side conditions. -/
theorem finite_facts : Cert.Pre_finite.Facts := by constructor <;> decide

/-- A number whose distance from zero is below infinity is real. -/
theorem real_of_below {x : EReal} (h : max x (-x) < ⊤) : IsReal x := by
  induction x with
  | bot => simp at h
  | coe a => exact .coe a
  | top => simp at h

/-- So is a number that the predicate's comparison answers with one. -/
theorem real_of_one {x : EReal} (h : BitVec.ofBool (decide (max x (-x) < Ideal.ofBits .f32 0x7F800000#32)) = 1#1) : IsReal x := by
  rw [show Ideal.ofBits .f32 0x7F800000#32 = ⊤ by simp [Ideal.ofBits, Ideal.ieee]] at h
  by_cases hx : max x (-x) < ⊤
  · exact real_of_below hx
  · rw [decide_eq_false hx] at h
    exact absurd h (by decide)

variable (x0 x1 : FVec Ideal S8192x1024 .f32) (x2 : FVec Ideal S8192x512 .bf16) (x3 : FVec Ideal S8192x512 .f32)
  (x4 : FVec Ideal S1024x1024 .bf16) (x5 x6 : FVec Ideal S4x1024x1024 .bf16) (x7 : FVec Ideal S1x1024 .f32)

attribute [local instance] finite_facts

theorem real0 (h : (fn (F := Ideal) x0 x1 x2 x3 x4 x5 x6 x7).1 = fun _ => 1#1) (s : Fin 8192) (l : Fin 1024) : IsReal (x0 (ix2 s l)) := by
  have e := congrFun h (ix2 s l)
  pointwise [fn, fn_part1] at e
  exact real_of_one e
theorem real1 (h : (fn (F := Ideal) x0 x1 x2 x3 x4 x5 x6 x7).2.1 = fun _ => 1#1) (s : Fin 8192) (l : Fin 1024) : IsReal (x1 (ix2 s l)) := by
  have e := congrFun h (ix2 s l)
  pointwise [fn, fn_part1] at e
  exact real_of_one e
theorem real2 (h : (fn (F := Ideal) x0 x1 x2 x3 x4 x5 x6 x7).2.2.1 = fun _ => 1#1) (s : Fin 8192) (l : Fin 512) : IsReal (x2 (ix2 s l)) := by
  have e := congrFun h (ix2 s l)
  pointwise [fn, fn_part1] at e
  exact real_of_one e
theorem real3 (h : (fn (F := Ideal) x0 x1 x2 x3 x4 x5 x6 x7).2.2.2.1 = fun _ => 1#1) (s : Fin 8192) (l : Fin 512) : IsReal (x3 (ix2 s l)) := by
  have e := congrFun h (ix2 s l)
  pointwise [fn, fn_part1] at e
  exact real_of_one e
theorem real4 (h : (fn (F := Ideal) x0 x1 x2 x3 x4 x5 x6 x7).2.2.2.2.1 = fun _ => 1#1) (k j : Fin 1024) : IsReal (x4 (ix2 k j)) := by
  have e := congrFun h (ix2 k j)
  pointwise [fn, fn_part1] at e
  exact real_of_one e
theorem real5 (h : (fn (F := Ideal) x0 x1 x2 x3 x4 x5 x6 x7).2.2.2.2.2.1 = fun _ => 1#1) (q : Fin 4) (k j : Fin 1024) : IsReal (x5 (ix3 q k j)) := by
  have e := congrFun h (ix3 q k j)
  pointwise [fn, fn_part1] at e
  exact real_of_one e
theorem real6 (h : (fn (F := Ideal) x0 x1 x2 x3 x4 x5 x6 x7).2.2.2.2.2.2.1 = fun _ => 1#1) (q : Fin 4) (k j : Fin 1024) : IsReal (x6 (ix3 q k j)) := by
  have e := congrFun h (ix3 q k j)
  pointwise [fn, fn_part1] at e
  exact real_of_one e
theorem real7 (h : (fn (F := Ideal) x0 x1 x2 x3 x4 x5 x6 x7).2.2.2.2.2.2.2 = fun _ => 1#1) (u : Fin 1) (l : Fin 1024) : IsReal (x7 (ix2 u l)) := by
  have e := congrFun h (ix2 u l)
  pointwise [fn, fn_part1] at e
  exact real_of_one e

end Cert.HalfRow

end
-- ==== Proof.RefRows.lean ====
/-
  The reference's values at the extended reals, a token at a time: each stage holds, on its row, the row's forward value
  or gradient.
-/
module

public import proofs.«01_k».proof.Proof.Gen.ReferenceIdeal.Read
public import proofs.«01_k».proof.Proof.RowReal
public import proofs.«01_k».proof.Proof.Spec
public import Idealize.ShloMosaic.Lib.Pipeline.ValueKit.Acc
public import Idealize.ShloMosaic.Lib.Pointwise

@[expose] public section

set_option maxRecDepth 16384

noncomputable section

namespace Cert.ReferenceIdeal.Half

open Cert.ReferenceIdeal Cert.ReferenceIdeal.Gen Idealize.ShloMosaic Cert.HalfRow Cert.ReferenceIdeal.Read

variable (x0 x1 : (⟨S8192x1024, .f32⟩ : BufTy).Contents (Elt Ideal)) (x2 : (⟨S8192x512, .bf16⟩ : BufTy).Contents (Elt Ideal))
  (x3 : (⟨S8192x512, .f32⟩ : BufTy).Contents (Elt Ideal)) (x4 : (⟨S1024x1024, .bf16⟩ : BufTy).Contents (Elt Ideal))
  (x5 x6 : (⟨S4x1024x1024, .bf16⟩ : BufTy).Contents (Elt Ideal)) (x7 : (⟨S1x1024, .f32⟩ : BufTy).Contents (Elt Ideal))

/-- The weights of the spec from the arrays. -/
def wts : Wts where
  wo k j := x4 (ix2 k j)
  wu q k f := x5 (ix3 q k f)
  wd q f j := x6 (ix3 q f j)
  g j := x7 (ix2 0 j)

/-- Token `s` of the spec from the arrays. -/
def row (s : Fin 8192) : Row where
  x j := x0 (ix2 s j)
  t j := x1 (ix2 s j)
  p j := x2 (ix2 s j)
  a j := x3 (ix2 s j)

/-- The mixers' outputs side by side. -/
theorem mixed_at (s : Fin 8192) (l : Fin 1024) : val_main_v8 x2 x3 (ix2 s l) = mix (row x0 x1 x2 x3 s) l := by
  pointwise [val_main_v8, val_main_v0]
  simp only [mix, row]

/-- The residual row. -/
theorem h_at (s : Fin 8192) (l : Fin 1024) : val_main_v10 x0 x2 x3 x4 (ix2 s l) = h (wts x4 x5 x6 x7) (row x0 x1 x2 x3 s) l := by
  pointwise [val_main_v10, val_main_v9, val_main_v1, h]
  simp only [mixed_at x0 x1 x2 x3, wts, row]

/-- The mean of its squares with the small constant … -/
theorem v_at (s : Fin 8192) (u : Fin 1) : val_main_v17 x0 x2 x3 x4 (ix2 s u) = v (wts x4 x5 x6 x7) (row x0 x1 x2 x3 s) := by
  pointwise [val_main_v17, val_main_v16, val_main_v15, val_main_v14, val_main_v13, val_main_v12, val_main_v11, val_main_cst, val_main_cst_0, val_main_cst_1, v]
  simp only [h_at x0 x1 x2 x3 x4 x5 x6 x7]

/-- … and one over its root. -/
theorem r_at (s : Fin 8192) (u : Fin 1) : val_main_v18 x0 x2 x3 x4 (ix2 s u) = r (wts x4 x5 x6 x7) (row x0 x1 x2 x3 s) := by
  pointwise [val_main_v18, r]
  simp only [v_at x0 x1 x2 x3 x4 x5 x6 x7]

theorem hn_at (s : Fin 8192) (l : Fin 1024) : val_main_v23 x0 x2 x3 x4 (ix2 s l) = hn (wts x4 x5 x6 x7) (row x0 x1 x2 x3 s) l := by
  pointwise [val_main_v23, val_main_v22, hn]
  simp only [h_at x0 x1 x2 x3 x4 x5 x6 x7, r_at x0 x1 x2 x3 x4 x5 x6 x7]

theorem c_at (s : Fin 8192) (l : Fin 1024) : val_main_v26 x0 x2 x3 x4 x7 (ix2 s l) = c (wts x4 x5 x6 x7) (row x0 x1 x2 x3 s) l := by
  pointwise [val_main_v26, val_main_v25, val_main_v24, val_main_v7, c]
  simp only [hn_at x0 x1 x2 x3 x4 x5 x6 x7, wts]

/-- The up projection's columns, piece by piece. -/
theorem wu_at (k : Fin 1024) (f : Fin 4096) : val_main_v4 x5 (ix2 k f) = (wts x4 x5 x6 x7).wu ⟨f.val / 1024, by omega⟩ k ⟨f.val % 1024, by omega⟩ := by
  pointwise [val_main_v4, val_main_v3, val_main_v2]
  simp only [wts]

/-- The down projection's rows, piece by piece. -/
theorem wd_at (f : Fin 4096) (j : Fin 1024) : val_main_v6 x6 (ix2 f j) = (wts x4 x5 x6 x7).wd ⟨f.val / 1024, by omega⟩ ⟨f.val % 1024, by omega⟩ j := by
  pointwise [val_main_v6, val_main_v5]
  simp only [wts]

theorem rz_at (s : Fin 8192) (f : Fin 4096) : val_main_v28 x0 x2 x3 x4 x5 x7 (ix2 s f) = rz (wts x4 x5 x6 x7) (row x0 x1 x2 x3 s) ⟨f.val / 1024, by omega⟩ ⟨f.val % 1024, by omega⟩ := by
  pointwise [val_main_v28, val_main_call0_v0, val_main_call0_cst, val_main_v27, rz]
  simp only [c_at x0 x1 x2 x3 x4 x5 x6 x7, wu_at x4 x5 x6 x7]

theorem ff_at (s : Fin 8192) (f : Fin 4096) : val_main_v32 x0 x2 x3 x4 x5 x7 (ix2 s f) = ff (wts x4 x5 x6 x7) (row x0 x1 x2 x3 s) ⟨f.val / 1024, by omega⟩ ⟨f.val % 1024, by omega⟩ := by
  pointwise [val_main_v32, ff]
  simp only [rz_at x0 x1 x2 x3 x4 x5 x6 x7]

/-- The layer's output. -/
theorem y_at (s : Fin 8192) (l : Fin 1024) : val_main_v36 x0 x2 x3 x4 x5 x6 x7 (ix2 s l) = y (wts x4 x5 x6 x7) (row x0 x1 x2 x3 s) l := by
  pointwise [val_main_v36, val_main_v35, y]
  refine congrArg₂ (· + ·) (h_at x0 x1 x2 x3 x4 x5 x6 x7 s l) (Fin.sum_divmod_congr fun f _ _ => ?_)
  exact congrArg₂ (· * ·) (ff_at x0 x1 x2 x3 x4 x5 x6 x7 s f) (wd_at x4 x5 x6 x7 f l)

theorem err_at (s : Fin 8192) (l : Fin 1024) : val_main_v37 x0 x1 x2 x3 x4 x5 x6 x7 (ix2 s l) = err (wts x4 x5 x6 x7) (row x0 x1 x2 x3 s) l := by
  pointwise [val_main_v37, err]
  simp only [y_at x0 x1 x2 x3 x4 x5 x6 x7, row]

theorem dy_at (s : Fin 8192) (l : Fin 1024) : val_main_v51 x0 x1 x2 x3 x4 x5 x6 x7 (ix2 s l) = dy (wts x4 x5 x6 x7) (row x0 x1 x2 x3 s) l := by
  pointwise [val_main_v51, val_main_v50, val_main_v49, val_main_v48, val_main_v47, val_main_v46, val_main_v40, val_main_v39, val_main_cst_6, val_main_cst_11, val_main_cst_12, val_main_cst_13, dy]
  simp only [err_at x0 x1 x2 x3 x4 x5 x6 x7]
  exact dy_factors _

theorem dz_at (s : Fin 8192) (f : Fin 4096) : val_main_v55 x0 x1 x2 x3 x4 x5 x6 x7 (ix2 s f) = dz (wts x4 x5 x6 x7) (row x0 x1 x2 x3 s) ⟨f.val / 1024, by omega⟩ ⟨f.val % 1024, by omega⟩ := by
  have hz := rz_at x0 x1 x2 x3 x4 x5 x6 x7 s f
  revert hz
  pointwise [val_main_v55, val_main_v54, val_main_v53, val_main_v52, val_main_v34, val_main_v33, val_main_v30, val_main_v29, val_main_v28, val_main_call0_v0, val_main_call0_cst, val_main_cst_3, val_main_cst_5, val_main_cst_14, dz]
  simp only [dy_at x0 x1 x2 x3 x4 x5 x6 x7, wd_at x4 x5 x6 x7]
  intro hz
  rw [← hz]
  split
  · rfl
  · rename_i h
    rw [max_eq_right (not_lt.mp h), mul_zero, mul_zero]

theorem dc_at (s : Fin 8192) (l : Fin 1024) : val_main_v56 x0 x1 x2 x3 x4 x5 x6 x7 (ix2 s l) = dc (wts x4 x5 x6 x7) (row x0 x1 x2 x3 s) l := by
  pointwise [val_main_v56, dc]
  refine Fin.sum_divmod_congr fun f _ _ => ?_
  exact congrArg₂ (· * ·) (dz_at x0 x1 x2 x3 x4 x5 x6 x7 s f) (wu_at x4 x5 x6 x7 l f)

theorem dn_at (s : Fin 8192) (l : Fin 1024) : val_main_v61 x0 x1 x2 x3 x4 x5 x6 x7 (ix2 s l) = dn (wts x4 x5 x6 x7) (row x0 x1 x2 x3 s) l := by
  pointwise [val_main_v61, val_main_v60, val_main_v24, val_main_v7, dn]
  simp only [dc_at x0 x1 x2 x3 x4 x5 x6 x7, wts]

/-- The gain's gradient. -/
theorem dg_at (u : Fin 1) (l : Fin 1024) : val_main_v92 x0 x1 x2 x3 x4 x5 x6 x7 (ix2 u l) = ∑ s, dc (wts x4 x5 x6 x7) (row x0 x1 x2 x3 s) l * hn (wts x4 x5 x6 x7) (row x0 x1 x2 x3 s) l := by
  pointwise [val_main_v92, val_main_v62, val_main_v59, val_main_v58, val_main_v57, val_main_cst_15, val_main_cst_16]
  simp only [dc_at x0 x1 x2 x3 x4 x5 x6 x7, hn_at x0 x1 x2 x3 x4 x5 x6 x7]
  exact (Fin.sum_univ_one _).trans (Finset.sum_congr rfl fun s _ => mul_comm _ _)

variable (H : ∀ s, AllReal (wts x4 x5 x6 x7) (row x0 x1 x2 x3 s))
include H

/-- The gradient in the residual stream. -/
theorem dh_at (s : Fin 8192) (l : Fin 1024) : val_main_v77 x0 x1 x2 x3 x4 x5 x6 x7 (ix2 s l) = dh (wts x4 x5 x6 x7) (row x0 x1 x2 x3 s) l := by
  pointwise [val_main_v77, val_main_v76, val_main_v75, val_main_v74, val_main_v73, val_main_v72, val_main_v71, val_main_v70, val_main_v69, val_main_v68, val_main_v67, val_main_v66, val_main_v65, val_main_v64, val_main_v63, val_main_v21, val_main_v20, val_main_v19, val_main_cst_2, val_main_cst_17, val_main_cst_18, val_main_cst_19]
  simp only [dy_at x0 x1 x2 x3 x4 x5 x6 x7, dn_at x0 x1 x2 x3 x4 x5 x6 x7, r_at x0 x1 x2 x3 x4 x5 x6 x7, v_at x0 x1 x2 x3 x4 x5 x6 x7, h_at x0 x1 x2 x3 x4 x5 x6 x7]
  simp only [Fin.sum_univ_one, Finset.univ_unique, Finset.sum_singleton]
  exact congrArg _ (norm_back (H s) l)

theorem dmix_at (s : Fin 8192) (l : Fin 1024) : val_main_v78 x0 x1 x2 x3 x4 x5 x6 x7 (ix2 s l) = dmix (wts x4 x5 x6 x7) (row x0 x1 x2 x3 s) l := by
  pointwise [val_main_v78, val_main_v1, dmix]
  simp only [dh_at x0 x1 x2 x3 x4 x5 x6 x7 H, wts]

theorem dyp_at (s : Fin 8192) (l : Fin 512) : val_main_v79 x0 x1 x2 x3 x4 x5 x6 x7 (ix2 s l) = dmix (wts x4 x5 x6 x7) (row x0 x1 x2 x3 s) ⟨l.val, by omega⟩ := by
  pointwise [val_main_v79]
  simp only [dmix_at x0 x1 x2 x3 x4 x5 x6 x7 H]

theorem do_at (s : Fin 8192) (l : Fin 512) : val_main_v80 x0 x1 x2 x3 x4 x5 x6 x7 (ix2 s l) = dmix (wts x4 x5 x6 x7) (row x0 x1 x2 x3 s) ⟨512 + l.val, by omega⟩ := by
  pointwise [val_main_v80]
  simp only [dmix_at x0 x1 x2 x3 x4 x5 x6 x7 H]

theorem dlt_at (s : Fin 8192) (l : Fin 512) : val_main_v86 x0 x1 x2 x3 x4 x5 x6 x7 (ix2 s l) = dlt (wts x4 x5 x6 x7) (row x0 x1 x2 x3 s) l := by
  pointwise [val_main_v86, val_main_v85, val_main_v84, val_main_v83, val_main_v82, val_main_v81, val_main_cst_20, dlt]
  simp only [do_at x0 x1 x2 x3 x4 x5 x6 x7 H]
  exact Finset.sum_congr rfl fun d _ => by simp only [mul_comm 64 (l.val / 64), row]

/-- The loss. -/
theorem loss_at (u : Fin 1) (l : Fin 128) : val_main_v93 x0 x1 x2 x3 x4 x5 x6 x7 (ix2 u l) = ∑ s, (∑ j, err (wts x4 x5 x6 x7) (row x0 x1 x2 x3 s) j * err (wts x4 x5 x6 x7) (row x0 x1 x2 x3 s) j) * Ideal.ofBits .f32 0x3A000000#32 := by
  pointwise [val_main_v93, val_main_v45, val_main_v44, val_main_v43, val_main_v42, val_main_v41, val_main_v38, val_main_cst_7, val_main_cst_8, val_main_cst_9, val_main_cst_10]
  simp only [err_at x0 x1 x2 x3 x4 x5 x6 x7]
  exact loss_shares fun s => (H s).sq

omit H

/-! ## The arrays -/

theorem mixed_rows : val_main_v87 x2 x3 = mixedOf (row x0 x1 x2 x3) :=
  of_rows fun s l => mixed_at x0 x1 x2 x3 s l
theorem normed_rows : val_main_v88 x0 x2 x3 x4 x7 = normedOf (wts x4 x5 x6 x7) (row x0 x1 x2 x3) :=
  of_rows fun s l => c_at x0 x1 x2 x3 x4 x5 x6 x7 s l
theorem ff_rows : val_main_v89 x0 x2 x3 x4 x5 x7 = ffOf (wts x4 x5 x6 x7) (row x0 x1 x2 x3) :=
  of_rows fun s l => ff_at x0 x1 x2 x3 x4 x5 x6 x7 s l
theorem dz_rows : val_main_v90 x0 x1 x2 x3 x4 x5 x6 x7 = dzOf (wts x4 x5 x6 x7) (row x0 x1 x2 x3) :=
  of_rows fun s l => dz_at x0 x1 x2 x3 x4 x5 x6 x7 s l
theorem dy_rows : val_main_v91 x0 x1 x2 x3 x4 x5 x6 x7 = dyOf (wts x4 x5 x6 x7) (row x0 x1 x2 x3) :=
  of_rows fun s l => dy_at x0 x1 x2 x3 x4 x5 x6 x7 s l
theorem dgain_rows : val_main_v92 x0 x1 x2 x3 x4 x5 x6 x7 = dgainOf (wts x4 x5 x6 x7) (row x0 x1 x2 x3) :=
  of_rows fun s l => dg_at x0 x1 x2 x3 x4 x5 x6 x7 s l

include H

theorem dh_rows : val_main_v77 x0 x1 x2 x3 x4 x5 x6 x7 = dhOf (wts x4 x5 x6 x7) (row x0 x1 x2 x3) :=
  of_rows fun s l => dh_at x0 x1 x2 x3 x4 x5 x6 x7 H s l
theorem dpool_rows : val_main_v79 x0 x1 x2 x3 x4 x5 x6 x7 = dpoolOf (wts x4 x5 x6 x7) (row x0 x1 x2 x3) :=
  of_rows fun s l => dyp_at x0 x1 x2 x3 x4 x5 x6 x7 H s l
theorem dattn_rows : val_main_v80 x0 x1 x2 x3 x4 x5 x6 x7 = dattnOf (wts x4 x5 x6 x7) (row x0 x1 x2 x3) :=
  of_rows fun s l => do_at x0 x1 x2 x3 x4 x5 x6 x7 H s l
theorem delta_rows : val_main_v86 x0 x1 x2 x3 x4 x5 x6 x7 = deltaOf (wts x4 x5 x6 x7) (row x0 x1 x2 x3) :=
  of_rows fun s l => dlt_at x0 x1 x2 x3 x4 x5 x6 x7 H s l
theorem loss_rows : val_main_v93 x0 x1 x2 x3 x4 x5 x6 x7 = lossOf (wts x4 x5 x6 x7) (row x0 x1 x2 x3) :=
  of_rows fun s l => loss_at x0 x1 x2 x3 x4 x5 x6 x7 H s l

end Cert.ReferenceIdeal.Half

end
-- ==== Proof.RefEnd.lean ====
/-
  What the reference ends with: the spec's arrays of its arguments.
-/
module

public import proofs.«01_k».proof.Proof.RefRows
public import proofs.«01_k».proof.Proof.Gen.ReferenceIdeal.Run

@[expose] public section

set_option maxRecDepth 16384

noncomputable section

namespace Cert.ReferenceIdeal.Half

open Cert.ReferenceIdeal Cert.ReferenceIdeal.Gen Idealize.ShloMosaic Idealize.ShloMosaic.TcCoe Idealize.SL.Sem
open Cert.HalfRow Cert.ReferenceIdeal.Read Cert.ReferenceIdeal.Value

variable (m : (ℓ : Loc nD τ sig) → Buf (Elt Ideal) ℓ) (c : Dev nD)

/-- The weights of the spec from a device's arguments. -/
def argWts : Wts := wts (m ((c.tc : Thread nD τ).loc main_arg4)) (m ((c.tc : Thread nD τ).loc main_arg5)) (m ((c.tc : Thread nD τ).loc main_arg6)) (m ((c.tc : Thread nD τ).loc main_arg7))

/-- The tokens of the spec from a device's arguments. -/
def argRow : Fin 8192 → Row := row (m ((c.tc : Thread nD τ).loc main_arg0)) (m ((c.tc : Thread nD τ).loc main_arg1)) (m ((c.tc : Thread nD τ).loc main_arg2)) (m ((c.tc : Thread nD τ).loc main_arg3))

theorem ff_end : res_main_v89 m c = ffOf (argWts m c) (argRow m c) :=
  (val_main_v89_eq m c).trans (ff_rows _ _ _ _ _ _ _ _)
theorem dz_end : res_main_v90 m c = dzOf (argWts m c) (argRow m c) :=
  (val_main_v90_eq m c).trans (dz_rows _ _ _ _ _ _ _ _)
theorem dy_end : res_main_v91 m c = dyOf (argWts m c) (argRow m c) :=
  (val_main_v91_eq m c).trans (dy_rows _ _ _ _ _ _ _ _)
theorem dh_end (H : ∀ s, AllReal (argWts m c) (argRow m c s)) : res_main_v77 m c = dhOf (argWts m c) (argRow m c) :=
  (val_main_v77_eq m c).trans (dh_rows _ _ _ _ _ _ _ _ H)
theorem dpool_end (H : ∀ s, AllReal (argWts m c) (argRow m c s)) : res_main_v79 m c = dpoolOf (argWts m c) (argRow m c) :=
  (val_main_v79_eq m c).trans (dpool_rows _ _ _ _ _ _ _ _ H)
theorem dattn_end (H : ∀ s, AllReal (argWts m c) (argRow m c s)) : res_main_v80 m c = dattnOf (argWts m c) (argRow m c) :=
  (val_main_v80_eq m c).trans (dattn_rows _ _ _ _ _ _ _ _ H)
theorem delta_end (H : ∀ s, AllReal (argWts m c) (argRow m c s)) : res_main_v86 m c = deltaOf (argWts m c) (argRow m c) :=
  (val_main_v86_eq m c).trans (delta_rows _ _ _ _ _ _ _ _ H)
theorem dgain_end : res_main_v92 m c = dgainOf (argWts m c) (argRow m c) :=
  (val_main_v92_eq m c).trans (dgain_rows _ _ _ _ _ _ _ _)
theorem loss_end (H : ∀ s, AllReal (argWts m c) (argRow m c s)) : res_main_v93 m c = lossOf (argWts m c) (argRow m c) :=
  (val_main_v93_eq m c).trans (loss_rows _ _ _ _ _ _ _ _ H)

/-- The reference runs to an end, and from finite arguments its eleven results are the spec's. -/
theorem run_rows (ρ : Dev nD → PrngReg) (H : ∀ c s, AllReal (argWts m c) (argRow m c s)) :
    θ_run defs (onTc (τ := τ) (main (F := Ideal))) ⟨m, fun _ => 0, ρ⟩ fun r => ∀ c : Dev nD,
      r.2.mem ((c.tc : Thread nD τ).loc main_v87) = mixedOf (argRow m c)
      ∧ r.2.mem ((c.tc : Thread nD τ).loc main_v88) = normedOf (argWts m c) (argRow m c)
      ∧ r.2.mem ((c.tc : Thread nD τ).loc main_v89) = ffOf (argWts m c) (argRow m c)
      ∧ r.2.mem ((c.tc : Thread nD τ).loc main_v90) = dzOf (argWts m c) (argRow m c)
      ∧ r.2.mem ((c.tc : Thread nD τ).loc main_v91) = dyOf (argWts m c) (argRow m c)
      ∧ r.2.mem ((c.tc : Thread nD τ).loc main_v77) = dhOf (argWts m c) (argRow m c)
      ∧ r.2.mem ((c.tc : Thread nD τ).loc main_v79) = dpoolOf (argWts m c) (argRow m c)
      ∧ r.2.mem ((c.tc : Thread nD τ).loc main_v80) = dattnOf (argWts m c) (argRow m c)
      ∧ r.2.mem ((c.tc : Thread nD τ).loc main_v86) = deltaOf (argWts m c) (argRow m c)
      ∧ r.2.mem ((c.tc : Thread nD τ).loc main_v92) = dgainOf (argWts m c) (argRow m c)
      ∧ r.2.mem ((c.tc : Thread nD τ).loc main_v93) = lossOf (argWts m c) (argRow m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
    obtain ⟨v87, v88, v89, v90, v91, v77, v79, v80, v86, v92, v93, args⟩ := h c
    refine ⟨v87.trans ?_, v88.trans ?_, v89.trans (ff_end m c), v90.trans (dz_end m c), v91.trans (dy_end m c), v77.trans (dh_end m c (H c)), v79.trans (dpool_end m c (H c)), v80.trans (dattn_end m c (H c)), v86.trans (delta_end m c (H c)), v92.trans (dgain_end m c), v93.trans (loss_end m c (H c)), args⟩
    · exact (val_main_v87_eq _ _).trans (mixed_rows _ _ _ _)
    · exact (val_main_v88_eq _ _ _ _ _).trans (normed_rows _ _ _ _ _ _ _ _)) (run m ρ)

end Cert.ReferenceIdeal.Half

end
-- ==== Proof.GradBody.lean ====
/-
  One point of a weight gradient's launch, for any shapes: the block so far and the two inputs' blocks are read, the new
  block is stored, and a second copy of it in the shorter format.
-/
module

public import Idealize.ShloMosaic.Lib.Pipeline.FrameBody
public import Idealize.ShloMosaic.Lib.Ring
public import Idealize.ShloMosaic.Lib.Tactic
public import Idealize.ShloMosaic.Lib.WholeRead

@[expose] public section

noncomputable section

namespace Cert.WeightGrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {nD : Nat} {τ : Topo} {sig : RefSig} {Λ : Labels}

local notation "𝕄" => MT nD τ sig Unit (Elt F) ℕ (UR sig nD τ) ℕ

/-- A load of a whole memref held at `X` reads `X`. -/
theorem load_whole {S : Shape} {e : EltTy} {M : Memref sig .tc .vmem S e} (hM : M.IsWhole) (X : Vec F S e) (off : Fin S.rank → ℕ) (h)
    (h0 : ∀ a, off a = 0) :
    M.view.readAt (Elt F) (Rect.unit (s := S) off S.size h).toLoadRect (hM.unread X) = X := by
  funext x
  rw [hM.readAt_unread]
  refine congrArg X (funext fun a => Fin.ext ?_)
  show off a + 1 * (x a).val = (x a).val
  rw [h0]; omega

/-- A store of a whole memref leaves the payload. -/
theorem store_whole {S : Shape} {e : EltTy} (M : Memref sig .tc .vmem S e) (f : M.view.ty.Contents (Elt F)) (X : Vec F S e) (off : Fin S.rank → ℕ) (h)
    (h0 : ∀ a, off a = 0) :
    M.view.read (Elt F) (M.view.writes (Elt F) f [⟨Rect.unit (s := S) off S.size h, X⟩]) = X := by
  funext y
  refine View.read_writes_cons_hit _ _ _ _ _ _ _ (funext fun a => Fin.ext ?_)
  show off a + 1 * (y a).val = (y a).val
  rw [h0]; omega

section

variable {SA SB SO : Shape} {ea eb ew : EltTy} (defs : Defs nD τ sig (Elt F) Λ) (c : Dev nD)
  (A : Memref sig .tc .vmem SA ea) (hA : A.IsWhole) (B : Memref sig .tc .vmem SB eb) (hB : B.IsWhole)
  (O : Memref sig .tc .vmem SO .f32) (hO : O.IsWhole) (W : Memref sig .tc .vmem SO ew) (hW : W.IsWhole)
  (oa : Fin SA.rank → ℕ) (ia : ∀ a, oa a + SA.size a ≤ SA.size a) (ob : Fin SB.rank → ℕ) (ib : ∀ a, ob a + SB.size a ≤ SB.size a)
  (oo : Fin SO.rank → ℕ) (io : ∀ a, oo a + SO.size a ≤ SO.size a)
  (na : 0 < SA.numel) (nb : 0 < SB.numel) (no : 0 < SO.numel)
  (new : Vec F SO .f32 → Vec F SA ea → Vec F SB eb → Vec F SO .f32) (short : Vec F SO .f32 → Vec F SA ea → Vec F SB eb → Vec F SO ew)
  (sw : (W.view.slice (Rect.unit (s := SO) oo SO.size io)).Stores Finset.univ)

/-- The point's program. -/
def pointProg : Prog (TpuEff nD τ sig (Elt F) Λ .tc) PUnit := do
  let o : Vec F SO .f32 ← Prog.lift (.load O (Rect.unit (s := SO) oo SO.size io).toLoadRect (View.loadsAt_vmem no))
  let a : Vec F SA ea ← Prog.lift (.load A (Rect.unit (s := SA) oa SA.size ia).toLoadRect (View.loadsAt_vmem na))
  let b : Vec F SB eb ← Prog.lift (.load B (Rect.unit (s := SB) ob SB.size ib).toLoadRect (View.loadsAt_vmem nb))
  let _ : Vec F SO .f32 ← Prog.lift (.load O (Rect.unit (s := SO) oo SO.size io).toLoadRect (View.loadsAt_vmem no))
  Prog.lift (.store O (Rect.unit (s := SO) oo SO.size io) (new o a b) Finset.univ (View.stores_vmem_bits_univ no rfl) (.inl rfl))
  let _ : Vec F SO ew ← Prog.lift (.load W (Rect.unit (s := SO) oo SO.size io).toLoadRect (View.loadsAt_vmem no))
  Prog.lift (.store W (Rect.unit (s := SO) oo SO.size io) (short o a b) Finset.univ sw (.inl rfl))
  pure ⟨⟩

include hA hB hO in
theorem point_run (za : ∀ a, oa a = 0) (zb : ∀ a, ob a = 0) (zo : ∀ a, oo a = 0)
    (a : Vec F SA ea) (b : Vec F SB eb) (o : Vec F SO .f32) (K : PUnit → sProp 𝕄) :
    iprop(owns (c : Thread nD τ) A fullShare a ∗ owns (c : Thread nD τ) B fullShare b ∗ owns (c : Thread nD τ) O fullShare o
        ∗ (∃ d, owns (c : Thread nD τ) W fullShare d)
        ∗ (iprop(owns (c : Thread nD τ) A fullShare a ∗ owns (c : Thread nD τ) B fullShare b
            ∗ owns (c : Thread nD τ) O fullShare (new o a b) ∗ owns (c : Thread nD τ) W fullShare (short o a b)) -∗ K ⟨⟩))
      ⊢ wp frame (wpE defs Variants.none c none) Set.univ (pointProg A B O W oa ia ob ib oo io na nb no new short sw) K := by
  have e0 := load_whole hA a oa ia za
  have e1 := load_whole hB b ob ib zb
  have e2 := load_whole hO o oo io zo
  unfold pointProg owns
  iintro ⟨⟨%fa, %ha, HA⟩, ⟨%fb, %hb, HB⟩, ⟨%fo, %ho, HO⟩, ⟨%d, %fw, -, HW⟩, Hk⟩
  obtain rfl := hA.eq_unread ha; obtain rfl := hB.eq_unread hb; obtain rfl := hO.eq_unread ho
  sl_exec
  simp only [e0, e1, e2]
  sl_step
  iapply Hk
  isplitl [HA]
  · iexists _; isplitr; swap; · iexact HA
    ipureintro; exact hA.read_unread _
  isplitl [HB]
  · iexists _; isplitr; swap; · iexact HB
    ipureintro; exact hB.read_unread _
  isplitl [HO]
  · iexists _; isplitr; swap; · iexact HO
    ipureintro; exact store_whole O _ _ oo io zo
  · iexists _; isplitr; swap; · iexact HW
    ipureintro; exact store_whole W _ _ oo io zo

end

end Cert.WeightGrad

end
-- ==== Proof.GradIn.lean ====
/-
  The in projection's weight gradient: at a point of the 4 × 2 grid a block of columns takes one half of the tokens'
  products, the first half's on top of zero, the second half's on top of the first's.
-/
module

public import proofs.«01_k».proof.Defs
public import proofs.«01_k».proof.Proof.GradBody
public import proofs.«01_k».proof.Proof.Gen.KernelIn
public import proofs.«01_k».proof.Proof.Gen.KernelInIdeal
public import proofs.«01_k».proof.Proof.Gen.KernelInIdeal.Frame
public import proofs.«01_k».proof.Proof.Gen.KernelInIdeal.Skeleton
public import proofs.«01_k».proof.Proof.Gen.ReferenceInIdeal
public import Idealize.ShloMosaic.Lib.Claim
public import Idealize.ShloMosaic.Lib.Quiescent
public import Idealize.ShloMosaic.Lib.Pipeline.ValueKit
public import proofs.«01_k».proof.Proof.Gen.ReferenceInIdeal.Read

@[expose] public section

set_option maxRecDepth 16384

noncomputable section

namespace Cert.KernelInIdeal.Grad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelInIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block of a point -/

theorem half_of : ∀ t : Fin cfg0.N, (grid0.coords t 2).val = t.val % 2 := (by decide +kernel : ∀ t : Fin grid0.N, _)

/-- At the first half of the tokens what is there already is not taken. -/
theorem starts (i : grid0.Coords) (h : (i 2).val = 0) (v v' : Vec F S1x1024x512 .f32) (a : Vec F S4096x1024 .bf16) (b : Vec F S4096x512 .bf16) : k0_pay1 i v a b = k0_pay1 i v' a b := by
  have e : Scalar.cmpi .sgt (BitVec.ofNat 32 (i 2).val) 0#32 = 0#1 := by rw [h]; rfl
  unfold k0_pay1
  simp only [e]; rfl

/-- The block after a point over the block before it, and the copy of it. -/
def step (c : Dev nD) (t : Fin cfg0.N) (o : Vec F S1x1024x512 .f32) : Vec F S1x1024x512 .f32 := k0_pay2 (grid0.coords t) o (iblk m c 0 t) (iblk m c 1 t)
def copied (c : Dev nD) (t : Fin cfg0.N) (o : Vec F S1x1024x512 .f32) : Vec F S1x1024x512 .bf16 := k0_pay3 (grid0.coords t) o (iblk m c 0 t) (iblk m c 1 t)

theorem step_starts (c : Dev nD) (t : Fin cfg0.N) (h : t.val % 2 = 0) (o o' : Vec F S1x1024x512 .f32) : step m c t o = step m c t o' := by
  unfold step k0_pay2; rw [starts _ ((half_of t).trans h) o o']
theorem copied_starts (c : Dev nD) (t : Fin cfg0.N) (h : t.val % 2 = 0) (o o' : Vec F S1x1024x512 .f32) : copied m c t o = copied m c t o' := by
  unfold copied k0_pay3; rw [starts _ ((half_of t).trans h) o o']

/-- The block before point `n`, as if the points were one long sum. -/
def sofar (c : Dev nD) : (n : ℕ) → n < cfg0.N + 1 → Vec F S1x1024x512 .f32
  | 0, _ => fun _ => Scalar.ofBits .f32 0
  | n + 1, h => step m c ⟨n, Nat.lt_of_succ_lt_succ h⟩ (sofar c n (Nat.lt_of_succ_lt h))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => step m c t (sofar m c t.val (Nat.lt_succ_of_lt t.isLt))
    | ⟨3, _⟩ => copied m c t (sofar m c t.val (Nat.lt_succ_of_lt t.isLt))
    | ⟨_ + 4, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem finds0 (c : Dev nD) (t : Fin cfg0.N) (d) : (dats m 0 c).before 0 t d = iblk m c 0 t :=
  before0_0_of m (dats m 0 c) (A_eq m c 0) (fun _ => rfl) t d
theorem finds1 (c : Dev nD) (t : Fin cfg0.N) (d) : (dats m 0 c).before 1 t d = iblk m c 1 t :=
  before0_1_of m (dats m 0 c) (A_eq m c 1) (fun _ => rfl) t d
theorem finds2 (c : Dev nD) (t : Fin cfg0.N) (h : t.val % 2 ≠ 0) (d) : (dats m 0 c).before 2 t d = sofar m c t.val (Nat.lt_succ_of_lt t.isLt) := by
  obtain ⟨_ | n, hn⟩ := t
  · exact absurd rfl h
  rw [Dat.before_out_kept _ 2 rfl ⟨n + 1, hn⟩ (Nat.succ_ne_zero n) (Bool.eq_false_iff.mpr fun h' => by
    have := (flush0_2 _).mp h'; dsimp only at this h; omega) (fun _ => rfl) (fun _ _ => rfl)]
  rfl

/-! ## The body at a point -/

/-- Over whatever the block's buffer holds at a point, the point leaves the data's block and copy. -/
theorem leaves (c : Dev nD) (t : Fin cfg0.N) (d) : step m c t ((dats m 0 c).before 2 t d) = (dats m 0 c).after 2 t
    ∧ copied m c t ((dats m 0 c).before 2 t d) = (dats m 0 c).after 3 t := by
  by_cases h : t.val % 2 = 0
  · exact ⟨step_starts m c t h _ _, copied_starts m c t h _ _⟩
  · rw [finds2 m c t h]; exact ⟨rfl, rfl⟩

def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_run (c : Dev nD) (t : Fin cfg0.N) :
    given m c t ⊢ wp frame (wpE (defs₀ (F := F)) Variants.none c none) Set.univ (bodyAt0 t) (fun _ => returned m c t) := by
  unfold given returned bodyAt0
  rw [cc0_wgrad_in_eq_skeleton]
  iintro ⟨HΦ, Hw, ⟨%d0, H0⟩, ⟨%d1, H1⟩, ⟨%d2, H2⟩, ⟨%d3, H3⟩⟩
  rw [finds0 m c t d0, finds1 m c t d1, ← (leaves m c t d2).1, ← (leaves m c t d2).2]
  iapply (WeightGrad.point_run (defs₀ (F := F)) c (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) ![0, 0] inb_S4096x1024_S4096x1024_0_0 ![0, 0] inb_S4096x512_S4096x512_0_0
    ![0, 0, 0] inb_S1x1024x512_S1x1024x512_0_0_0 h_S4096x1024 h_S4096x512 h_S1x1024x512 (k0_pay2 (grid0.coords t)) (k0_pay3 (grid0.coords t))
    (View.stores_vmem h_S1x1024x512 ((hstage0_3 ((cfg0.slots t 3).cast nbuf0_3)).storeExact_slice rfl _ packedbf16_S1x1024x512_S1x1024x512_0_0_0) (fun _ => rfl))
    (by decide) (by decide) (by decide) (iblk m c 0 t) (iblk m c 1 t) ((dats m 0 c).before 2 t d2) _)
  isplitl [H0]; · iexact H0
  isplitl [H1]; · iexact H1
  isplitl [H2]; · iexact H2
  isplitl [H3]; · iexists _; iexact H3
  iintro ⟨H0, H1, H2, H3⟩
  isplitl [HΦ]; · rw [show (dats m 0 c).Φ t.succ = (dats m 0 c).Φ t.castSucc from rfl]; iexact HΦ
  isplitl [Hw]; · rw [show (dats m 0 c).owesAt () t.succ = (dats m 0 c).owesAt () t.castSucc from rfl]; iexact Hw
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (body_run m c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments stay as they were and the semaphores end at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ))) ((θ_run defs _ _).mono (fun _ h => h.2) (run_main m ρ))

/-! ## The values -/

section Values

variable (m : (ℓ : Loc nD τ sig) → Buf (Elt Ideal) ℓ) (c : Dev nD)

theorem pay_first (i : grid0.Coords) (h : (i 2).val = 0) (v : Vec Ideal S1x1024x512 .f32) (a : Vec Ideal S4096x1024 .bf16) (b : Vec Ideal S4096x512 .bf16) (u : Fin 1) (p : Fin 1024) (q : Fin 512) :
    k0_pay2 i v a b (ix3 u p q) = ∑ s : Fin 4096, a (ix2 s p) * b (ix2 s q) := by
  have e : Scalar.cmpi .sgt (BitVec.ofNat 32 (i 2).val) 0#32 = 0#1 := by rw [h]; rfl
  pointwise [k0_pay2, k0_pay1, e]
theorem pay_later (i : grid0.Coords) (h : (i 2).val = 1) (v : Vec Ideal S1x1024x512 .f32) (a : Vec Ideal S4096x1024 .bf16) (b : Vec Ideal S4096x512 .bf16) (u : Fin 1) (p : Fin 1024) (q : Fin 512) :
    k0_pay2 i v a b (ix3 u p q) = v (ix3 u p q) + ∑ s : Fin 4096, a (ix2 s p) * b (ix2 s q) := by
  have e : Scalar.cmpi .sgt (BitVec.ofNat 32 (i 2).val) 0#32 = 1#1 := by rw [h]; rfl
  obtain rfl : u = 0 := Subsingleton.elim _ _
  pointwise [k0_pay2, k0_pay1, e]
theorem pay_copy (i : grid0.Coords) (v : Vec Ideal S1x1024x512 .f32) (a : Vec Ideal S4096x1024 .bf16) (b : Vec Ideal S4096x512 .bf16) :
    k0_pay3 i v a b = k0_pay2 i v a b := by
  unfold k0_pay3 k0_pay2; rfl

theorem at0 : ∀ t : Fin cfg0.N, win0_0.index t = ![t.val % 2, 0] := (by decide +kernel : ∀ t : Fin grid0.N, _)
theorem at1 : ∀ t : Fin cfg0.N, win0_1.index t = ![t.val % 2, t.val / 2] := (by decide +kernel : ∀ t : Fin grid0.N, _)
theorem at2 : ∀ t : Fin cfg0.N, win0_2.index t = ![t.val / 2, 0, 0] := (by decide +kernel : ∀ t : Fin grid0.N, _)
theorem at3 : ∀ t : Fin cfg0.N, win0_3.index t = ![t.val / 2, 0, 0] := (by decide +kernel : ∀ t : Fin grid0.N, _)

/-- The gradient's quarters: at an entry, over all tokens, the input times the output's cotangent. -/
def gradOf (a : Vec Ideal S8192x1024 .bf16) (b : Vec Ideal S8192x2048 .bf16) : Vec Ideal S4x1024x512 .f32 := fun y =>
  ∑ s : Fin 8192, a (ix2 s (y 1)) * b (ix2 s ⟨(y 0).val * 512 + (y 2).val, by have h0 : (y 0).val < 4 := (y 0).isLt; have h2 : (y 2).val < 512 := (y 2).isLt; omega⟩)

/-- The two argument arrays. -/
abbrev inputs (c : Dev nD) : Vec Ideal S8192x1024 .bf16 := V m c main_arg0
abbrev cotangents (c : Dev nD) : Vec Ideal S8192x2048 .bf16 := V m c main_arg1

theorem block0 (t : Fin cfg0.N) (s : Fin 4096) (p : Fin 1024) :
    (iblk m c 0 t : Vec Ideal S4096x1024 .bf16) (ix2 s p) = inputs m c (ix2 ⟨t.val % 2 * 4096 + s.val, by omega⟩ p) := by
  blk_simp [iblk]; exact congrArg _ (by blk_ext [at0 t])
theorem block1 (t : Fin cfg0.N) (s : Fin 4096) (q : Fin 512) :
    (iblk m c 1 t : Vec Ideal S4096x512 .bf16) (ix2 s q) = cotangents m c (ix2 ⟨t.val % 2 * 4096 + s.val, by omega⟩
      ⟨t.val / 2 * 512 + q.val, by have := Nat.lt_of_lt_of_eq t.isLt N_0; omega⟩) := by
  blk_simp [iblk]; exact congrArg _ (by blk_ext [at1 t])

/-- After the second half a block holds its sums over all tokens. -/
theorem full (t : Fin cfg0.N) (ht : t.val % 2 = 1) (u : Fin 1) (p : Fin 1024) (q : Fin 512) :
    step m c t (sofar m c t.val (Nat.lt_succ_of_lt t.isLt)) (ix3 u p q) = ∑ s : Fin 8192, inputs m c (ix2 s p)
      * cotangents m c (ix2 s ⟨t.val / 2 * 512 + q.val, by have := Nat.lt_of_lt_of_eq t.isLt N_0; omega⟩) := by
  obtain ⟨_ | n, hn⟩ := t
  · exact absurd ht Nat.zero_ne_one
  have h0 : n % 2 = 0 := by dsimp only at ht; omega
  have hd : (n + 1) / 2 = n / 2 := by omega
  have prev : sofar m c (n + 1) (Nat.lt_succ_of_lt hn) = step m c ⟨n, Nat.lt_of_succ_lt hn⟩ (sofar m c n (Nat.lt_succ_of_lt (Nat.lt_of_succ_lt hn))) := rfl
  rw [prev]
  unfold step
  rw [pay_later _ ((half_of _).trans ht), pay_first _ ((half_of _).trans h0)]
  simp only [block0, block1, ht, h0, hd]
  refine Eq.trans ?_ (Fin.sum_mul_add_fin 2 4096 _)
  rw [Fin.sum_univ_two]
  rfl

theorem grad_final : (dats m 0 c).arrAt 2 cfg0.N = gradOf (inputs m c) (cotangents m c) := by
  refine (dats m 0 c).arrAt_eq_of_covers 2 _ (by decide +kernel) fun t hf y => ?_
  have ht := (flush0_2 t).mp hf
  blk_simp
  have e : (win0_2.blk t).view.emb y = ix3 ⟨t.val / 2, by have := Nat.lt_of_lt_of_eq t.isLt N_0; omega⟩ (y 1) (y 2) := by blk_ext [at2 t]
  rw [e]
  exact (congrArg _ (eq_ix3 y)).trans (full m c t ht (y 0) (y 1) (y 2))
theorem copy_final : (dats m 0 c).arrAt 3 cfg0.N = gradOf (inputs m c) (cotangents m c) := by
  refine (dats m 0 c).arrAt_eq_of_covers 3 _ (by decide +kernel) fun t hf y => ?_
  have ht := (flush0_3 t).mp hf
  blk_simp
  have e : (win0_3.blk t).view.emb y = ix3 ⟨t.val / 2, by have := Nat.lt_of_lt_of_eq t.isLt N_0; omega⟩ (y 1) (y 2) := by blk_ext [at3 t]
  rw [e]
  exact (congrFun (pay_copy _ _ _ _) _).trans ((congrArg _ (eq_ix3 y)).trans (full m c t ht (y 0) (y 1) (y 2)))

end Values

end Cert.KernelInIdeal.Grad

namespace Cert.ReferenceInIdeal.Grad

open Idealize.ShloMosaic Idealize.ShloMosaic.TcCoe Idealize.SL.Sem Idealize.ShloMosaic.StableHlo
open Cert.ReferenceInIdeal.Gen Cert.ReferenceInIdeal.Read

/-- The reference's gradient is the same sums. -/
theorem grad_eq (a : Vec Ideal S8192x1024 .bf16) (b : Vec Ideal S8192x2048 .bf16) : val_main_v9 (F := Ideal) a b = KernelInIdeal.Grad.gradOf a b := by
  funext y
  obtain ⟨r, p, q, rfl⟩ : ∃ (r : Fin 4) (p : Fin 1024) (q : Fin 512), y = ix3 r p q := ⟨y 0, y 1, y 2, eq_ix3 y⟩
  rw [val_main_v9_apply, val_main_v8_apply, val_main_v7_apply, val_main_v6_apply]
  refine Finset.sum_congr rfl fun s _ => (mul_comm _ _).trans (congrArg₂ (· * ·) ?_ ?_)
  · refine congrArg a (funext fun x => Fin.ext ?_)
    match x with
    | ⟨0, _⟩ => rfl
    | ⟨1, _⟩ => show ((p.val * 4 + r.val) * 512 + q.val) / 2048 = p.val; omega
  · refine congrArg b (funext fun x => Fin.ext ?_)
    match x with
    | ⟨0, _⟩ => rfl
    | ⟨1, _⟩ => show ((p.val * 4 + r.val) * 512 + q.val) % 2048 = r.val * 512 + q.val; omega

end Cert.ReferenceInIdeal.Grad

namespace Cert.Proof.In

open Idealize.ShloMosaic Idealize.SL.Sem

theorem body_same : ∀ l a, (Cert.KernelIn.defs₀ (F := Bits)) .tc l a = (Cert.KernelInIdeal.defs₀ (F := Bits)) .tc l a
  | 0, (t, s) => by
    delta Cert.KernelIn.defs₀ Cert.KernelInIdeal.defs₀
    dsimp only [Defs.onTc]
    rfl

/-- The program as printed for the machine's floats and the one read over the extended reals have one table. -/
theorem tables_same : Cert.KernelIn.defs (F := Bits) = Cert.KernelInIdeal.defs (F := Bits) :=
  congrArg (Pipeline.defs (Cert.KernelInIdeal.pcfgs (F := Bits))) (funext fun
    | .tc => funext fun l => funext fun a => body_same l a
    | .scScalar _ => rfl
    | .scVector _ _ => rfl)

theorem frame_kernel : Cert.quiescent_KernelIn := fun m ρ _ => by
  rw [tables_same]
  exact (θ_run Cert.KernelInIdeal.defs _ _).mono (fun _ h => h) (Cert.KernelInIdeal.Grad.kernel_frame (F := Bits) m ρ)
theorem frame_ideal : Cert.quiescent_KernelInIdeal := fun m ρ _ => Cert.KernelInIdeal.Grad.kernel_frame m ρ
theorem frame_reference : Cert.quiescent_ReferenceInIdeal := fun m ρ _ =>
  (θ_run Cert.ReferenceInIdeal.defs _ _).mono
    (fun r h => ⟨fun c => (h c).2.2, sem_eq_zero_of_no_sems (by decide) r.2⟩) (Cert.ReferenceInIdeal.Value.run m ρ)

open Cert.KernelInIdeal.Grad in
theorem same_values : Cert.algebraic_KernelInIdeal_ReferenceInIdeal := fun m g m' g' _ heq => by
  refine ⟨fun c => gradOf (inputs m c) (cotangents m c), fun c => gradOf (inputs m c) (cotangents m c), ?_, ?_⟩
  · refine (θ_run Cert.KernelInIdeal.defs _ _).mono (fun _ h c => ?_) (θ_run_and (run_main m g) (kernel_frame m g))
    have out := (h.1.1 c).1
    exact ⟨(out 2).trans (grad_final m c), (out 3).trans (copy_final m c), h.2.1 c⟩
  · refine (θ_run Cert.ReferenceInIdeal.defs _ _).mono (fun _ h c => ?_) (Cert.ReferenceInIdeal.Value.run m' g')
    have e := Cert.ReferenceInIdeal.Grad.grad_eq (m' ((c.tc : Thread Cert.ReferenceInIdeal.nD Cert.ReferenceInIdeal.τ).loc Cert.ReferenceInIdeal.main_arg0))
      (m' ((c.tc : Thread Cert.ReferenceInIdeal.nD Cert.ReferenceInIdeal.τ).loc Cert.ReferenceInIdeal.main_arg1))
    rw [(heq c).1, (heq c).2.1] at e
    refine ⟨(h c).1.trans ?_, (h c).2.1.trans ?_, (h c).2.2⟩
    · rw [(heq c).1, (heq c).2.1]; exact e
    · rw [(heq c).1, (heq c).2.1]; exact e

end Cert.Proof.In

end
-- ==== Proof.MixRun.lean ====
/-
  One point of the mixer's input half: 1024 tokens are normalised and projected four ways, the queries and keys normalised by
  head, and the trailing means taken out of a buffer that holds the point's rows below the last 16 of the point before.
-/
module

public import proofs.«01_k».proof.Proof.GradBody
public import proofs.«01_k».proof.Proof.Gen.KernelMixIdeal
public import proofs.«01_k».proof.Proof.Gen.KernelMixIdeal.Frame
public import proofs.«01_k».proof.Proof.Gen.KernelMixIdeal.Skeleton
public import Idealize.ShloMosaic.Lib.Claim
public import Idealize.ShloMosaic.Lib.Quiescent
public import Idealize.ShloMosaic.Lib.WritesUnit
public import Idealize.ShloMosaic.Lib.Pipeline.ValueKit

@[expose] public section

set_option maxRecDepth 16384

noncomputable section

namespace Cert.KernelMixIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelMixIdeal.Gen

variable {F : FTy → Type} [FloatOps F]

local notation "𝕄" => MT nD τ sig Unit (Elt F) ℕ (UR sig nD τ) ℕ

/-! ## Parts of arrays -/

/-- The part of `X` that a load of a rectangle reads. -/
def cut {S : Shape} {e : EltTy} (X : Vec F S e) (B : LoadRect S) : B.shape.Idx → Elt F e := fun x => X (B.idx x)

theorem load_cut {S : Shape} {e : EltTy} {M : Memref sig .tc .vmem S e} (hM : M.IsWhole) (X : Vec F S e) (B : LoadRect S) :
    M.view.readAt (Elt F) B (hM.unread X) = cut X B := funext fun x => hM.readAt_unread X B x

theorem cut_whole {S : Shape} {e : EltTy} (X : Vec F S e) (off : Fin S.rank → ℕ) (h) (h0 : ∀ a, off a = 0) :
    cut X (Rect.unit (s := S) off S.size h).toLoadRect = X := by
  funext x
  refine congrArg X (funext fun a => Fin.ext ?_)
  show off a + 1 * (x a).val = (x a).val
  rw [h0]; omega

/-- Four groups of 128 columns side by side. -/
def join {e : EltTy} (p0 p1 p2 p3 : Vec F S1024x128 e) : Vec F S1024x512 e := fun y =>
  (if (y 1).val < 128 then p0 else if (y 1).val < 256 then p1 else if (y 1).val < 384 then p2 else p3)
    (ix2 (y 0) ⟨(y 1).val % 128, Nat.mod_lt _ (by decide)⟩)

abbrev groupRect (o : ℕ) (h : ∀ a, (![0, o] : Fin 2 → ℕ) a + S1024x128.size a ≤ S1024x512.size a) : Rect S1024x512 :=
  Rect.unit (s := S1024x512) ![0, o] S1024x128.size h

theorem join_groups {e : EltTy} (M : Memref sig .tc .vmem S1024x512 e) (f : M.view.ty.Contents (Elt F)) (p0 p1 p2 p3 : Vec F S1024x128 e) (h0 h1 h2 h3) :
    M.view.read (Elt F) (M.view.writes (Elt F) f [⟨groupRect 384 h3, p3⟩, ⟨groupRect 256 h2, p2⟩, ⟨groupRect 128 h1, p1⟩, ⟨groupRect 0 h0, p0⟩])
      = join p0 p1 p2 p3 := by
  funext y
  refine View.read_writes_apply_of_pieces M.view f (join p0 p1 p2 p3) _ ?_ y ?_
  · intro p hp x
    simp only [List.mem_cons, List.not_mem_nil, or_false] at hp
    have key : ∀ (o : ℕ) (h) (x : S1024x128.Idx), o % 128 = 0 → (ix2 ((groupRect o h).emb x 0) ⟨((groupRect o h).emb x 1).val % 128, Nat.mod_lt _ (by decide)⟩ : S1024x128.Idx) = x := by
      intro o h x ho
      have h1 : (x 1).val < 128 := (x 1).isLt
      refine funext fun a => Fin.ext ?_
      match a with
      | ⟨0, _⟩ => show 0 + 1 * (x 0).val = (x 0).val; omega
      | ⟨1, _⟩ => show (o + 1 * (x 1).val) % 128 = (x 1).val; omega
    have val : ∀ (o : ℕ) (h) (x : S1024x128.Idx), ((groupRect o h).emb x 1).val = o + 1 * (x 1).val := fun _ _ _ => rfl
    have lt : ∀ x : S1024x128.Idx, (x 1).val < 128 := fun x => (x 1).isLt
    rcases hp with rfl | rfl | rfl | rfl
    · have := val 384 h3 x; have := lt x
      show p3 x = join p0 p1 p2 p3 ((groupRect 384 h3).emb x)
      unfold join; rw [if_neg (by omega), if_neg (by omega), if_neg (by omega), key 384 h3 x rfl]
    · have := val 256 h2 x; have := lt x
      show p2 x = join p0 p1 p2 p3 ((groupRect 256 h2).emb x)
      unfold join; rw [if_neg (by omega), if_neg (by omega), if_pos (by omega), key 256 h2 x rfl]
    · have := val 128 h1 x; have := lt x
      show p1 x = join p0 p1 p2 p3 ((groupRect 128 h1).emb x)
      unfold join; rw [if_neg (by omega), if_pos (by omega), key 128 h1 x rfl]
    · have := val 0 h0 x; have := lt x
      show p0 x = join p0 p1 p2 p3 ((groupRect 0 h0).emb x)
      unfold join; rw [if_pos (by omega), key 0 h0 x rfl]
  · have hy0 : (y 0).val < 1024 := (y 0).isLt
    have hy1 : (y 1).val < 512 := (y 1).isLt
    have key : ∀ o h, o ≤ (y 1).val → (y 1).val < o + 128 → y ∈ (groupRect o h).set := fun o h h1 h2 => by
      refine (groupRect o h).mem_set.mpr fun a => ?_
      match a with
      | ⟨0, _⟩ => exact ⟨(y 0).val, hy0, by show (y 0).val = 0 + 1 * (y 0).val; omega⟩
      | ⟨1, _⟩ => exact ⟨(y 1).val - o, by show (y 1).val - o < 128; omega, by show (y 1).val = o + 1 * ((y 1).val - o); omega⟩
    have : (y 1).val < 128 ∨ (128 ≤ (y 1).val ∧ (y 1).val < 256) ∨ (256 ≤ (y 1).val ∧ (y 1).val < 384) ∨ 384 ≤ (y 1).val := by omega
    rcases this with e | e | e | e
    · exact ⟨⟨groupRect 0 h0, p0⟩, by simp, key 0 h0 (by omega) (by omega)⟩
    · exact ⟨⟨groupRect 128 h1, p1⟩, by simp, key 128 h1 (by omega) (by omega)⟩
    · exact ⟨⟨groupRect 256 h2, p2⟩, by simp, key 256 h2 (by omega) (by omega)⟩
    · exact ⟨⟨groupRect 384 h3, p3⟩, by simp, key 384 h3 (by omega) (by omega)⟩

/-- The point's 1024 rows under 16 rows of the point before. -/
def stack (a : Vec F S16x512 .f32) (b : Vec F S1024x512 .f32) : Vec F S1040x512 .f32 := fun y =>
  if h : (y 0).val < 16 then a (ix2 ⟨(y 0).val, h⟩ (y 1))
  else b (ix2 ⟨(y 0).val - 16, by have : (y 0).val < 1040 := (y 0).isLt; omega⟩ (y 1))

theorem stack_rows (M : Memref sig .tc .vmem S1040x512 .f32) (hM : M.IsWhole) (f : M.view.ty.Contents (Elt F)) (a : Vec F S16x512 .f32) (b : Vec F S1024x512 .f32) (ha hb) :
    M.view.writes (Elt F) f [⟨Rect.unit (s := S1040x512) ![16, 0] S1024x512.size hb, b⟩, ⟨Rect.unit (s := S1040x512) ![0, 0] S16x512.size ha, a⟩]
      = hM.unread (stack a b) := by
  refine hM.eq_unread (funext fun y => ?_)
  have hy0 : (y 0).val < 1040 := (y 0).isLt
  by_cases h : (y 0).val < 16
  · rw [View.read_writes_cons_unit_of_not_mem M.view f hb b _ y rfl 0 (Or.inl h)]
    refine (View.read_writes_cons_unit_of_mem M.view f ha a [] y (ix2 ⟨(y 0).val, h⟩ (y 1)) rfl fun x => ?_).trans (by unfold stack; rw [dif_pos h])
    match x with
    | ⟨0, _⟩ => exact (Nat.zero_add _).symm
    | ⟨1, _⟩ => exact (Nat.zero_add _).symm
  · refine (View.read_writes_cons_unit_of_mem M.view f hb b _ y (ix2 ⟨(y 0).val - 16, by omega⟩ (y 1)) rfl fun x => ?_).trans (by unfold stack; rw [dif_neg h])
    match x with
    | ⟨0, _⟩ => show (y 0).val = 16 + ((y 0).val - 16); omega
    | ⟨1, _⟩ => exact (Nat.zero_add _).symm

/-! ## What a point computes -/

section Terms

variable (i : grid0.Coords) (x : Vec F S1024x1024 .f32) (g : Vec F S1x1024 .f32) (w : Vec F S4x1024x512 .bf16) (pw : Vec F S4x128x128 .bf16)
  (ps qg kg : Vec F S1x512 .f32) (X : Vec F S1040x512 .f32)

def uT : Vec F S1024x512 .f32 := k0_pay4 x g (cut w (Rect.unit (s := S4x1024x512) ![0, 0, 0] S1x1024x512.size inb_S4x1024x512_S1x1024x512_0_0_0).toLoadRect)
def qT : Vec F S1024x512 .f32 := k0_pay5 x g (cut w (Rect.unit (s := S4x1024x512) ![1, 0, 0] S1x1024x512.size inb_S4x1024x512_S1x1024x512_1_0_0).toLoadRect)
def kT : Vec F S1024x512 .f32 := k0_pay6 x g (cut w (Rect.unit (s := S4x1024x512) ![2, 0, 0] S1x1024x512.size inb_S4x1024x512_S1x1024x512_2_0_0).toLoadRect)
def vT : Vec F S1024x512 .f32 := k0_pay7 x g (cut w (Rect.unit (s := S4x1024x512) ![3, 0, 0] S1x1024x512.size inb_S4x1024x512_S1x1024x512_3_0_0).toLoadRect)

/-- The normalised queries and keys. -/
def qnOf (q : Vec F S1024x512 .f32) : Vec F S1024x512 .f32 := k0_pay13 (k0_pay12 q (k0_pay8 q) k0_pay9 (k0_pay10 q) (k0_pay11 q)) qg
def knOf (k : Vec F S1024x512 .f32) : Vec F S1024x512 .f32 := k0_pay22 (k0_pay21 k (k0_pay14 k) k0_pay15 (k0_pay16 k) k0_pay18 (k0_pay19 k) (k0_pay20 k)) kg

/-- The point's number as the body has it, and the buffer of rows after the point. -/
abbrev num : BitVec 32 := BitVec.ofNat 32 (i 0).val
def haloT : Vec F S16x512 .f32 := k0_pay23 (num i) (cut X (Rect.unit (s := S1040x512) ![1024, 0] S16x512.size inb_S1040x512_S16x512_1024_0).toLoadRect)
def bufT (u : Vec F S1024x512 .f32) : Vec F S1040x512 .f32 := stack (haloT i X) (k0_pay24 u)

/-- A group's rows, some tokens back. -/
abbrev back (U : Vec F S1040x512 .f32) (r o : ℕ) (h : ∀ a, (![r, o] : Fin 2 → ℕ) a + S1024x128.size a ≤ S1040x512.size a) : Vec F S1024x128 .f32 :=
  cut U (Rect.unit (s := S1040x512) ![r, o] S1024x128.size h).toLoadRect

variable (u : Vec F S1024x512 .f32) (U : Vec F S1040x512 .f32)

def pool0 : Vec F S1024x128 .bf16 := k0_pay26 (num i) u (back U 15 0 inb_S1040x512_S1024x128_15_0)
def pool1 : Vec F S1024x128 .bf16 := k0_pay29 u (k0_pay25 (num i)) (back U 15 128 inb_S1040x512_S1024x128_15_128)
  (back U 14 128 inb_S1040x512_S1024x128_14_128) (back U 13 128 inb_S1040x512_S1024x128_13_128)
def pool2 : Vec F S1024x128 .bf16 := k0_pay33 (k0_pay25 (num i)) (k0_pay31 u) (k0_pay32 u (back U 15 256 inb_S1040x512_S1024x128_15_256))
  (back U 14 256 inb_S1040x512_S1024x128_14_256) (back U 13 256 inb_S1040x512_S1024x128_13_256) (back U 12 256 inb_S1040x512_S1024x128_12_256)
  (back U 11 256 inb_S1040x512_S1024x128_11_256) (back U 10 256 inb_S1040x512_S1024x128_10_256) (back U 9 256 inb_S1040x512_S1024x128_9_256)
/-- The last group's sums over its window. -/
def sums3 : Vec F S1024x128 .f32 := k0_pay36 (k0_pay35 u) (back U 15 384 inb_S1040x512_S1024x128_15_384) (back U 14 384 inb_S1040x512_S1024x128_14_384)
  (back U 13 384 inb_S1040x512_S1024x128_13_384) (back U 12 384 inb_S1040x512_S1024x128_12_384) (back U 11 384 inb_S1040x512_S1024x128_11_384)
  (back U 10 384 inb_S1040x512_S1024x128_10_384) (back U 9 384 inb_S1040x512_S1024x128_9_384) (back U 8 384 inb_S1040x512_S1024x128_8_384)
  (back U 7 384 inb_S1040x512_S1024x128_7_384) (back U 6 384 inb_S1040x512_S1024x128_6_384) (back U 5 384 inb_S1040x512_S1024x128_5_384)
  (back U 4 384 inb_S1040x512_S1024x128_4_384) (back U 3 384 inb_S1040x512_S1024x128_3_384) (back U 2 384 inb_S1040x512_S1024x128_2_384)
  (back U 1 384 inb_S1040x512_S1024x128_1_384)
def pool3 : Vec F S1024x128 .bf16 := k0_pay1 (k0_pay35 u) (sums3 u U) (k0_pay37 (k0_pay25 (num i)))

abbrev wcut (p : ℕ) (h : ∀ a, (![p, 0, 0] : Fin 3 → ℕ) a + S1x128x128.size a ≤ S4x128x128.size a) : Vec F S1x128x128 .bf16 :=
  cut pw (Rect.unit (s := S4x128x128) ![p, 0, 0] S1x128x128.size h).toLoadRect
abbrev scut (o : ℕ) (h : ∀ a, (![0, o] : Fin 2 → ℕ) a + S1x128.size a ≤ S1x512.size a) : Vec F S1x128 .f32 :=
  cut ps (Rect.unit (s := S1x512) ![0, o] S1x128.size h).toLoadRect

def out0 : Vec F S1024x128 .bf16 := k0_pay28 (k0_pay27 (num i) u (back U 15 0 inb_S1040x512_S1024x128_15_0) (wcut pw 0 inb_S4x128x128_S1x128x128_0_0_0))
  (scut ps 0 inb_S1x512_S1x128_0_0)
def out1 : Vec F S1024x128 .bf16 := k0_pay30 u (k0_pay25 (num i)) (back U 15 128 inb_S1040x512_S1024x128_15_128)
  (back U 14 128 inb_S1040x512_S1024x128_14_128) (back U 13 128 inb_S1040x512_S1024x128_13_128) (wcut pw 1 inb_S4x128x128_S1x128x128_1_0_0) (scut ps 128 inb_S1x512_S1x128_0_128)
def out2 : Vec F S1024x128 .bf16 := k0_pay34 (k0_pay25 (num i)) (k0_pay31 u) (k0_pay32 u (back U 15 256 inb_S1040x512_S1024x128_15_256))
  (back U 14 256 inb_S1040x512_S1024x128_14_256) (back U 13 256 inb_S1040x512_S1024x128_13_256) (back U 12 256 inb_S1040x512_S1024x128_12_256)
  (back U 11 256 inb_S1040x512_S1024x128_11_256) (back U 10 256 inb_S1040x512_S1024x128_10_256) (back U 9 256 inb_S1040x512_S1024x128_9_256)
  (wcut pw 2 inb_S4x128x128_S1x128x128_2_0_0) (scut ps 256 inb_S1x512_S1x128_0_256)
def out3 : Vec F S1024x128 .bf16 := k0_pay2 (k0_pay35 u) (sums3 u U) (k0_pay37 (k0_pay25 (num i))) (wcut pw 3 inb_S4x128x128_S1x128x128_3_0_0) (scut ps 384 inb_S1x512_S1x128_0_384)

def poolT : Vec F S1024x512 .bf16 := join (pool0 i u U) (pool1 i u U) (pool2 i u U) (pool3 i u U)
def outT : Vec F S1024x512 .bf16 := join (out0 i pw ps u U) (out1 i pw ps u U) (out2 i pw ps u U) (out3 i pw ps u U)

end Terms

/-! ## The body -/

section Body

variable (c : Dev nD) (i : grid0.Coords)
  (arg1 : Memref sig .tc .vmem S1024x1024 .f32) (harg1 : arg1.IsWhole) (arg2 : Memref sig .tc .vmem S1x1024 .f32) (harg2 : arg2.IsWhole)
  (arg3 : Memref sig .tc .vmem S4x1024x512 .bf16) (harg3 : arg3.IsWhole) (arg4 : Memref sig .tc .vmem S4x128x128 .bf16) (harg4 : arg4.IsWhole)
  (arg5 : Memref sig .tc .vmem S1x512 .f32) (harg5 : arg5.IsWhole) (arg6 : Memref sig .tc .vmem S1x512 .f32) (harg6 : arg6.IsWhole)
  (arg7 : Memref sig .tc .vmem S1x512 .f32) (harg7 : arg7.IsWhole) (arg8 : Memref sig .tc .hbm S8x128 .f32) (harg8 : arg8.IsWhole)
  (arg9 : Memref sig .tc .vmem S1024x1024 .bf16) (harg9 : arg9.IsWhole) (arg10 : Memref sig .tc .vmem S1024x512 .bf16) (harg10 : arg10.IsWhole)
  (arg11 : Memref sig .tc .vmem S1024x512 .bf16) (harg11 : arg11.IsWhole) (arg12 : Memref sig .tc .vmem S1024x512 .f32) (harg12 : arg12.IsWhole)
  (arg13 : Memref sig .tc .vmem S1024x512 .f32) (harg13 : arg13.IsWhole) (arg14 : Memref sig .tc .vmem S1024x512 .f32) (harg14 : arg14.IsWhole)
  (arg15 : Memref sig .tc .vmem S1024x512 .f32) (harg15 : arg15.IsWhole) (arg16 : Memref sig .tc .vmem S1024x512 .f32) (harg16 : arg16.IsWhole)
  (arg17 : Memref sig .tc .vmem S1040x512 .f32) (harg17 : arg17.IsWhole)

/-- What stands before and after the projections, and before and after the rest of the body. -/
def projPre (x : Vec F S1024x1024 .f32) (g : Vec F S1x1024 .f32) (w : Vec F S4x1024x512 .bf16) : sProp 𝕄 :=
  iprop(owns (c : Thread nD τ) arg1 fullShare x ∗ owns (c : Thread nD τ) arg2 fullShare g ∗ owns (c : Thread nD τ) arg3 fullShare w
        ∗ (∃ d, owns (c : Thread nD τ) arg9 fullShare d) ∗ (∃ d, owns (c : Thread nD τ) arg16 fullShare d))
def projPost (x : Vec F S1024x1024 .f32) (g : Vec F S1x1024 .f32) (w : Vec F S4x1024x512 .bf16) : sProp 𝕄 :=
  iprop(owns (c : Thread nD τ) arg1 fullShare x ∗ owns (c : Thread nD τ) arg2 fullShare g ∗ owns (c : Thread nD τ) arg3 fullShare w
        ∗ owns (c : Thread nD τ) arg9 fullShare (k0_pay3 x g) ∗ owns (c : Thread nD τ) arg16 fullShare (vT x g w))
def restPre (pw : Vec F S4x128x128 .bf16) (ps qg kg : Vec F S1x512 .f32) (X : Vec F S1040x512 .f32) : sProp 𝕄 :=
  iprop(owns (c : Thread nD τ) arg4 fullShare pw ∗ owns (c : Thread nD τ) arg5 fullShare ps ∗ owns (c : Thread nD τ) arg6 fullShare qg
        ∗ owns (c : Thread nD τ) arg7 fullShare kg ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d) ∗ (∃ d, owns (c : Thread nD τ) arg14 fullShare d)
        ∗ (∃ d, owns (c : Thread nD τ) arg15 fullShare d) ∗ owns (c : Thread nD τ) arg17 fullShare X)
def restPost (u q k : Vec F S1024x512 .f32) (pw : Vec F S4x128x128 .bf16) (ps qg kg : Vec F S1x512 .f32) (X : Vec F S1040x512 .f32) : sProp 𝕄 :=
  iprop(owns (c : Thread nD τ) arg4 fullShare pw ∗ owns (c : Thread nD τ) arg5 fullShare ps ∗ owns (c : Thread nD τ) arg6 fullShare qg
        ∗ owns (c : Thread nD τ) arg7 fullShare kg ∗ owns (c : Thread nD τ) arg10 fullShare (poolT i u (bufT i X u))
        ∗ owns (c : Thread nD τ) arg11 fullShare (outT i pw ps u (bufT i X u)) ∗ owns (c : Thread nD τ) arg12 fullShare q
        ∗ owns (c : Thread nD τ) arg13 fullShare k ∗ owns (c : Thread nD τ) arg14 fullShare (qnOf qg q) ∗ owns (c : Thread nD τ) arg15 fullShare (knOf kg k)
        ∗ owns (c : Thread nD τ) arg17 fullShare (bufT i X u))

/-- The projections. -/
theorem project_run (x : Vec F S1024x1024 .f32) (g : Vec F S1x1024 .f32) (w : Vec F S4x1024x512 .bf16) :
    (projPre c arg1 arg2 arg3 arg9 arg16 x g w : sProp 𝕄)
      ⊢ wp frame (wpE (defs₀ (F := F)) Variants.none c none) Set.univ (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun r => iprop(⌜r = ⟨num i, uT x g w, qT x g w, kT x g w⟩⌝ ∗ projPost c arg1 arg2 arg3 arg9 arg16 x g w)) := by
  have z2 : ∀ a : Fin 2, (![0, 0] : Fin 2 → ℕ) a = 0 := by decide
  have ex := cut_whole x ![0, 0] inb_S1024x1024_S1024x1024_0_0 z2
  have eg := cut_whole g ![0, 0] inb_S1x1024_S1x1024_0_0 z2
  rw [k0_part1_eq_skeleton]
  unfold k0_part1_skel projPre projPost owns
  iintro ⟨⟨%f1, %h1, H1⟩, ⟨%f2, %h2, H2⟩, ⟨%f3, %h3, H3⟩, ⟨%d9, %f9, -, H9⟩, ⟨%d16, %f16, -, H16⟩⟩
  obtain rfl := harg1.eq_unread h1; obtain rfl := harg2.eq_unread h2; obtain rfl := harg3.eq_unread h3
  sl_exec
  sl_step
  simp only [load_cut, ex, eg]
  isplitr; · ipureintro; rfl
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H9]
  · iexists _; isplitr; swap; · iexact H9
    ipureintro; exact WeightGrad.store_whole arg9 _ _ ![0, 0] inb_S1024x1024_S1024x1024_0_0 z2
  iexists _; isplitr; swap; · iexact H16
  ipureintro; exact WeightGrad.store_whole arg16 _ (vT x g w) ![0, 0] inb_S1024x512_S1024x512_0_0 z2

/-- The body after the projections. -/
def restProg (u q k : Vec F S1024x512 .f32) : Prog (TpuEff nD τ sig (Elt F) Λ₀ .tc) PUnit := do
  let ⟨v31, v34, v54, v74⟩ : Σ' (v31 : FVec F S1024x512 .f32) (v34 : IVec S1x128 1) (v54 : FVec F S1024x128 .f32), FVec F S1024x128 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q k
  let ⟨v121, v122⟩ : Σ' (v121 : FVec F S1024x512 .f32), Vec F S1x512 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q v31 v34 v54 v74
  let ⟨v128, v131, v151, v166, v168, v169⟩ : Σ' (v128 : FVec F S1024x512 .f32) (v131 : IVec S1x128 1) (v151 : FVec F S1024x128 .f32) (v166 : IVec S1024x128 1) (v168 : FVec F S1024x128 .f32), FVec F S1024x1 .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k v121 v122
  let v218 : FVec F S1024x512 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k v128 v131 v151 v166 v168 v169
  let ⟨v236, v252⟩ : Σ' (v236 : IVec S1024x1 32), FVec F S1024x128 .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (num i) u v218
  let ⟨v283, v285⟩ : Σ' (v283 : FVec F S1024x128 .f32), FVec F S1024x128 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 u v236 v252
  let ⟨v316, v317⟩ : Σ' (v316 : FVec F S1024x128 .f32), Vec F S1024x128 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 u v236 v283 v285
  let ⟨v346, v348⟩ : Σ' (v346 : FVec F S1024x128 .f32), IVec S1024x1 32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v236 v316 v317
  let v356 : Vec F S1024x128 .bf16 ← Prog.lift (.load arg10 (Rect.unit (s := S1024x512) ![0, 384] S1024x128.size inb_S1024x512_S1024x128_0_384).toLoadRect (View.loadsAt_vmem h_S1024x128))
  Prog.lift (.store arg10 (Rect.unit (s := S1024x512) ![0, 384] S1024x128.size inb_S1024x512_S1024x128_0_384) (k0_pay1 v316 v346 v348) Finset.univ (View.stores_vmem h_S1024x128 (harg10.storeExact_slice rfl _ packedbf16_S1024x512_S1024x128_0_384) (fun _ => rfl)) (.inl rfl))
  let v357 : Vec F S1x128x128 .bf16 ← Prog.lift (.load arg4 (Rect.unit (s := S4x128x128) ![3, 0, 0] S1x128x128.size inb_S4x128x128_S1x128x128_3_0_0).toLoadRect (View.loadsAt_vmem h_S1x128x128))
  let v360 : Vec F S1x128 .f32 ← Prog.lift (.load arg5 (Rect.unit (s := S1x512) ![0, 384] S1x128.size inb_S1x512_S1x128_0_384).toLoadRect (View.loadsAt_vmem h_S1x128))
  let v364 : Vec F S1024x128 .bf16 ← Prog.lift (.load arg11 (Rect.unit (s := S1024x512) ![0, 384] S1024x128.size inb_S1024x512_S1024x128_0_384).toLoadRect (View.loadsAt_vmem h_S1024x128))
  Prog.lift (.store arg11 (Rect.unit (s := S1024x512) ![0, 384] S1024x128.size inb_S1024x512_S1024x128_0_384) (k0_pay2 v316 v346 v348 v357 v360) Finset.univ (View.stores_vmem h_S1024x128 (harg11.storeExact_slice rfl _ packedbf16_S1024x512_S1024x128_0_384) (fun _ => rfl)) (.inl rfl))
  pure ⟨⟩

theorem rest_run (u q k : Vec F S1024x512 .f32) (pw : Vec F S4x128x128 .bf16) (ps qg kg : Vec F S1x512 .f32) (X : Vec F S1040x512 .f32) :
    (restPre c arg4 arg5 arg6 arg7 arg10 arg11 arg12 arg13 arg14 arg15 arg17 pw ps qg kg X : sProp 𝕄)
      ⊢ wp frame (wpE (defs₀ (F := F)) Variants.none c none) Set.univ (restProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 u q k)
        (fun _ => restPost c i arg4 arg5 arg6 arg7 arg10 arg11 arg12 arg13 arg14 arg15 arg17 u q k pw ps qg kg X) := by
  have z2 : ∀ a : Fin 2, (![0, 0] : Fin 2 → ℕ) a = 0 := by decide
  have eq := cut_whole qg ![0, 0] inb_S1x512_S1x512_0_0 z2
  have ek := cut_whole kg ![0, 0] inb_S1x512_S1x512_0_0 z2
  unfold restProg
  simp only [k0_part2_eq_skeleton, k0_part3_eq_skeleton, k0_part4_eq_skeleton, k0_part5_eq_skeleton, k0_part6_eq_skeleton,
    k0_part7_eq_skeleton, k0_part8_eq_skeleton, k0_part9_eq_skeleton]
  unfold k0_part2_skel k0_part3_skel k0_part4_skel k0_part5_skel k0_part6_skel k0_part7_skel k0_part8_skel k0_part9_skel
  unfold restPre restPost owns
  iintro ⟨⟨%f4, %h4, H4⟩, ⟨%f5, %h5, H5⟩, ⟨%f6, %h6, H6⟩, ⟨%f7, %h7, H7⟩, ⟨%d10, %f10, -, H10⟩,
    ⟨%d11, %f11, -, H11⟩, ⟨%d12, %f12, -, H12⟩, ⟨%d13, %f13, -, H13⟩, ⟨%d14, %f14, -, H14⟩, ⟨%d15, %f15, -, H15⟩, ⟨%f17, %h17, H17⟩⟩
  obtain rfl := harg4.eq_unread h4
  obtain rfl := harg5.eq_unread h5; obtain rfl := harg6.eq_unread h6; obtain rfl := harg7.eq_unread h7; obtain rfl := harg17.eq_unread h17
  sl_exec
  sl_step
  have eH : rest_run.sl.H17_2 c i arg17 harg17 u X
      = [⟨Rect.unit (s := S1040x512) ![16, 0] S1024x512.size inb_S1040x512_S1024x512_16_0, k0_pay24 u⟩,
        ⟨Rect.unit (s := S1040x512) ![0, 0] S16x512.size inb_S1040x512_S16x512_0_0, haloT i X⟩] := by
    unfold rest_run.sl.H17_2
    simp only [load_cut]; rfl
  have ec : ∀ B, arg17.view.readCov (rest_run.sl.H17_2 c i arg17 harg17 u X) B = cut (bufT i X u) B := fun B => by
    rw [eH]; unfold View.readCov; rw [stack_rows arg17 harg17]; exact load_cut harg17 _ _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H10]
  · iexists _; isplitr; swap; · iexact H10
    ipureintro
    refine (join_groups arg10 _ _ _ _ _ _ _ _ _).trans ?_
    unfold rest_run.sl.v238 rest_run.sl.v259 rest_run.sl.v261 rest_run.sl.v263 rest_run.sl.v284 rest_run.sl.v286 rest_run.sl.v288 rest_run.sl.v290
      rest_run.sl.v292 rest_run.sl.v294 rest_run.sl.v296 rest_run.sl.v317 rest_run.sl.v319 rest_run.sl.v321 rest_run.sl.v323 rest_run.sl.v325
      rest_run.sl.v327 rest_run.sl.v329 rest_run.sl.v331 rest_run.sl.v333 rest_run.sl.v335 rest_run.sl.v337 rest_run.sl.v339 rest_run.sl.v341
      rest_run.sl.v343 rest_run.sl.v345
    simp only [ec, load_cut]
    rfl
  isplitl [H11]
  · iexists _; isplitr; swap; · iexact H11
    ipureintro
    refine (join_groups arg11 _ _ _ _ _ _ _ _ _).trans ?_
    unfold rest_run.sl.v238 rest_run.sl.v259 rest_run.sl.v261 rest_run.sl.v263 rest_run.sl.v284 rest_run.sl.v286 rest_run.sl.v288 rest_run.sl.v290
      rest_run.sl.v292 rest_run.sl.v294 rest_run.sl.v296 rest_run.sl.v317 rest_run.sl.v319 rest_run.sl.v321 rest_run.sl.v323 rest_run.sl.v325
      rest_run.sl.v327 rest_run.sl.v329 rest_run.sl.v331 rest_run.sl.v333 rest_run.sl.v335 rest_run.sl.v337 rest_run.sl.v339 rest_run.sl.v341
      rest_run.sl.v343 rest_run.sl.v345
    simp only [ec, load_cut]
    rfl
  isplitl [H12]
  · iexists _; isplitr; swap; · iexact H12
    ipureintro; exact WeightGrad.store_whole arg12 _ q ![0, 0] inb_S1024x512_S1024x512_0_0 z2
  isplitl [H13]
  · iexists _; isplitr; swap; · iexact H13
    ipureintro; exact WeightGrad.store_whole arg13 _ k ![0, 0] inb_S1024x512_S1024x512_0_0 z2
  isplitl [H14]
  · iexists _; isplitr; swap; · iexact H14
    ipureintro; simp only [load_cut, eq]; exact WeightGrad.store_whole arg14 _ (qnOf qg q) ![0, 0] inb_S1024x512_S1024x512_0_0 z2
  isplitl [H15]
  · iexists _; isplitr; swap; · iexact H15
    ipureintro; simp only [load_cut, ek]; exact WeightGrad.store_whole arg15 _ (knOf kg k) ![0, 0] inb_S1024x512_S1024x512_0_0 z2
  iexists _; isplitr; swap; · iexact H17
  ipureintro; rw [eH, stack_rows arg17 harg17]; exact harg17.read_unread _

theorem point_run (x : Vec F S1024x1024 .f32) (g : Vec F S1x1024 .f32) (w : Vec F S4x1024x512 .bf16)
    (pw : Vec F S4x128x128 .bf16) (ps qg kg : Vec F S1x512 .f32) (X : Vec F S1040x512 .f32) (K : PUnit → sProp 𝕄) :
    (iprop(projPre c arg1 arg2 arg3 arg9 arg16 x g w ∗ restPre c arg4 arg5 arg6 arg7 arg10 arg11 arg12 arg13 arg14 arg15 arg17 pw ps qg kg X
        ∗ (iprop(projPost c arg1 arg2 arg3 arg9 arg16 x g w ∗ restPost c i arg4 arg5 arg6 arg7 arg10 arg11 arg12 arg13 arg14 arg15 arg17 (uT x g w) (qT x g w) (kT x g w) pw ps qg kg X) -∗ K ⟨⟩)) : sProp 𝕄)
      ⊢ wp frame (wpE (defs₀ (F := F)) Variants.none c none) Set.univ (cc0_fwd_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_fwd_inproj_eq_skeleton]
  unfold cc0_fwd_inproj_skel
  rw [wp_bind]
  refine (sep_mono_left (project_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x g w)).trans ((wp_frame_r _ _ _).trans (wp_mono _ _ _ fun r => ?_))
  have rest : (iprop(restPre c arg4 arg5 arg6 arg7 arg10 arg11 arg12 arg13 arg14 arg15 arg17 pw ps qg kg X ∗ (projPost c arg1 arg2 arg3 arg9 arg16 x g w
        ∗ (iprop(projPost c arg1 arg2 arg3 arg9 arg16 x g w ∗ restPost c i arg4 arg5 arg6 arg7 arg10 arg11 arg12 arg13 arg14 arg15 arg17 (uT x g w) (qT x g w) (kT x g w) pw ps qg kg X) -∗ K ⟨⟩))) : sProp 𝕄)
      ⊢ wp frame (wpE (defs₀ (F := F)) Variants.none c none) Set.univ (restProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (uT x g w) (qT x g w) (kT x g w)) K := by
    refine (sep_mono_left (rest_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (uT x g w) (qT x g w) (kT x g w) pw ps qg kg X)).trans
      ((wp_frame_r _ _ _).trans (wp_mono _ _ _ fun _ => ?_))
    iintro ⟨H2, H1, Hk⟩
    iapply Hk
    isplitl [H1]; · iexact H1
    iexact H2
  unfold restProg at rest
  iintro ⟨⟨%hr, H1⟩, H2, Hk⟩
  subst hr
  iapply rest
  isplitl [H2]; · iexact H2
  isplitl [H1]; · iexact H1
  iexact Hk

end Body

end Cert.KernelMixIdeal.Mix

end
-- ==== Proof.MixLaunch.lean ====
/-
  The launch of the mixer's input half: eight points in turn, each handing the next the buffer of its rows.
-/
module

public import proofs.«01_k».proof.Proof.MixRun

@[expose] public section

set_option maxRecDepth 16384

noncomputable section

namespace Cert.KernelMixIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelMixIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem point_of : ∀ t : Fin cfg0.N, (grid0.coords t 0).val = t.val := (by decide +kernel : ∀ t : Fin grid0.N, _)

/-- At the first point nothing is taken of the buffer. -/
theorem buf_starts (i : grid0.Coords) (h : (i 0).val = 0) (X X' : Vec F S1040x512 .f32) (u : Vec F S1024x512 .f32) : bufT i X u = bufT i X' u := by
  have e : Scalar.cmpi .sgt (num i) 0#32 = 0#1 := by rw [num, h]; rfl
  unfold bufT haloT k0_pay23
  simp only [e]; rfl

/-- A point's projections, and the buffer of rows before each point. -/
def uAt (c : Dev nD) (t : Fin cfg0.N) : Vec F S1024x512 .f32 := uT (iblk m c 0 t) (iblk m c 1 t) (iblk m c 2 t)
def qAt (c : Dev nD) (t : Fin cfg0.N) : Vec F S1024x512 .f32 := qT (iblk m c 0 t) (iblk m c 1 t) (iblk m c 2 t)
def kAt (c : Dev nD) (t : Fin cfg0.N) : Vec F S1024x512 .f32 := kT (iblk m c 0 t) (iblk m c 1 t) (iblk m c 2 t)
def vAt (c : Dev nD) (t : Fin cfg0.N) : Vec F S1024x512 .f32 := vT (iblk m c 0 t) (iblk m c 1 t) (iblk m c 2 t)
def rows (c : Dev nD) : (n : ℕ) → n < cfg0.N + 1 → Vec F S1040x512 .f32
  | 0, _ => fun _ => Scalar.ofBits .f32 0
  | n + 1, h => bufT (grid0.coords ⟨n, Nat.lt_of_succ_lt_succ h⟩) (rows c n (Nat.lt_of_succ_lt h)) (uAt m c ⟨n, Nat.lt_of_succ_lt_succ h⟩)
abbrev rowsAfter (c : Dev nD) (t : Fin cfg0.N) : Vec F S1040x512 .f32 := rows m c (t.val + 1) (Nat.succ_lt_succ t.isLt)

/-- What is kept between the points: before the first nothing is known of the buffer. -/
def kept (c : Dev nD) : (n : ℕ) → n < cfg0.N + 1 → sProp 𝕄
  | 0, _ => Pipeline.ΦA spec0 c
  | n + 1, h => iprop(owns (c : Thread nD τ) (Memref.whole cc0_scratch0) fullShare (rows m c (n + 1) h) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay3 (iblk m c 0 t) (iblk m c 1 t)
    | ⟨8, _⟩ => poolT (grid0.coords t) (uAt m c t) (rowsAfter m c t)
    | ⟨9, _⟩ => outT (grid0.coords t) (iblk m c 3 t) (iblk m c 4 t) (uAt m c t) (rowsAfter m c t)
    | ⟨10, _⟩ => qAt m c t
    | ⟨11, _⟩ => kAt m c t
    | ⟨12, _⟩ => qnOf (iblk m c 5 t) (qAt m c t)
    | ⟨13, _⟩ => knOf (iblk m c 6 t) (kAt m c t)
    | ⟨14, _⟩ => vAt m c t
    | ⟨_ + 15, h⟩ => absurd h (Nat.not_lt.2 (Nat.le_add_left _ _))
  Φ t := kept m c t.val t.isLt
  q _ := fullShare
  owed _ := 0

theorem A_eq (c : Dev nD) (w : Fin cfg0.W) : (dats m 0 c).A w = V m c (Pipeline.arrRef spec0 w) := by
  dsimp only [dats]

theorem finds0 (c : Dev nD) (t : Fin cfg0.N) (d) : (dats m 0 c).before 0 t d = iblk m c 0 t :=
  before0_0_of m (dats m 0 c) (A_eq m c 0) (fun _ => rfl) t d
theorem finds1 (c : Dev nD) (t : Fin cfg0.N) (d) : (dats m 0 c).before 1 t d = iblk m c 1 t :=
  before0_1_of m (dats m 0 c) (A_eq m c 1) (fun _ => rfl) t d
theorem finds2 (c : Dev nD) (t : Fin cfg0.N) (d) : (dats m 0 c).before 2 t d = iblk m c 2 t :=
  before0_2_of m (dats m 0 c) (A_eq m c 2) (fun _ => rfl) t d
theorem finds3 (c : Dev nD) (t : Fin cfg0.N) (d) : (dats m 0 c).before 3 t d = iblk m c 3 t :=
  before0_3_of m (dats m 0 c) (A_eq m c 3) (fun _ => rfl) t d
theorem finds4 (c : Dev nD) (t : Fin cfg0.N) (d) : (dats m 0 c).before 4 t d = iblk m c 4 t :=
  before0_4_of m (dats m 0 c) (A_eq m c 4) (fun _ => rfl) t d
theorem finds5 (c : Dev nD) (t : Fin cfg0.N) (d) : (dats m 0 c).before 5 t d = iblk m c 5 t :=
  before0_5_of m (dats m 0 c) (A_eq m c 5) (fun _ => rfl) t d
theorem finds6 (c : Dev nD) (t : Fin cfg0.N) (d) : (dats m 0 c).before 6 t d = iblk m c 6 t :=
  before0_6_of m (dats m 0 c) (A_eq m c 6) (fun _ => rfl) t d

theorem region_eq (c : Dev nD) : (Pipeline.ΦA spec0 c : sProp 𝕄)
    = iprop((∃ d, owns (c : Thread nD τ) (Memref.whole cc0_scratch0) fullShare d) ∗ ∃ r, prngReg c r) := by
  unfold Pipeline.ΦA
  rw [scopedRest0_eq]
  simp only [owns_whole]

/-- Whatever is kept before a point serves as its buffer. -/
theorem kept_serves (c : Dev nD) (t : Fin cfg0.N) : (dats m 0 c).Φ t.castSucc ⊢ (iprop(∃ X, ⌜bufT (grid0.coords t) X (uAt m c t) = rowsAfter m c t⌝
    ∗ owns (c : Thread nD τ) (Memref.whole cc0_scratch0) fullShare X ∗ ∃ r, prngReg c r) : sProp 𝕄) := by
  obtain ⟨_ | n, hn⟩ := t
  · show (Pipeline.ΦA spec0 c : sProp 𝕄) ⊢ _
    rw [region_eq]
    iintro ⟨⟨%d, H⟩, Hr⟩
    iexists d
    isplitr; · ipureintro; exact buf_starts _ (point_of _) _ _ _
    isplitl [H]; · iexact H
    iexact Hr
  · show (iprop(owns (c : Thread nD τ) (Memref.whole cc0_scratch0) fullShare (rows m c (n + 1) _) ∗ ∃ r, prngReg c r) : sProp 𝕄) ⊢ _
    iintro ⟨H, Hr⟩
    iexists _
    isplitr; swap
    · isplitl [H]; · iexact H
      iexact Hr
    ipureintro; rfl

/-! ## The body at a point -/

def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

theorem body_run (c : Dev nD) (t : Fin cfg0.N) :
    given m c t ⊢ wp frame (wpE (defs₀ (F := F)) Variants.none c none) Set.univ (bodyAt0 t) (fun _ => returned m c t) := by
  unfold given returned bodyAt0
  iintro ⟨HΦ, Hw, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  ihave HX := (kept_serves m c t) $$ HΦ
  icases HX with ⟨%X, %hX, HX, Hr⟩
  rw [finds0 m c t d0, finds1 m c t d1, finds2 m c t d2, finds3 m c t d3, finds4 m c t d4, finds5 m c t d5, finds6 m c t d6]
  iapply (point_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4)) (st0_5 t) (hstage0_5 ((cfg0.slots t 5).cast nbuf0_5))
    (st0_6 t) (hstage0_6 ((cfg0.slots t 6).cast nbuf0_6)) (Memref.whole main_arg7) (Memref.isWhole_whole _) (st0_7 t) (hstage0_7 ((cfg0.slots t 7).cast nbuf0_7))
    (st0_8 t) (hstage0_8 ((cfg0.slots t 8).cast nbuf0_8)) (st0_9 t) (hstage0_9 ((cfg0.slots t 9).cast nbuf0_9)) (st0_10 t) (hstage0_10 ((cfg0.slots t 10).cast nbuf0_10))
    (st0_11 t) (hstage0_11 ((cfg0.slots t 11).cast nbuf0_11)) (st0_12 t) (hstage0_12 ((cfg0.slots t 12).cast nbuf0_12)) (st0_13 t) (hstage0_13 ((cfg0.slots t 13).cast nbuf0_13))
    (st0_14 t) (hstage0_14 ((cfg0.slots t 14).cast nbuf0_14)) (Memref.whole cc0_scratch0) (Memref.isWhole_whole _)
    (iblk m c 0 t) (iblk m c 1 t) (iblk m c 2 t) (iblk m c 3 t) (iblk m c 4 t) (iblk m c 5 t) (iblk m c 6 t) X (fun _ => returned m c t))
  unfold projPre projPost restPre restPost
  isplitl [H0 H1 H2 H7 H14]
  · isplitl [H0]; · iexact H0
    isplitl [H1]; · iexact H1
    isplitl [H2]; · iexact H2
    isplitl [H7]; · iexists _; iexact H7
    iexists _; iexact H14
  isplitl [H3 H4 H5 H6 H8 H9 H10 H11 H12 H13 HX]
  · isplitl [H3]; · iexact H3
    isplitl [H4]; · iexact H4
    isplitl [H5]; · iexact H5
    isplitl [H6]; · iexact H6
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexact HX
  have hX' : bufT (grid0.coords t) X (uT (iblk m c 0 t) (iblk m c 1 t) (iblk m c 2 t)) = rowsAfter m c t := hX
  rw [hX']
  iintro ⟨⟨H0, H1, H2, H7, H14⟩, H3, H4, H5, H6, H8, H9, H10, H11, H12, H13, HX⟩
  unfold returned
  isplitl [HX Hr]
  · rw [show (dats m 0 c).Φ t.succ = iprop(owns (c : Thread nD τ) (Memref.whole cc0_scratch0) fullShare (rowsAfter m c t) ∗ ∃ r, prngReg c r) from rfl]
    isplitl [HX]; · iexact HX
    iexact Hr
  isplitl [Hw]; · rw [show (dats m 0 c).owesAt () t.succ = (dats m 0 c).owesAt () t.castSucc from rfl]; iexact Hw
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (body_run m c t) rfl .rfl fun _ => .rfl

/-! ## The run -/

theorem kept_last (c : Dev nD) : (dats m 0 c).Φ (Fin.last cfg0.N) ⊢ (Pipeline.ΦA spec0 c : sProp 𝕄) := by
  rw [region_eq]
  show (iprop(owns (c : Thread nD τ) (Memref.whole cc0_scratch0) fullShare (rows m c 8 _) ∗ ∃ r, prngReg c r) : sProp 𝕄) ⊢ _
  iintro ⟨H, Hr⟩
  isplitl [H]; · iexists _; iexact H
  iexact Hr

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := kept_last m)

/-- The arguments stay as they were and the semaphores end at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KernelMixIdeal.Mix

end
-- ==== Proof.MixValue.lean ====
/-
  The mixer's input half over the extended reals: what each result array holds when the eight points are through, as
  sums over the arguments' entries.
-/
module

public import proofs.«01_k».proof.Proof.MixLaunch
public import Idealize.ShloMosaic.Lib.Pointwise

@[expose] public section

set_option maxRecDepth 16384

noncomputable section

namespace Cert.KernelMixIdeal.Mix

open Idealize.ShloMosaic Idealize.ShloMosaic.TcCoe Idealize.ShloMosaic.Tactic
open Idealize.SL Idealize.SL.Sem
open Cert.KernelMixIdeal.Gen

/-! ## The mathematics -/

/-- The normalised rows and a projection of them. -/
def normed (x : Vec Ideal S8192x1024 .f32) (g : Vec Ideal S1x1024 .f32) : Vec Ideal S8192x1024 .f32 := fun y =>
  x (ix2 (y 0) (y 1)) * Ideal.rsqrt (Ideal.div (∑ s : Fin 1024, x (ix2 (y 0) s) * x (ix2 (y 0) s)) (Ideal.ofBits .f32 0x44800000#32) + Ideal.ofBits .f32 0x358637BD#32)
    * g (ix2 0 (y 1))
def projected (a : Vec Ideal S8192x1024 .f32) (w : Vec Ideal S4x1024x512 .bf16) (p : Fin 4) : Vec Ideal S8192x512 .f32 := fun y =>
  ∑ s : Fin 1024, a (ix2 (y 0) s) * w (ix3 p s (y 1))

/-- The columns of a column's head, and the rows normalised by head. -/
def headOf (j : Fin 512) (l : Fin 64) : Fin 512 := ⟨j.val / 64 * 64 + l.val, by omega⟩
def byHead (q : Vec Ideal S8192x512 .f32) (g : Vec Ideal S1x512 .f32) : Vec Ideal S8192x512 .f32 := fun y =>
  q (ix2 (y 0) (y 1)) * Ideal.rsqrt ((∑ l, q (ix2 (y 0) (headOf (y 1) l)) * q (ix2 (y 0) (headOf (y 1) l))) * Ideal.ofBits .f32 0x3C800000#32
    + Ideal.ofBits .f32 0x358637BD#32) * g (ix2 0 (y 1))
def queries (q : Vec Ideal S8192x512 .f32) (g : Vec Ideal S1x512 .f32) : Vec Ideal S8192x512 .f32 := fun y => byHead q g y * Ideal.ofBits .f32 0x3E000000#32

/-- A token's value some tokens back, zero before the first. -/
def lag (u : Vec Ideal S8192x512 .f32) (n : ℕ) (r : Fin 8192) (j : Fin 512) : EReal :=
  if n ≤ r.val then u (ix2 ⟨r.val - n, Nat.lt_of_le_of_lt (Nat.sub_le _ _) r.isLt⟩ j) else 0
/-- The mean of a window's tokens less the token itself. -/
def meanLess (w : ℕ) (u : Vec Ideal S8192x512 .f32) (r : Fin 8192) (j : Fin 512) : EReal :=
  Ideal.div (∑ n ∈ Finset.range w, lag u n r j) (((min (r.val + 1) w : ℕ) : ℝ) : EReal) - u (ix2 r j)
/-- A column's window. -/
def window (j : Fin 512) : ℕ := if j.val < 128 then 2 else if j.val < 256 then 4 else if j.val < 384 then 8 else 16
def pooled (u : Vec Ideal S8192x512 .f32) : Vec Ideal S8192x512 .f32 := fun y => meanLess (window (y 1)) u (y 0) (y 1)
/-- The groups of columns mixed each in itself, and scaled. -/
def mixed (u : Vec Ideal S8192x512 .f32) (w : Vec Ideal S4x128x128 .bf16) (s : Vec Ideal S1x512 .f32) : Vec Ideal S8192x512 .f32 := fun y =>
  (∑ k : Fin 128, meanLess (window (y 1)) u (y 0) ⟨(y 1).val / 128 * 128 + k.val, by have h : (y 1).val < 512 := (y 1).isLt; omega⟩
    * w (ix3 ⟨(y 1).val / 128, by have h : (y 1).val < 512 := (y 1).isLt; omega⟩ k ⟨(y 1).val % 128, Nat.mod_lt _ (by decide)⟩)) * s (ix2 0 (y 1))

theorem lag_zero (u : Vec Ideal S8192x512 .f32) (r : Fin 8192) (j : Fin 512) : lag u 0 r j = u (ix2 r j) := by
  unfold lag; rw [if_pos (Nat.zero_le _)]; rfl

/-! ## Integers -/

/-- The number of tokens in a window, as the program counts them. -/
theorem count_min (n w : ℕ) (hn : n < 2^31) (hw : w < 2^31) :
    FloatOps.sitofp (F := Ideal) .f32 (IntOp.minsi (BitVec.ofNat 32 n) (BitVec.ofNat 32 w)) = (((min n w : ℕ) : ℝ) : EReal) := by
  have h1 : (BitVec.ofNat 32 n).toInt = n := by rw [BitVec.toInt_eq_toNat_of_lt] <;> rw [BitVec.toNat_ofNat] <;> omega
  have h2 : (BitVec.ofNat 32 w).toInt = w := by rw [BitVec.toInt_eq_toNat_of_lt] <;> rw [BitVec.toNat_ofNat] <;> omega
  show (((IntOp.minsi (BitVec.ofNat 32 n) (BitVec.ofNat 32 w)).toInt : ℝ) : EReal) = _
  have : (IntOp.minsi (BitVec.ofNat 32 n) (BitVec.ofNat 32 w)).toInt = ((min n w : ℕ) : ℤ) := by
    unfold IntOp.minsi
    rw [BitVec.slt_eq_decide, h1, h2]
    by_cases h : n < w
    · rw [if_pos (by simpa using h), h1, Nat.min_eq_left h.le]
    · rw [if_neg (by simpa using h), h2, Nat.min_eq_right (by omega)]
  rw [this]; norm_cast
theorem token_bits (t r : ℕ) : IntOp.addi (IntOp.addi (Scalar.muli (BitVec.ofNat 32 t) 1024#32) (BitVec.ofNat 32 r)) 1#32 = BitVec.ofNat 32 (t * 1024 + r + 1) := by
  show BitVec.ofNat 32 t * 1024#32 + BitVec.ofNat 32 r + 1#32 = _
  rw [BitVec.ofNat_add, BitVec.ofNat_add, BitVec.ofNat_mul]

/-! ## The heads' sums -/

theorem low_half : ∀ x : Fin 128, IntOp.cmpi .slt (BitVec.ofNat 32 x.val) 64#32 = if x.val < 64 then 1#1 else 0#1 := by decide +kernel
/-- Summing each half of 128 columns by masking the other gives a column its own half's sum. -/
theorem half_sum (f : Fin 128 → EReal) (j : ℕ) (hj : j < 128) :
    Scalar.select (IntOp.cmpi .slt (BitVec.ofNat 32 j) 64#32)
      (∑ x : Fin 128, Scalar.select (IntOp.cmpi .slt (BitVec.ofNat 32 x.val) 64#32) (f x) (0 : EReal))
      (∑ x : Fin 128, Scalar.select (IntOp.cmpi .slt (BitVec.ofNat 32 x.val) 64#32) (0 : EReal) (f x))
    = ∑ l : Fin 64, f ⟨j / 64 * 64 + l.val, by omega⟩ := by
  rw [low_half ⟨j, hj⟩]
  simp only [low_half]
  have e1 := Fin.sum_univ_add (a := 64) (b := 64) fun x : Fin (64 + 64) => Scalar.select (if x.val < 64 then 1#1 else 0#1) (f x) (0 : EReal)
  have e2 := Fin.sum_univ_add (a := 64) (b := 64) fun x : Fin (64 + 64) => Scalar.select (if x.val < 64 then 1#1 else 0#1) (0 : EReal) (f x)
  refine (congrArg₂ (Scalar.select _) e1 e2).trans ?_
  by_cases h : j < 64
  · simp [h, Scalar.select]
    refine Finset.sum_congr rfl fun l _ => congrArg f (Fin.ext ?_)
    show l.val = j / 64 * 64 + l.val
    omega
  · simp [h, Scalar.select]
    refine Finset.sum_congr rfl fun l _ => congrArg f (Fin.ext ?_)
    show l.val + 64 = j / 64 * 64 + l.val
    omega

theorem square_at (q : Vec Ideal S1024x512 .f32) (r : Fin 1024) (a b : Fin 512) (h : a.val = b.val) : q (ix2 r a) * q (ix2 r a) = q (ix2 r b) * q (ix2 r b) := by
  rw [Fin.ext h]

/-- The columns' scales from the sums of the four groups. -/
theorem group_sums (q : Vec Ideal S1024x512 .f32) (r : Fin 1024) (j : Fin 512) (o p : ℕ) (ho : o ≤ 384) (hp : p < 128) (hj : j.val = o + p) (h64 : o % 64 = 0) :
    Scalar.select (IntOp.cmpi .slt (BitVec.ofNat 32 p) 64#32)
      (∑ x : Fin 128, Scalar.select (IntOp.cmpi .slt (BitVec.ofNat 32 x.val) 64#32) (q (ix2 r ⟨o + x.val, by omega⟩) * q (ix2 r ⟨o + x.val, by omega⟩)) (0 : EReal))
      (∑ x : Fin 128, Scalar.select (IntOp.cmpi .slt (BitVec.ofNat 32 x.val) 64#32) (0 : EReal) (q (ix2 r ⟨o + x.val, by omega⟩) * q (ix2 r ⟨o + x.val, by omega⟩)))
    = ∑ l, q (ix2 r (headOf j l)) * q (ix2 r (headOf j l)) :=
  (half_sum (fun x => q (ix2 r ⟨o + x.val, by omega⟩) * q (ix2 r ⟨o + x.val, by omega⟩)) p hp).trans
    (Finset.sum_congr rfl fun l _ => square_at q r _ _ (by unfold headOf; dsimp only; omega))
theorem first_sums (q : Vec Ideal S1024x512 .f32) (r : Fin 1024) (j : Fin 512) (hj : j.val < 128) :
    Scalar.select (IntOp.cmpi .slt (BitVec.ofNat 32 j.val) 64#32)
      (∑ x : Fin 128, Scalar.select (IntOp.cmpi .slt (BitVec.ofNat 32 x.val) 64#32) (q (ix2 r ⟨x.val, by omega⟩) * q (ix2 r ⟨x.val, by omega⟩)) (0 : EReal))
      (∑ x : Fin 128, Scalar.select (IntOp.cmpi .slt (BitVec.ofNat 32 x.val) 64#32) (0 : EReal) (q (ix2 r ⟨x.val, by omega⟩) * q (ix2 r ⟨x.val, by omega⟩)))
    = ∑ l, q (ix2 r (headOf j l)) * q (ix2 r (headOf j l)) :=
  (half_sum (fun x => q (ix2 r ⟨x.val, by omega⟩) * q (ix2 r ⟨x.val, by omega⟩)) j.val hj).trans
    (Finset.sum_congr rfl fun l _ => square_at q r _ _ (by unfold headOf; rfl))

theorem kn_apply (g : Vec Ideal S1x512 .f32) (q : Vec Ideal S1024x512 .f32) (r : Fin 1024) (j : Fin 512) :
    knOf (F := Ideal) g q (ix2 r j) = q (ix2 r j) * Ideal.rsqrt ((∑ l, q (ix2 r (headOf j l)) * q (ix2 r (headOf j l))) * Ideal.ofBits .f32 0x3C800000#32
      + Ideal.ofBits .f32 0x358637BD#32) * g (ix2 0 j) := by
  pointwise [knOf, k0_pay22, k0_pay21, k0_pay20, k0_pay19, k0_pay18, k0_pay17, k0_pay16, k0_pay15, k0_pay14]
  refine congrArg (fun s => q (ix2 r j) * Ideal.rsqrt (s * Ideal.ofBits .f32 0x3C800000#32 + Ideal.ofBits .f32 0x358637BD#32) * g (ix2 0 j)) ?_
  split_ifs
  · exact first_sums q r j (by omega)
  · exact group_sums q r j 128 (j.val - 128) (by omega) (by omega) (by omega) rfl
  · exact group_sums q r j 256 (j.val - 128 - 128) (by omega) (by omega) (by omega) rfl
  · exact group_sums q r j 384 (j.val - 128 - 128 - 128) (by omega) (by omega) (by omega) rfl
theorem qn_apply (g : Vec Ideal S1x512 .f32) (q : Vec Ideal S1024x512 .f32) (r : Fin 1024) (j : Fin 512) :
    qnOf (F := Ideal) g q (ix2 r j) = q (ix2 r j) * Ideal.rsqrt ((∑ l, q (ix2 r (headOf j l)) * q (ix2 r (headOf j l))) * Ideal.ofBits .f32 0x3C800000#32
      + Ideal.ofBits .f32 0x358637BD#32) * g (ix2 0 j) * Ideal.ofBits .f32 0x3E000000#32 := by
  pointwise [qnOf, k0_pay13, k0_pay12, k0_pay11, k0_pay10, k0_pay9, k0_pay8]
  refine congrArg (fun s => q (ix2 r j) * Ideal.rsqrt (s * Ideal.ofBits .f32 0x3C800000#32 + Ideal.ofBits .f32 0x358637BD#32) * g (ix2 0 j) * Ideal.ofBits .f32 0x3E000000#32) ?_
  split_ifs
  · exact first_sums q r j (by omega)
  · exact group_sums q r j 128 (j.val - 128) (by omega) (by omega) (by omega) rfl
  · exact group_sums q r j 256 (j.val - 128 - 128) (by omega) (by omega) (by omega) rfl
  · exact group_sums q r j 384 (j.val - 128 - 128 - 128) (by omega) (by omega) (by omega) rfl

/-! ## The other values of a point -/

section Payloads

variable (i : grid0.Coords) (x : Vec Ideal S1024x1024 .f32) (g : Vec Ideal S1x1024 .f32) (w : Vec Ideal S1x1024x512 .bf16) (u : Vec Ideal S1024x512 .f32)
  (r : Fin 1024) (j : Fin 512)

theorem pay3_apply (k : Fin 1024) : k0_pay3 (F := Ideal) x g (ix2 r k)
    = x (ix2 r k) * Ideal.rsqrt (Ideal.div (∑ s, x (ix2 r s) * x (ix2 r s)) (Ideal.ofBits .f32 0x44800000#32) + Ideal.ofBits .f32 0x358637BD#32) * g (ix2 0 k) := by
  pointwise [k0_pay3]
theorem pay4_apply : k0_pay4 (F := Ideal) x g w (ix2 r j) = ∑ s, k0_pay3 (F := Ideal) x g (ix2 r s) * w (ix3 0 s j) := by
  pointwise [k0_pay4]
theorem pay5_apply : k0_pay5 (F := Ideal) x g w (ix2 r j) = ∑ s, k0_pay3 (F := Ideal) x g (ix2 r s) * w (ix3 0 s j) := by
  pointwise [k0_pay5]
theorem pay6_apply : k0_pay6 (F := Ideal) x g w (ix2 r j) = ∑ s, k0_pay3 (F := Ideal) x g (ix2 r s) * w (ix3 0 s j) := by
  pointwise [k0_pay6]
theorem pay7_apply : k0_pay7 (F := Ideal) x g w (ix2 r j) = ∑ s, k0_pay3 (F := Ideal) x g (ix2 r s) * w (ix3 0 s j) := by
  pointwise [k0_pay7]
theorem pay24_apply : k0_pay24 (F := Ideal) u (ix2 r j) = u (ix2 r j) := by
  pointwise [k0_pay24]
theorem pay23_first (h : (i 0).val = 0) (v : Vec Ideal S16x512 .f32) (p : Fin 16) : k0_pay23 (F := Ideal) (num i) v (ix2 p j) = 0 := by
  have e : Scalar.cmpi .sgt (num i) 0#32 = 0#1 := by rw [num, h]; rfl
  pointwise [k0_pay23, e]
theorem pay23_later (h : (i 0).val ≠ 0) (v : Vec Ideal S16x512 .f32) (p : Fin 16) : k0_pay23 (F := Ideal) (num i) v (ix2 p j) = v (ix2 p j) := by
  have e : Scalar.cmpi .sgt (num i) 0#32 = 1#1 := by
    have key : ∀ a : Fin 8, a.val ≠ 0 → Scalar.cmpi .sgt (BitVec.ofNat 32 a.val) 0#32 = 1#1 := by decide +kernel
    exact key ⟨(i 0).val, (i 0).isLt⟩ h
  pointwise [k0_pay23, e]

/-- The number of a point's token, counted from one. -/
abbrev tokens : ℕ := (i 0).val * 1024 + r.val + 1

variable (l : Fin 128) (b1 b2 b3 b4 b5 b6 b7 b8 b9 b10 b11 b12 b13 b14 b15 : Vec Ideal S1024x128 .f32) (pw : Vec Ideal S1x128x128 .bf16) (ps : Vec Ideal S1x128 .f32)

theorem pay26_apply (hj : j.val = l.val) : k0_pay26 (F := Ideal) (num i) u b1 (ix2 r l)
    = Ideal.div (u (ix2 r j) + b1 (ix2 r l)) (((min (tokens i r) 2 : ℕ) : ℝ) : EReal) - u (ix2 r j) := by
  have hi : (i 0).val < 8 := (i 0).isLt
  obtain rfl : j = ⟨l.val, by clear hj; omega⟩ := Fin.ext hj
  pointwise [k0_pay26, k0_pay25]
  rw [num, token_bits, count_min _ 2 (by omega) (by decide)]
theorem pay29_apply (hj : j.val = 128 + l.val) : k0_pay29 (F := Ideal) u (k0_pay25 (num i)) b1 b2 b3 (ix2 r l)
    = Ideal.div (u (ix2 r j) + b1 (ix2 r l) + b2 (ix2 r l) + b3 (ix2 r l)) (((min (tokens i r) 4 : ℕ) : ℝ) : EReal) - u (ix2 r j) := by
  have hi : (i 0).val < 8 := (i 0).isLt
  obtain rfl : j = ⟨128 + l.val, by clear hj; omega⟩ := Fin.ext hj
  pointwise [k0_pay29, k0_pay25]
  rw [num, token_bits, count_min _ 4 (by omega) (by decide)]
theorem pay33_apply (hj : j.val = 256 + l.val) : k0_pay33 (F := Ideal) (k0_pay25 (num i)) (k0_pay31 u) (k0_pay32 u b1) b2 b3 b4 b5 b6 b7 (ix2 r l)
    = Ideal.div (u (ix2 r j) + b1 (ix2 r l) + b2 (ix2 r l) + b3 (ix2 r l) + b4 (ix2 r l) + b5 (ix2 r l) + b6 (ix2 r l) + b7 (ix2 r l))
      (((min (tokens i r) 8 : ℕ) : ℝ) : EReal) - u (ix2 r j) := by
  have hi : (i 0).val < 8 := (i 0).isLt
  obtain rfl : j = ⟨256 + l.val, by clear hj; omega⟩ := Fin.ext hj
  pointwise [k0_pay33, k0_pay32, k0_pay31, k0_pay25]
  rw [num, token_bits, count_min _ 8 (by omega) (by decide)]
theorem pay1_apply (hj : j.val = 384 + l.val) :
    k0_pay1 (F := Ideal) (k0_pay35 u) (k0_pay36 (k0_pay35 u) b1 b2 b3 b4 b5 b6 b7 b8 b9 b10 b11 b12 b13 b14 b15) (k0_pay37 (k0_pay25 (num i))) (ix2 r l)
    = Ideal.div (u (ix2 r j) + b1 (ix2 r l) + b2 (ix2 r l) + b3 (ix2 r l) + b4 (ix2 r l) + b5 (ix2 r l) + b6 (ix2 r l) + b7 (ix2 r l)
        + b8 (ix2 r l) + b9 (ix2 r l) + b10 (ix2 r l) + b11 (ix2 r l) + b12 (ix2 r l) + b13 (ix2 r l) + b14 (ix2 r l) + b15 (ix2 r l))
      (((min (tokens i r) 16 : ℕ) : ℝ) : EReal) - u (ix2 r j) := by
  have hi : (i 0).val < 8 := (i 0).isLt
  obtain rfl : j = ⟨384 + l.val, by clear hj; omega⟩ := Fin.ext hj
  pointwise [k0_pay1, k0_pay35, k0_pay36, k0_pay37, k0_pay25]
  rw [num, token_bits, count_min _ 16 (by omega) (by decide)]

theorem pay28_apply : k0_pay28 (F := Ideal) (k0_pay27 (num i) u b1 pw) ps (ix2 r l)
    = (∑ k, k0_pay26 (F := Ideal) (num i) u b1 (ix2 r k) * pw (ix3 0 k l)) * ps (ix2 0 l) := by
  pointwise [k0_pay28, k0_pay27]
theorem pay30_apply (n : IVec S1024x1 32) : k0_pay30 (F := Ideal) u n b1 b2 b3 pw ps (ix2 r l)
    = (∑ k, k0_pay29 (F := Ideal) u n b1 b2 b3 (ix2 r k) * pw (ix3 0 k l)) * ps (ix2 0 l) := by
  pointwise [k0_pay30]
theorem pay34_apply (n : IVec S1024x1 32) : k0_pay34 (F := Ideal) n b1 b2 b3 b4 b5 b6 b7 b8 pw ps (ix2 r l)
    = (∑ k, k0_pay33 (F := Ideal) n b1 b2 b3 b4 b5 b6 b7 b8 (ix2 r k) * pw (ix3 0 k l)) * ps (ix2 0 l) := by
  pointwise [k0_pay34]
theorem pay2_apply (n : IVec S1024x1 32) : k0_pay2 (F := Ideal) b1 b2 n pw ps (ix2 r l)
    = (∑ k, k0_pay1 (F := Ideal) b1 b2 n (ix2 r k) * pw (ix3 0 k l)) * ps (ix2 0 l) := by
  pointwise [k0_pay2]

end Payloads

/-! ## The blocks -/

section Values

variable (m : (ℓ : Loc nD τ sig) → Buf (Elt Ideal) ℓ) (c : Dev nD)

theorem at0 : ∀ t : Fin cfg0.N, win0_0.index t = ![t.val, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![t.val, 0] := (by decide +kernel : ∀ t : Fin grid0.N, _)
theorem at9 : ∀ t : Fin cfg0.N, win0_9.index t = ![t.val, 0] := (by decide +kernel : ∀ t : Fin grid0.N, _)
theorem at10 : ∀ t : Fin cfg0.N, win0_10.index t = ![t.val, 0] := (by decide +kernel : ∀ t : Fin grid0.N, _)
theorem at11 : ∀ t : Fin cfg0.N, win0_11.index t = ![t.val, 0] := (by decide +kernel : ∀ t : Fin grid0.N, _)
theorem at12 : ∀ t : Fin cfg0.N, win0_12.index t = ![t.val, 0] := (by decide +kernel : ∀ t : Fin grid0.N, _)
theorem at13 : ∀ t : Fin cfg0.N, win0_13.index t = ![t.val, 0] := (by decide +kernel : ∀ t : Fin grid0.N, _)
theorem at14 : ∀ t : Fin cfg0.N, win0_14.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0, 0] := (by decide +kernel : ∀ t : Fin grid0.N, _)
theorem at3 : ∀ t : Fin cfg0.N, win0_3.index t = ![0, 0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)

/-- The argument arrays. -/
abbrev xs (c : Dev nD) : Vec Ideal S8192x1024 .f32 := V m c main_arg0
abbrev gs (c : Dev nD) : Vec Ideal S1x1024 .f32 := V m c main_arg1
abbrev ws (c : Dev nD) : Vec Ideal S4x1024x512 .bf16 := V m c main_arg2
abbrev pws (c : Dev nD) : Vec Ideal S4x128x128 .bf16 := V m c main_arg3
abbrev pss (c : Dev nD) : Vec Ideal S1x512 .f32 := V m c main_arg4
abbrev qgs (c : Dev nD) : Vec Ideal S1x512 .f32 := V m c main_arg5
abbrev kgs (c : Dev nD) : Vec Ideal S1x512 .f32 := V m c main_arg6
/-- The normalised rows and the projections, of all tokens. -/
abbrev nrm (c : Dev nD) : Vec Ideal S8192x1024 .f32 := normed (xs m c) (gs m c)
abbrev piece (c : Dev nD) (p : Fin 4) : Vec Ideal S8192x512 .f32 := projected (nrm m c) (ws m c) p

/-- A point's token. -/
def tok (t : Fin cfg0.N) (r : Fin 1024) : Fin 8192 := ⟨t.val * 1024 + r.val, by have := Nat.lt_of_lt_of_eq t.isLt N_0; omega⟩

theorem block0 (t : Fin cfg0.N) (r k : Fin 1024) : (iblk m c 0 t : Vec Ideal S1024x1024 .f32) (ix2 r k) = xs m c (ix2 (tok t r) k) := by
  blk_simp [iblk]; exact congrArg _ (by blk_ext [at0 t, tok])
theorem block1 (t : Fin cfg0.N) (k : Fin 1024) : (iblk m c 1 t : Vec Ideal S1x1024 .f32) (ix2 0 k) = gs m c (ix2 0 k) := by
  blk_simp [iblk]; exact congrArg _ (by blk_ext [at1 t])
theorem block2 (t : Fin cfg0.N) (p : Fin 4) (k : Fin 1024) (j : Fin 512) : (iblk m c 2 t : Vec Ideal S4x1024x512 .bf16) (ix3 p k j) = ws m c (ix3 p k j) := by
  blk_simp [iblk]; exact congrArg _ (by blk_ext [at2 t])
theorem block3 (t : Fin cfg0.N) (p : Fin 4) (k j : Fin 128) : (iblk m c 3 t : Vec Ideal S4x128x128 .bf16) (ix3 p k j) = pws m c (ix3 p k j) := by
  blk_simp [iblk]; exact congrArg _ (by blk_ext [at3 t])
theorem block4 (t : Fin cfg0.N) (j : Fin 512) : (iblk m c 4 t : Vec Ideal S1x512 .f32) (ix2 0 j) = pss m c (ix2 0 j) := by
  blk_simp [iblk]; exact congrArg _ (by blk_ext [at4 t])
theorem block5 (t : Fin cfg0.N) (j : Fin 512) : (iblk m c 5 t : Vec Ideal S1x512 .f32) (ix2 0 j) = qgs m c (ix2 0 j) := by
  blk_simp [iblk]; exact congrArg _ (by blk_ext [at5 t])
theorem block6 (t : Fin cfg0.N) (j : Fin 512) : (iblk m c 6 t : Vec Ideal S1x512 .f32) (ix2 0 j) = kgs m c (ix2 0 j) := by
  blk_simp [iblk]; exact congrArg _ (by blk_ext [at6 t])

/-! ## The projections -/

theorem a_at (t : Fin cfg0.N) (r k : Fin 1024) : k0_pay3 (F := Ideal) (iblk m c 0 t) (iblk m c 1 t) (ix2 r k) = nrm m c (ix2 (tok t r) k) := by
  rw [pay3_apply]
  simp only [block0, block1]; rfl
/-- A piece of the projection's weights. -/
theorem piece_of (t : Fin cfg0.N) (p : ℕ) (hp : p < 4) (h) (k : Fin 1024) (j : Fin 512) :
    cut (iblk m c 2 t : Vec Ideal S4x1024x512 .bf16) (Rect.unit (s := S4x1024x512) ![p, 0, 0] S1x1024x512.size h).toLoadRect (ix3 0 k j : S1x1024x512.Idx) = ws m c (ix3 ⟨p, hp⟩ k j) := by
  rw [← block2 m c t]
  refine congrArg (iblk m c 2 t : Vec Ideal S4x1024x512 .bf16) (funext fun a => Fin.ext ?_)
  match a with
  | ⟨0, _⟩ => rfl
  | ⟨1, _⟩ => show 0 + 1 * k.val = k.val; omega
  | ⟨2, _⟩ => show 0 + 1 * j.val = j.val; omega
theorem u_at (t : Fin cfg0.N) (r : Fin 1024) (j : Fin 512) : uAt m c t (ix2 r j) = piece m c 0 (ix2 (tok t r) j) := by
  unfold uAt uT; rw [pay4_apply]
  simp only [a_at m c t, piece_of m c t 0 (by decide)]; rfl
theorem q_at (t : Fin cfg0.N) (r : Fin 1024) (j : Fin 512) : qAt m c t (ix2 r j) = piece m c 1 (ix2 (tok t r) j) := by
  unfold qAt qT; rw [pay5_apply]
  simp only [a_at m c t, piece_of m c t 1 (by decide)]; rfl
theorem k_at (t : Fin cfg0.N) (r : Fin 1024) (j : Fin 512) : kAt m c t (ix2 r j) = piece m c 2 (ix2 (tok t r) j) := by
  unfold kAt kT; rw [pay6_apply]
  simp only [a_at m c t, piece_of m c t 2 (by decide)]; rfl
theorem v_at (t : Fin cfg0.N) (r : Fin 1024) (j : Fin 512) : vAt m c t (ix2 r j) = piece m c 3 (ix2 (tok t r) j) := by
  unfold vAt vT; rw [pay7_apply]
  simp only [a_at m c t, piece_of m c t 3 (by decide)]; rfl
theorem qn_at (t : Fin cfg0.N) (r : Fin 1024) (j : Fin 512) : qnOf (F := Ideal) (iblk m c 5 t) (qAt m c t) (ix2 r j) = queries (piece m c 1) (qgs m c) (ix2 (tok t r) j) := by
  rw [qn_apply]
  simp only [q_at, block5]; rfl
theorem kn_at (t : Fin cfg0.N) (r : Fin 1024) (j : Fin 512) : knOf (F := Ideal) (iblk m c 6 t) (kAt m c t) (ix2 r j) = byHead (piece m c 2) (kgs m c) (ix2 (tok t r) j) := by
  rw [kn_apply]
  simp only [k_at, block6]; rfl

/-! ## The buffer of rows -/

/-- From its row 16 on the buffer holds the point's rows … -/
theorem rows_own (t : Fin cfg0.N) (p : Fin 1040) (j : Fin 512) (h : 16 ≤ p.val) :
    rowsAfter m c t (ix2 p j) = piece m c 0 (ix2 (tok t ⟨p.val - 16, by omega⟩) j) := by
  show bufT (F := Ideal) _ _ (uAt m c t) (ix2 p j) = _
  unfold bufT stack
  rw [dif_neg (by show ¬p.val < 16; omega)]
  exact (pay24_apply (uAt m c t) ⟨p.val - 16, by omega⟩ j).trans (u_at m c t _ j)
/-- … and before it the last of the point before, zero at the first point. -/
theorem rows_first (t : Fin cfg0.N) (p : Fin 1040) (j : Fin 512) (h : p.val < 16) (ht : t.val = 0) : rowsAfter m c t (ix2 p j) = 0 := by
  show bufT (F := Ideal) _ _ (uAt m c t) (ix2 p j) = _
  unfold bufT stack haloT
  rw [dif_pos (by show p.val < 16; exact h)]
  exact pay23_first _ j ((point_of t).trans ht) _ ⟨p.val, h⟩
theorem rows_halo (n : ℕ) (hn : n + 1 < cfg0.N) (p : Fin 1040) (j : Fin 512) (h : p.val < 16) :
    rowsAfter m c ⟨n + 1, hn⟩ (ix2 p j) = piece m c 0 (ix2 (tok ⟨n, Nat.lt_of_succ_lt hn⟩ ⟨1008 + p.val, by omega⟩) j) := by
  show bufT (F := Ideal) (grid0.coords ⟨n + 1, hn⟩) (rowsAfter m c ⟨n, Nat.lt_of_succ_lt hn⟩) (uAt m c ⟨n + 1, hn⟩) (ix2 p j) = _
  unfold bufT stack haloT
  rw [dif_pos (by show p.val < 16; exact h)]
  refine (pay23_later _ j (by rw [point_of]; exact Nat.succ_ne_zero n) _ ⟨p.val, h⟩).trans ?_
  refine Eq.trans (congrArg (rowsAfter m c ⟨n, Nat.lt_of_succ_lt hn⟩) (funext fun a => Fin.ext ?_ : _ = (ix2 ⟨1024 + p.val, by omega⟩ j : S1040x512.Idx))) ?_
  · match a with
    | ⟨0, _⟩ => show 1024 + 1 * p.val = 1024 + p.val; omega
    | ⟨1, _⟩ => show 0 + 1 * j.val = j.val; omega
  · rw [rows_own m c _ _ _ (show 16 ≤ 1024 + p.val by omega)]
    exact congrArg (fun s => piece m c 0 (ix2 s j)) (Fin.ext (by show n * 1024 + (1024 + p.val - 16) = n * 1024 + (1008 + p.val); omega))

/-- A group's rows some tokens back are the tokens' values so far back. -/
theorem back_at (t : Fin cfg0.N) (r : Fin 1024) (l : Fin 128) (o : ℕ) (j : Fin 512) (hj : j.val = o + l.val) (k : ℕ) (h) (h1 : 1 ≤ k) (h15 : k ≤ 15) :
    back (rowsAfter m c t) k o h (ix2 r l) = lag (piece m c 0) (16 - k) (tok t r) j := by
  have e : back (rowsAfter m c t) k o h (ix2 r l) = rowsAfter m c t (ix2 ⟨k + r.val, by omega⟩ j) := by
    refine congrArg (rowsAfter m c t) (funext fun a => Fin.ext ?_)
    match a with
    | ⟨0, _⟩ => show k + 1 * r.val = k + r.val; omega
    | ⟨1, _⟩ => show o + 1 * l.val = j.val; omega
  rw [e]
  unfold lag
  by_cases hr : 16 ≤ k + r.val
  · rw [rows_own m c t _ j hr, if_pos (by show 16 - k ≤ t.val * 1024 + r.val; omega)]
    exact congrArg (fun s => piece m c 0 (ix2 s j)) (Fin.ext (by show t.val * 1024 + (k + r.val - 16) = t.val * 1024 + r.val - (16 - k); omega))
  · obtain ⟨_ | n, hn⟩ := t
    · rw [rows_first m c _ _ j (by show k + r.val < 16; omega) rfl, if_neg (by show ¬16 - k ≤ 0 * 1024 + r.val; omega)]
    · rw [rows_halo m c n hn _ j (by show k + r.val < 16; omega), if_pos (by show 16 - k ≤ (n + 1) * 1024 + r.val; omega)]
      exact congrArg (fun s => piece m c 0 (ix2 s j)) (Fin.ext (by show n * 1024 + (1008 + (k + r.val)) = (n + 1) * 1024 + r.val - (16 - k); omega))

/-! ## The pooled groups -/

theorem count_at (t : Fin cfg0.N) (r : Fin 1024) : tokens (grid0.coords t) r = (tok t r).val + 1 := by
  unfold tokens; rw [point_of]; rfl

theorem pool0_at (t : Fin cfg0.N) (r : Fin 1024) (l : Fin 128) (j : Fin 512) (hj : j.val = l.val) :
    pool0 (F := Ideal) (grid0.coords t) (uAt m c t) (rowsAfter m c t) (ix2 r l) = meanLess 2 (piece m c 0) (tok t r) j := by
  have hb := fun k h => back_at m c t r l 0 j (hj.trans (Nat.zero_add _).symm) k h
  unfold pool0 meanLess
  rw [pay26_apply (grid0.coords t) (uAt m c t) r j l _ hj]
  simp only [hb, Nat.reduceLeDiff, le_refl, u_at, count_at, Nat.reduceSub, Finset.sum_range_succ, Finset.sum_range_zero, zero_add, lag_zero]
theorem pool1_at (t : Fin cfg0.N) (r : Fin 1024) (l : Fin 128) (j : Fin 512) (hj : j.val = 128 + l.val) :
    pool1 (F := Ideal) (grid0.coords t) (uAt m c t) (rowsAfter m c t) (ix2 r l) = meanLess 4 (piece m c 0) (tok t r) j := by
  have hb := fun k h => back_at m c t r l 128 j hj k h
  unfold pool1 meanLess
  rw [pay29_apply (grid0.coords t) (uAt m c t) r j l _ _ _ hj]
  simp only [hb, Nat.reduceLeDiff, le_refl, u_at, count_at, Nat.reduceSub, Finset.sum_range_succ, Finset.sum_range_zero, zero_add, lag_zero]
theorem pool2_at (t : Fin cfg0.N) (r : Fin 1024) (l : Fin 128) (j : Fin 512) (hj : j.val = 256 + l.val) :
    pool2 (F := Ideal) (grid0.coords t) (uAt m c t) (rowsAfter m c t) (ix2 r l) = meanLess 8 (piece m c 0) (tok t r) j := by
  have hb := fun k h => back_at m c t r l 256 j hj k h
  unfold pool2 meanLess
  rw [pay33_apply (grid0.coords t) (uAt m c t) r j l _ _ _ _ _ _ _ hj]
  simp only [hb, Nat.reduceLeDiff, le_refl, u_at, count_at, Nat.reduceSub, Finset.sum_range_succ, Finset.sum_range_zero, zero_add, lag_zero]
theorem pool3_at (t : Fin cfg0.N) (r : Fin 1024) (l : Fin 128) (j : Fin 512) (hj : j.val = 384 + l.val) :
    pool3 (F := Ideal) (grid0.coords t) (uAt m c t) (rowsAfter m c t) (ix2 r l) = meanLess 16 (piece m c 0) (tok t r) j := by
  have hb := fun k h => back_at m c t r l 384 j hj k h
  unfold pool3 sums3 meanLess
  rw [pay1_apply (grid0.coords t) (uAt m c t) r j l _ _ _ _ _ _ _ _ _ _ _ _ _ _ _ hj]
  simp only [hb, Nat.reduceLeDiff, le_refl, u_at, count_at, Nat.reduceSub, Finset.sum_range_succ, Finset.sum_range_zero, zero_add, lag_zero]
theorem wcut_at (t : Fin cfg0.N) (p : ℕ) (hp : p < 4) (h) (k l : Fin 128) :
    wcut (iblk m c 3 t : Vec Ideal S4x128x128 .bf16) p h (ix3 0 k l : S1x128x128.Idx) = pws m c (ix3 ⟨p, hp⟩ k l) := by
  rw [← block3 m c t]
  refine congrArg (iblk m c 3 t : Vec Ideal S4x128x128 .bf16) (funext fun a => Fin.ext ?_)
  match a with
  | ⟨0, _⟩ => rfl
  | ⟨1, _⟩ => show 0 + 1 * k.val = k.val; omega
  | ⟨2, _⟩ => show 0 + 1 * l.val = l.val; omega
theorem scut_at (t : Fin cfg0.N) (o : ℕ) (h) (l : Fin 128) (j : Fin 512) (hj : j.val = o + l.val) :
    scut (iblk m c 4 t : Vec Ideal S1x512 .f32) o h (ix2 0 l : S1x128.Idx) = pss m c (ix2 0 j) := by
  rw [← block4 m c t]
  refine congrArg (iblk m c 4 t : Vec Ideal S1x512 .f32) (funext fun a => Fin.ext ?_)
  match a with
  | ⟨0, _⟩ => rfl
  | ⟨1, _⟩ => show o + 1 * l.val = j.val; omega
theorem out0_at (t : Fin cfg0.N) (r : Fin 1024) (l : Fin 128) (j : Fin 512) (hj : j.val = 0 + l.val) :
    out0 (F := Ideal) (grid0.coords t) (iblk m c 3 t) (iblk m c 4 t) (uAt m c t) (rowsAfter m c t) (ix2 r l)
      = (∑ k : Fin 128, meanLess 2 (piece m c 0) (tok t r) ⟨0 + k.val, by omega⟩ * pws m c (ix3 0 k l)) * pss m c (ix2 0 j) := by
  unfold out0
  rw [pay28_apply]
  refine congrArg₂ (· * ·) (Finset.sum_congr rfl fun k _ => congrArg₂ (· * ·) ?_ (wcut_at m c t 0 (by decide) _ k l)) (scut_at m c t 0 _ l j hj)
  exact pool0_at m c t r k _ (Nat.zero_add _)
theorem out1_at (t : Fin cfg0.N) (r : Fin 1024) (l : Fin 128) (j : Fin 512) (hj : j.val = 128 + l.val) :
    out1 (F := Ideal) (grid0.coords t) (iblk m c 3 t) (iblk m c 4 t) (uAt m c t) (rowsAfter m c t) (ix2 r l)
      = (∑ k : Fin 128, meanLess 4 (piece m c 0) (tok t r) ⟨128 + k.val, by omega⟩ * pws m c (ix3 1 k l)) * pss m c (ix2 0 j) := by
  unfold out1
  rw [pay30_apply]
  refine congrArg₂ (· * ·) (Finset.sum_congr rfl fun k _ => congrArg₂ (· * ·) ?_ (wcut_at m c t 1 (by decide) _ k l)) (scut_at m c t 128 _ l j hj)
  exact pool1_at m c t r k _ rfl
theorem out2_at (t : Fin cfg0.N) (r : Fin 1024) (l : Fin 128) (j : Fin 512) (hj : j.val = 256 + l.val) :
    out2 (F := Ideal) (grid0.coords t) (iblk m c 3 t) (iblk m c 4 t) (uAt m c t) (rowsAfter m c t) (ix2 r l)
      = (∑ k : Fin 128, meanLess 8 (piece m c 0) (tok t r) ⟨256 + k.val, by omega⟩ * pws m c (ix3 2 k l)) * pss m c (ix2 0 j) := by
  unfold out2
  rw [pay34_apply]
  refine congrArg₂ (· * ·) (Finset.sum_congr rfl fun k _ => congrArg₂ (· * ·) ?_ (wcut_at m c t 2 (by decide) _ k l)) (scut_at m c t 256 _ l j hj)
  exact pool2_at m c t r k _ rfl
theorem out3_at (t : Fin cfg0.N) (r : Fin 1024) (l : Fin 128) (j : Fin 512) (hj : j.val = 384 + l.val) :
    out3 (F := Ideal) (grid0.coords t) (iblk m c 3 t) (iblk m c 4 t) (uAt m c t) (rowsAfter m c t) (ix2 r l)
      = (∑ k : Fin 128, meanLess 16 (piece m c 0) (tok t r) ⟨384 + k.val, by omega⟩ * pws m c (ix3 3 k l)) * pss m c (ix2 0 j) := by
  unfold out3
  rw [pay2_apply]
  refine congrArg₂ (· * ·) (Finset.sum_congr rfl fun k _ => congrArg₂ (· * ·) ?_ (wcut_at m c t 3 (by decide) _ k l)) (scut_at m c t 384 _ l j hj)
  exact pool3_at m c t r k _ rfl

theorem pooled_at (t : Fin cfg0.N) (r : Fin 1024) (j : Fin 512) :
    poolT (F := Ideal) (grid0.coords t) (uAt m c t) (rowsAfter m c t) (ix2 r j) = pooled (piece m c 0) (ix2 (tok t r) j) := by
  change _ = meanLess (window j) (piece m c 0) (tok t r) j
  unfold poolT join window
  by_cases h0 : j.val < 128
  · rw [if_pos (show ((ix2 r j : S1024x512.Idx) 1).val < 128 from h0), if_pos h0]
    exact pool0_at m c t r ⟨j.val % 128, Nat.mod_lt _ (by decide)⟩ j (by dsimp only; omega)
  rw [if_neg (show ¬((ix2 r j : S1024x512.Idx) 1).val < 128 from h0), if_neg h0]
  by_cases h1 : j.val < 256
  · rw [if_pos (show ((ix2 r j : S1024x512.Idx) 1).val < 256 from h1), if_pos h1]
    exact pool1_at m c t r ⟨j.val % 128, Nat.mod_lt _ (by decide)⟩ j (by dsimp only; omega)
  rw [if_neg (show ¬((ix2 r j : S1024x512.Idx) 1).val < 256 from h1), if_neg h1]
  by_cases h2 : j.val < 384
  · rw [if_pos (show ((ix2 r j : S1024x512.Idx) 1).val < 384 from h2), if_pos h2]
    exact pool2_at m c t r ⟨j.val % 128, Nat.mod_lt _ (by decide)⟩ j (by dsimp only; omega)
  rw [if_neg (show ¬((ix2 r j : S1024x512.Idx) 1).val < 384 from h2), if_neg h2]
  exact pool3_at m c t r ⟨j.val % 128, Nat.mod_lt _ (by decide)⟩ j (by dsimp only; omega)

/-- A group's mixed columns, said of the column in the whole. -/
theorem mixed_of (w : ℕ) (s : Fin 8192) (j : Fin 512) (o p : ℕ) (hp : p < 4) (ho : o ≤ 384) (hw : window j = w) (hd : j.val / 128 = p) (hm : p * 128 = o) :
    (∑ k : Fin 128, meanLess w (piece m c 0) s ⟨o + k.val, by omega⟩ * pws m c (ix3 ⟨p, hp⟩ k ⟨j.val % 128, Nat.mod_lt _ (by decide)⟩)) * pss m c (ix2 0 j)
      = mixed (piece m c 0) (pws m c) (pss m c) (ix2 s j) := by
  subst hw hd hm
  rfl
theorem mixed_at (t : Fin cfg0.N) (r : Fin 1024) (j : Fin 512) :
    outT (F := Ideal) (grid0.coords t) (iblk m c 3 t) (iblk m c 4 t) (uAt m c t) (rowsAfter m c t) (ix2 r j) = mixed (piece m c 0) (pws m c) (pss m c) (ix2 (tok t r) j) := by
  unfold outT join
  by_cases h0 : j.val < 128
  · rw [if_pos (show ((ix2 r j : S1024x512.Idx) 1).val < 128 from h0)]
    exact (out0_at m c t r ⟨j.val % 128, Nat.mod_lt _ (by decide)⟩ j (by dsimp only; omega)).trans
      (mixed_of m c 2 (tok t r) j 0 0 (by decide) (by decide) (by unfold window; rw [if_pos h0]) (by omega) rfl)
  rw [if_neg (show ¬((ix2 r j : S1024x512.Idx) 1).val < 128 from h0)]
  by_cases h1 : j.val < 256
  · rw [if_pos (show ((ix2 r j : S1024x512.Idx) 1).val < 256 from h1)]
    exact (out1_at m c t r ⟨j.val % 128, Nat.mod_lt _ (by decide)⟩ j (by dsimp only; omega)).trans
      (mixed_of m c 4 (tok t r) j 128 1 (by decide) (by decide) (by unfold window; rw [if_neg h0, if_pos h1]) (by omega) rfl)
  rw [if_neg (show ¬((ix2 r j : S1024x512.Idx) 1).val < 256 from h1)]
  by_cases h2 : j.val < 384
  · rw [if_pos (show ((ix2 r j : S1024x512.Idx) 1).val < 384 from h2)]
    exact (out2_at m c t r ⟨j.val % 128, Nat.mod_lt _ (by decide)⟩ j (by dsimp only; omega)).trans
      (mixed_of m c 8 (tok t r) j 256 2 (by decide) (by decide) (by unfold window; rw [if_neg h0, if_neg h1, if_pos h2]) (by omega) rfl)
  rw [if_neg (show ¬((ix2 r j : S1024x512.Idx) 1).val < 384 from h2)]
  exact (out3_at m c t r ⟨j.val % 128, Nat.mod_lt _ (by decide)⟩ j (by dsimp only; omega)).trans
    (mixed_of m c 16 (tok t r) j 384 3 (by decide) (by decide) (by unfold window; rw [if_neg h0, if_neg h1, if_neg h2]) (by omega) rfl)

/-! ## The result arrays -/

theorem a_final : (dats m 0 c).arrAt 7 cfg0.N = nrm m c := by
  refine (dats m 0 c).arrAt_eq_of_covers 7 _ (by decide +kernel) fun t _ y => ?_
  blk_simp
  have e : (win0_7.blk t).view.emb y = ix2 (tok t (y 0)) (y 1) := by blk_ext [at7 t, tok]
  rw [e]
  exact (congrArg _ (eq_ix2 y)).trans (a_at m c t (y 0) (y 1))
theorem pooled_final : (dats m 0 c).arrAt 8 cfg0.N = pooled (piece m c 0) := by
  refine (dats m 0 c).arrAt_eq_of_covers 8 _ (by decide +kernel) fun t _ y => ?_
  blk_simp
  have e : (win0_8.blk t).view.emb y = ix2 (tok t (y 0)) (y 1) := by blk_ext [at8 t, tok]
  rw [e]
  exact (congrArg _ (eq_ix2 y)).trans (pooled_at m c t (y 0) (y 1))
theorem mixed_final : (dats m 0 c).arrAt 9 cfg0.N = mixed (piece m c 0) (pws m c) (pss m c) := by
  refine (dats m 0 c).arrAt_eq_of_covers 9 _ (by decide +kernel) fun t _ y => ?_
  blk_simp
  have e : (win0_9.blk t).view.emb y = ix2 (tok t (y 0)) (y 1) := by blk_ext [at9 t, tok]
  rw [e]
  exact (congrArg _ (eq_ix2 y)).trans (mixed_at m c t (y 0) (y 1))
theorem q_final : (dats m 0 c).arrAt 10 cfg0.N = piece m c 1 := by
  refine (dats m 0 c).arrAt_eq_of_covers 10 _ (by decide +kernel) fun t _ y => ?_
  blk_simp
  have e : (win0_10.blk t).view.emb y = ix2 (tok t (y 0)) (y 1) := by blk_ext [at10 t, tok]
  rw [e]
  exact (congrArg _ (eq_ix2 y)).trans (q_at m c t (y 0) (y 1))
theorem k_final : (dats m 0 c).arrAt 11 cfg0.N = piece m c 2 := by
  refine (dats m 0 c).arrAt_eq_of_covers 11 _ (by decide +kernel) fun t _ y => ?_
  blk_simp
  have e : (win0_11.blk t).view.emb y = ix2 (tok t (y 0)) (y 1) := by blk_ext [at11 t, tok]
  rw [e]
  exact (congrArg _ (eq_ix2 y)).trans (k_at m c t (y 0) (y 1))
theorem qn_final : (dats m 0 c).arrAt 12 cfg0.N = queries (piece m c 1) (qgs m c) := by
  refine (dats m 0 c).arrAt_eq_of_covers 12 _ (by decide +kernel) fun t _ y => ?_
  blk_simp
  have e : (win0_12.blk t).view.emb y = ix2 (tok t (y 0)) (y 1) := by blk_ext [at12 t, tok]
  rw [e]
  exact (congrArg _ (eq_ix2 y)).trans (qn_at m c t (y 0) (y 1))
theorem kn_final : (dats m 0 c).arrAt 13 cfg0.N = byHead (piece m c 2) (kgs m c) := by
  refine (dats m 0 c).arrAt_eq_of_covers 13 _ (by decide +kernel) fun t _ y => ?_
  blk_simp
  have e : (win0_13.blk t).view.emb y = ix2 (tok t (y 0)) (y 1) := by blk_ext [at13 t, tok]
  rw [e]
  exact (congrArg _ (eq_ix2 y)).trans (kn_at m c t (y 0) (y 1))
theorem v_final : (dats m 0 c).arrAt 14 cfg0.N = piece m c 3 := by
  refine (dats m 0 c).arrAt_eq_of_covers 14 _ (by decide +kernel) fun t _ y => ?_
  blk_simp
  have e : (win0_14.blk t).view.emb y = ix2 (tok t (y 0)) (y 1) := by blk_ext [at14 t, tok]
  rw [e]
  exact (congrArg _ (eq_ix2 y)).trans (v_at m c t (y 0) (y 1))

end Values

end Cert.KernelMixIdeal.Mix

end
-- ==== Proof.MixRef.lean ====
/-
  The reference's values of the mixer's input half at the extended reals: the same sums the kernel's results are.
-/
module

public import proofs.«01_k».proof.Proof.Gen.ReferenceMixIdeal.Read
public import proofs.«01_k».proof.Proof.MixValue
public import Idealize.ShloMosaic.Lib.Pipeline.ValueKit.Acc
public import Idealize.ShloMosaic.Lib.Pointwise

@[expose] public section

set_option maxRecDepth 16384

noncomputable section

namespace Cert.ReferenceMixIdeal.Mix

open Cert.ReferenceMixIdeal Cert.ReferenceMixIdeal.Gen Idealize.ShloMosaic Cert.ReferenceMixIdeal.Read
open Cert.KernelMixIdeal.Mix (normed projected headOf byHead queries lag meanLess window pooled mixed lag_zero count_min)

variable (x0 : (⟨S8192x1024, .f32⟩ : BufTy).Contents (Elt Ideal)) (x1 : (⟨S1x1024, .f32⟩ : BufTy).Contents (Elt Ideal)) (x2 : (⟨S4x1024x512, .bf16⟩ : BufTy).Contents (Elt Ideal))
  (x3 : (⟨S4x128x128, .bf16⟩ : BufTy).Contents (Elt Ideal)) (x4 x5 x6 : (⟨S1x512, .f32⟩ : BufTy).Contents (Elt Ideal))

/-! ## The rows and their projections -/

theorem a_at (s : Fin 8192) (k : Fin 1024) : val_main_v11 x0 x1 (ix2 s k) = normed x0 x1 (ix2 s k) := by
  unfold normed
  pointwise [val_main_v11, val_main_v10, val_main_v9, val_main_v8, val_main_v7, val_main_v6, val_main_v5, val_main_v4, val_main_v3, val_main_v2, val_main_v1, val_main_v0, val_main_cst, val_main_cst_0, val_main_cst_1]
theorem u_at (s : Fin 8192) (j : Fin 512) : val_main_v15 x0 x1 x2 (ix2 s j) = projected (normed x0 x1) x2 0 (ix2 s j) := by
  pointwise [val_main_v15, val_main_v14, val_main_v13, val_main_v12]
  simp only [a_at]; rfl
theorem q_at (s : Fin 8192) (j : Fin 512) : val_main_v19 x0 x1 x2 (ix2 s j) = projected (normed x0 x1) x2 1 (ix2 s j) := by
  pointwise [val_main_v19, val_main_v18, val_main_v17, val_main_v16]
  simp only [a_at]; rfl
theorem k_at (s : Fin 8192) (j : Fin 512) : val_main_v23 x0 x1 x2 (ix2 s j) = projected (normed x0 x1) x2 2 (ix2 s j) := by
  pointwise [val_main_v23, val_main_v22, val_main_v21, val_main_v20]
  simp only [a_at]; rfl
theorem v_at (s : Fin 8192) (j : Fin 512) : val_main_v27 x0 x1 x2 (ix2 s j) = projected (normed x0 x1) x2 3 (ix2 s j) := by
  pointwise [val_main_v27, val_main_v26, val_main_v25, val_main_v24]
  simp only [a_at]; rfl

/-! ## The heads -/

/-- The mean of a head's squares, by the division and by the multiplication. -/
theorem mean64 (x : EReal) : Ideal.div x (Ideal.ofBits .f32 0x42800000#32) = x * Ideal.ofBits .f32 0x3C800000#32 := by
  have b64 : Ideal.ofBits .f32 0x42800000#32 = ((64 : ℝ) : EReal) := by
    simp [Ideal.ofBits, Ideal.ieee, -EReal.coe_mul]; norm_num
  have b64th : Ideal.ofBits .f32 0x3C800000#32 = ((1 / 64 : ℝ) : EReal) := by
    simp [Ideal.ofBits, Ideal.ieee, -EReal.coe_mul]; norm_num
  rw [b64, b64th, Ideal.div_coe (by norm_num)]

theorem qn_at (s : Fin 8192) (j : Fin 512) : val_main_v44 x0 x1 x2 x5 (ix2 s j) = queries (projected (normed x0 x1) x2 1) x5 (ix2 s j) := by
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_cst_2, val_main_cst_3, val_main_cst_4, val_main_cst_5]
  simp only [q_at, mean64]; rfl
theorem kn_at (s : Fin 8192) (j : Fin 512) : val_main_v59 x0 x1 x2 x6 (ix2 s j) = byHead (projected (normed x0 x1) x2 2) x6 (ix2 s j) := by
  pointwise [val_main_v59, val_main_v58, val_main_v57, val_main_v56, val_main_v55, val_main_v54, val_main_v53, val_main_v52, val_main_v51, val_main_v50, val_main_v49, val_main_v48, val_main_v47, val_main_v46, val_main_v45, val_main_cst_6, val_main_cst_7, val_main_cst_8]
  simp only [k_at, mean64]; rfl

/-! ## The pooled groups -/

/-- A row of the values with some zero rows before them is the value so many tokens back. -/
theorem led (u : Vec Ideal S8192x512 .f32) (k d : ℕ) (hd : d ≤ k) (s : Fin 8192) (p : ℕ) (hp : p = d + s.val) (j : Fin 512) :
    (if h : k ≤ p ∧ p - k < 8192 then u (ix2 ⟨p - k, h.2⟩ j) else FloatOps.sitofp (F := Ideal) .f32 0#32) = lag u (k - d) s j := by
  subst hp
  unfold lag
  by_cases h : k ≤ d + s.val
  · rw [dif_pos ⟨h, by omega⟩, if_pos (by omega)]
    exact congrArg (fun r => u (ix2 r j)) (Fin.ext (by show d + s.val - k = s.val - (k - d); omega))
  · rw [dif_neg fun e => h e.1, if_neg (by omega)]
    show (((0#32 : BitVec 32).toInt : ℝ) : EReal) = 0
    simp
theorem counted (s : Fin 8192) (w : ℕ) (hw : w < 2 ^ 31) :
    FloatOps.sitofp (F := Ideal) .f32 (IntOp.minsi (IntOp.addi 1#32 (BitVec.ofNat 32 s.val)) (BitVec.ofNat 32 w)) = (((min (s.val + 1) w : ℕ) : ℝ) : EReal) := by
  rw [show IntOp.addi 1#32 (BitVec.ofNat 32 s.val) = BitVec.ofNat 32 (s.val + 1) by rw [Nat.add_comm, BitVec.ofNat_add]; rfl]
  exact count_min _ w (by omega) hw

theorem led0 (s : Fin 8192) (l : Fin 128) (p : Fin 8193) (d : ℕ) (hd : d ≤ 1) (hp : p.val = d + s.val) :
    val_main_v61 x0 x1 x2 (ix2 p l) = lag (projected (normed x0 x1) x2 0) (1 - d) s ⟨l.val, by omega⟩ := by
  pointwise [val_main_v61, val_main_call0_v0, val_main_c, val_main_v60]
  simp only [u_at]
  exact led (projected (normed x0 x1) x2 0) 1 d hd s p.val hp ⟨l.val, by omega⟩
theorem pool0_at (s : Fin 8192) (l : Fin 128) (j : Fin 512) (hj : j.val = l.val) : val_main_v74 x0 x1 x2 (ix2 s l) = meanLess 2 (projected (normed x0 x1) x2 0) s j := by
  have hb := fun d h hd => led0 x0 x1 x2 s l ⟨d + s.val, h⟩ d hd rfl
  have h0 := fun h => led0 x0 x1 x2 s l ⟨s.val, h⟩ 0 (Nat.zero_le _) (Nat.zero_add _).symm
  obtain rfl : j = ⟨l.val, by clear hj; omega⟩ := Fin.ext hj
  unfold meanLess
  pointwise [val_main_v74, val_main_v73, val_main_v72, val_main_v71, val_main_v70, val_main_v69, val_main_v68, val_main_v67, val_main_v66, val_main_v65, val_main_v64, val_main_v63, val_main_v62, val_main_c_9, val_main_c_10, val_main_v60]
  rw [counted s 2 (by decide)]
  simp only [hb, h0, u_at, Nat.reduceLeDiff, le_refl, Nat.reduceSub, Nat.sub_self, Nat.sub_zero, Finset.sum_range_succ, Finset.sum_range_zero, zero_add, lag_zero]
theorem led1 (s : Fin 8192) (l : Fin 128) (p : Fin 8195) (d : ℕ) (hd : d ≤ 3) (hp : p.val = d + s.val) :
    val_main_v76 x0 x1 x2 (ix2 p l) = lag (projected (normed x0 x1) x2 0) (3 - d) s ⟨128 + l.val, by omega⟩ := by
  pointwise [val_main_v76, val_main_call1_v0, val_main_c_11, val_main_v75]
  simp only [u_at]
  exact led (projected (normed x0 x1) x2 0) 3 d hd s p.val hp ⟨128 + l.val, by omega⟩
theorem pool1_at (s : Fin 8192) (l : Fin 128) (j : Fin 512) (hj : j.val = 128 + l.val) : val_main_v93 x0 x1 x2 (ix2 s l) = meanLess 4 (projected (normed x0 x1) x2 0) s j := by
  have hb := fun d h hd => led1 x0 x1 x2 s l ⟨d + s.val, h⟩ d hd rfl
  have h0 := fun h => led1 x0 x1 x2 s l ⟨s.val, h⟩ 0 (Nat.zero_le _) (Nat.zero_add _).symm
  obtain rfl : j = ⟨128 + l.val, by clear hj; omega⟩ := Fin.ext hj
  unfold meanLess
  pointwise [val_main_v93, val_main_v92, val_main_v91, val_main_v90, val_main_v89, val_main_v88, val_main_v87, val_main_v86, val_main_v85, val_main_v84, val_main_v83, val_main_v82, val_main_v81, val_main_v80, val_main_v79, val_main_v78, val_main_v77, val_main_c_12, val_main_c_13, val_main_v75]
  rw [counted s 4 (by decide)]
  simp only [hb, h0, u_at, Nat.reduceLeDiff, le_refl, Nat.reduceSub, Nat.sub_self, Nat.sub_zero, Finset.sum_range_succ, Finset.sum_range_zero, zero_add, lag_zero]
theorem led2 (s : Fin 8192) (l : Fin 128) (p : Fin 8199) (d : ℕ) (hd : d ≤ 7) (hp : p.val = d + s.val) :
    val_main_v95 x0 x1 x2 (ix2 p l) = lag (projected (normed x0 x1) x2 0) (7 - d) s ⟨256 + l.val, by omega⟩ := by
  pointwise [val_main_v95, val_main_call2_v0, val_main_c_14, val_main_v94]
  simp only [u_at]
  exact led (projected (normed x0 x1) x2 0) 7 d hd s p.val hp ⟨256 + l.val, by omega⟩
theorem pool2_at (s : Fin 8192) (l : Fin 128) (j : Fin 512) (hj : j.val = 256 + l.val) : val_main_v120 x0 x1 x2 (ix2 s l) = meanLess 8 (projected (normed x0 x1) x2 0) s j := by
  have hb := fun d h hd => led2 x0 x1 x2 s l ⟨d + s.val, h⟩ d hd rfl
  have h0 := fun h => led2 x0 x1 x2 s l ⟨s.val, h⟩ 0 (Nat.zero_le _) (Nat.zero_add _).symm
  obtain rfl : j = ⟨256 + l.val, by clear hj; omega⟩ := Fin.ext hj
  unfold meanLess
  pointwise [val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_c_15, val_main_c_16, val_main_v94]
  rw [counted s 8 (by decide)]
  simp only [hb, h0, u_at, Nat.reduceLeDiff, le_refl, Nat.reduceSub, Nat.sub_self, Nat.sub_zero, Finset.sum_range_succ, Finset.sum_range_zero, zero_add, lag_zero]
theorem led3 (s : Fin 8192) (l : Fin 128) (p : Fin 8207) (d : ℕ) (hd : d ≤ 15) (hp : p.val = d + s.val) :
    val_main_v122 x0 x1 x2 (ix2 p l) = lag (projected (normed x0 x1) x2 0) (15 - d) s ⟨384 + l.val, by omega⟩ := by
  pointwise [val_main_v122, val_main_call3_v0, val_main_c_17, val_main_v121]
  simp only [u_at]
  exact led (projected (normed x0 x1) x2 0) 15 d hd s p.val hp ⟨384 + l.val, by omega⟩
theorem pool3_at (s : Fin 8192) (l : Fin 128) (j : Fin 512) (hj : j.val = 384 + l.val) : val_main_v163 x0 x1 x2 (ix2 s l) = meanLess 16 (projected (normed x0 x1) x2 0) s j := by
  have hb := fun d h hd => led3 x0 x1 x2 s l ⟨d + s.val, h⟩ d hd rfl
  have h0 := fun h => led3 x0 x1 x2 s l ⟨s.val, h⟩ 0 (Nat.zero_le _) (Nat.zero_add _).symm
  obtain rfl : j = ⟨384 + l.val, by clear hj; omega⟩ := Fin.ext hj
  unfold meanLess
  pointwise [val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_c_18, val_main_c_19, val_main_v121]
  rw [counted s 16 (by decide)]
  simp only [hb, h0, u_at, Nat.reduceLeDiff, le_refl, Nat.reduceSub, Nat.sub_self, Nat.sub_zero, Finset.sum_range_succ, Finset.sum_range_zero, zero_add, lag_zero]

theorem pooled_at (s : Fin 8192) (j : Fin 512) : val_main_v184 x0 x1 x2 (ix2 s j) = pooled (projected (normed x0 x1) x2 0) (ix2 s j) := by
  change _ = meanLess (window j) _ s j
  unfold window
  pointwise [val_main_v184]
  by_cases h0 : j.val < 128
  · rw [dif_pos h0, if_pos h0]; exact pool0_at x0 x1 x2 s _ j rfl
  rw [dif_neg h0, if_neg h0]
  by_cases h1 : j.val < 256
  · rw [dif_pos (by omega), if_pos h1]; exact pool1_at x0 x1 x2 s _ j (by dsimp only; omega)
  rw [dif_neg (by omega), if_neg h1]
  by_cases h2 : j.val < 384
  · rw [dif_pos (by omega), if_pos h2]; exact pool2_at x0 x1 x2 s _ j (by dsimp only; omega)
  rw [dif_neg (by omega), if_neg h2]; exact pool3_at x0 x1 x2 s _ j (by dsimp only; omega)

/-- A group's products, said of the column in the whole. -/
theorem mixed_of (u : Vec Ideal S8192x512 .f32) (w : ℕ) (s : Fin 8192) (j : Fin 512) (o p q : ℕ) (hp : p < 4) (hq : q < 128) (ho : o ≤ 384) (hw : window j = w) (hd : j.val / 128 = p)
    (hm : p * 128 = o) (hr : j.val % 128 = q) :
    (∑ k : Fin 128, meanLess w u s ⟨o + k.val, by omega⟩ * x3 (ix3 ⟨p, hp⟩ k ⟨q, hq⟩)) * x4 (ix2 0 j) = mixed u x3 x4 (ix2 s j) := by
  subst hw hd hm hr
  rfl
theorem mixed_at (s : Fin 8192) (j : Fin 512) : val_main_v182 x0 x1 x2 x3 x4 (ix2 s j) = mixed (projected (normed x0 x1) x2 0) x3 x4 (ix2 s j) := by
  pointwise [val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164]
  have e0 := fun k : Fin 128 => pool0_at x0 x1 x2 s k ⟨0 + k.val, by omega⟩ (Nat.zero_add _)
  have e1 := fun k : Fin 128 => pool1_at x0 x1 x2 s k ⟨128 + k.val, by omega⟩ rfl
  have e2 := fun k : Fin 128 => pool2_at x0 x1 x2 s k ⟨256 + k.val, by omega⟩ rfl
  have e3 := fun k : Fin 128 => pool3_at x0 x1 x2 s k ⟨384 + k.val, by omega⟩ rfl
  simp only [e0, e1, e2, e3]
  by_cases h0 : j.val < 128
  · rw [dif_pos h0]
    exact mixed_of x3 x4 _ 2 s j 0 0 _ (by decide) _ (by decide) (by unfold window; rw [if_pos h0]) (by omega) rfl (by omega)
  rw [dif_neg h0]
  by_cases h1 : j.val < 256
  · rw [dif_pos (by omega)]
    exact mixed_of x3 x4 _ 4 s j 128 1 _ (by decide) _ (by decide) (by unfold window; rw [if_neg h0, if_pos h1]) (by omega) rfl (by omega)
  rw [dif_neg (by omega)]
  by_cases h2 : j.val < 384
  · rw [dif_pos (by omega)]
    exact mixed_of x3 x4 _ 8 s j 256 2 _ (by decide) _ (by decide) (by unfold window; rw [if_neg h0, if_neg h1, if_pos h2]) (by omega) rfl (by omega)
  rw [dif_neg (by omega)]
  exact mixed_of x3 x4 _ 16 s j 384 3 _ (by decide) _ (by decide) (by unfold window; rw [if_neg h0, if_neg h1, if_neg h2]) (by omega) rfl (by omega)

/-! ## The results -/

theorem a_eq : val_main_v183 (F := Ideal) x0 x1 = normed x0 x1 := funext fun y => (congrArg (val_main_v11 x0 x1) (eq_ix2 y)).trans ((a_at x0 x1 (y 0) (y 1)).trans (congrArg _ (eq_ix2 y).symm))
theorem pooled_eq : val_main_v185 (F := Ideal) x0 x1 x2 = pooled (projected (normed x0 x1) x2 0) := funext fun y =>
  (congrArg (val_main_v184 x0 x1 x2) (eq_ix2 y)).trans ((pooled_at x0 x1 x2 (y 0) (y 1)).trans (congrArg _ (eq_ix2 y).symm))
theorem mixed_eq : val_main_v186 (F := Ideal) x0 x1 x2 x3 x4 = mixed (projected (normed x0 x1) x2 0) x3 x4 := funext fun y =>
  (congrArg (val_main_v182 x0 x1 x2 x3 x4) (eq_ix2 y)).trans ((mixed_at x0 x1 x2 x3 x4 (y 0) (y 1)).trans (congrArg _ (eq_ix2 y).symm))
theorem q_eq : val_main_v19 (F := Ideal) x0 x1 x2 = projected (normed x0 x1) x2 1 := funext fun y =>
  (congrArg (val_main_v19 x0 x1 x2) (eq_ix2 y)).trans ((q_at x0 x1 x2 (y 0) (y 1)).trans (congrArg _ (eq_ix2 y).symm))
theorem k_eq : val_main_v23 (F := Ideal) x0 x1 x2 = projected (normed x0 x1) x2 2 := funext fun y =>
  (congrArg (val_main_v23 x0 x1 x2) (eq_ix2 y)).trans ((k_at x0 x1 x2 (y 0) (y 1)).trans (congrArg _ (eq_ix2 y).symm))
theorem qn_eq : val_main_v44 (F := Ideal) x0 x1 x2 x5 = queries (projected (normed x0 x1) x2 1) x5 := funext fun y =>
  (congrArg (val_main_v44 x0 x1 x2 x5) (eq_ix2 y)).trans ((qn_at x0 x1 x2 x5 (y 0) (y 1)).trans (congrArg _ (eq_ix2 y).symm))
theorem kn_eq : val_main_v59 (F := Ideal) x0 x1 x2 x6 = byHead (projected (normed x0 x1) x2 2) x6 := funext fun y =>
  (congrArg (val_main_v59 x0 x1 x2 x6) (eq_ix2 y)).trans ((kn_at x0 x1 x2 x6 (y 0) (y 1)).trans (congrArg _ (eq_ix2 y).symm))
theorem v_eq : val_main_v27 (F := Ideal) x0 x1 x2 = projected (normed x0 x1) x2 3 := funext fun y =>
  (congrArg (val_main_v27 x0 x1 x2) (eq_ix2 y)).trans ((v_at x0 x1 x2 (y 0) (y 1)).trans (congrArg _ (eq_ix2 y).symm))

end Cert.ReferenceMixIdeal.Mix

end
-- ==== Proof.Mix.lean ====
/-
  The mixer's input half, kernel and reference: both run to an end with their arguments kept, and their eight results
  are the same arrays.
-/
module

public import proofs.«01_k».proof.Defs
public import proofs.«01_k».proof.Proof.Gen.KernelMix
public import proofs.«01_k».proof.Proof.Gen.ReferenceMixIdeal
public import proofs.«01_k».proof.Proof.Gen.ReferenceMixIdeal.Run
public import proofs.«01_k».proof.Proof.MixRef
public import Idealize.ShloMosaic.Lib.Claim
public import Idealize.ShloMosaic.Lib.Quiescent

@[expose] public section

set_option maxRecDepth 16384

noncomputable section

namespace Cert.Proof.Mix

open Idealize.ShloMosaic Idealize.SL.Sem

theorem body_same : ∀ l a, (Cert.KernelMix.defs₀ (F := Bits)) .tc l a = (Cert.KernelMixIdeal.defs₀ (F := Bits)) .tc l a
  | 0, (t, s) => by
    delta Cert.KernelMix.defs₀ Cert.KernelMixIdeal.defs₀
    dsimp only [Defs.onTc]
    rfl

/-- The program as printed for the machine's floats and the one read over the extended reals have one table. -/
theorem tables_same : Cert.KernelMix.defs (F := Bits) = Cert.KernelMixIdeal.defs (F := Bits) :=
  congrArg (Pipeline.defs (Cert.KernelMixIdeal.pcfgs (F := Bits))) (funext fun
    | .tc => funext fun l => funext fun a => body_same l a
    | .scScalar _ => rfl
    | .scVector _ _ => rfl)

theorem frame_kernel : Cert.quiescent_KernelMix := fun m ρ _ => by
  rw [tables_same]
  exact (θ_run Cert.KernelMixIdeal.defs _ _).mono (fun _ h => h) (Cert.KernelMixIdeal.Mix.kernel_frame (F := Bits) m ρ)
theorem frame_ideal : Cert.quiescent_KernelMixIdeal := fun m ρ _ => Cert.KernelMixIdeal.Mix.kernel_frame m ρ
theorem frame_reference : Cert.quiescent_ReferenceMixIdeal := fun m ρ _ =>
  (θ_run Cert.ReferenceMixIdeal.defs _ _).mono
    (fun r h => ⟨fun c => (h c).2.2.2.2.2.2.2.2, sem_eq_zero_of_no_sems (by decide) r.2⟩) (Cert.ReferenceMixIdeal.Value.run m ρ)

open Cert.KernelMixIdeal.Mix in
theorem same_values : Cert.algebraic_KernelMixIdeal_ReferenceMixIdeal := fun m g m' g' _ heq => by
  refine ⟨fun c => nrm m c, fun c => pooled (piece m c 0), fun c => mixed (piece m c 0) (pws m c) (pss m c), fun c => piece m c 1, fun c => piece m c 2,
    fun c => queries (piece m c 1) (qgs m c), fun c => byHead (piece m c 2) (kgs m c), fun c => piece m c 3, ?_, ?_⟩
  · refine (θ_run Cert.KernelMixIdeal.defs _ _).mono (fun _ h c => ?_) (θ_run_and (run_main m g) (kernel_frame m g))
    have out := (h.1.1 c).1
    exact ⟨(out 7).trans (a_final m c), (out 8).trans (pooled_final m c), (out 9).trans (mixed_final m c), (out 10).trans (q_final m c), (out 11).trans (k_final m c),
      (out 12).trans (qn_final m c), (out 13).trans (kn_final m c), (out 14).trans (v_final m c), h.2.1 c⟩
  · refine (θ_run Cert.ReferenceMixIdeal.defs _ _).mono (fun _ h c => ?_) (Cert.ReferenceMixIdeal.Value.run m' g')
    obtain ⟨e0, e1, e2, e3, e4, e5, e6, _⟩ := heq c
    obtain ⟨r0, r1, r2, r3, r4, r5, r6, r7, kept⟩ := h c
    have hu (p : Fin 4) : projected (normed (m' ((c.tc : Thread Cert.ReferenceMixIdeal.nD Cert.ReferenceMixIdeal.τ).loc Cert.ReferenceMixIdeal.main_arg0)) (m' ((c.tc : Thread Cert.ReferenceMixIdeal.nD Cert.ReferenceMixIdeal.τ).loc Cert.ReferenceMixIdeal.main_arg1))) (m' ((c.tc : Thread Cert.ReferenceMixIdeal.nD Cert.ReferenceMixIdeal.τ).loc Cert.ReferenceMixIdeal.main_arg2)) p = piece m c p := by
      rw [e0, e1, e2]
    refine ⟨r0.trans ?_, r1.trans ?_, r2.trans ?_, r3.trans ?_, r4.trans ?_, r5.trans ?_, r6.trans ?_, r7.trans ?_, kept⟩
    · refine (Cert.ReferenceMixIdeal.Read.val_main_v183_eq _).trans ((Cert.ReferenceMixIdeal.Mix.a_eq _ _).trans ?_)
      exact congrArg₂ normed e0 e1
    · exact (Cert.ReferenceMixIdeal.Read.val_main_v185_eq _).trans ((Cert.ReferenceMixIdeal.Mix.pooled_eq _ _ _).trans (congrArg pooled (hu 0)))
    · refine (Cert.ReferenceMixIdeal.Read.val_main_v186_eq _).trans ((Cert.ReferenceMixIdeal.Mix.mixed_eq _ _ _ _ _).trans ?_)
      exact (congrArg (fun u => mixed u _ _) (hu 0)).trans (congrArg₂ (mixed _) e3 e4)
    · exact (Cert.ReferenceMixIdeal.Read.val_main_v19_eq _).trans ((Cert.ReferenceMixIdeal.Mix.q_eq _ _ _).trans (hu 1))
    · exact (Cert.ReferenceMixIdeal.Read.val_main_v23_eq _).trans ((Cert.ReferenceMixIdeal.Mix.k_eq _ _ _).trans (hu 2))
    · exact (Cert.ReferenceMixIdeal.Read.val_main_v44_eq _).trans ((Cert.ReferenceMixIdeal.Mix.qn_eq _ _ _ _).trans (congrArg₂ queries (hu 1) e5))
    · exact (Cert.ReferenceMixIdeal.Read.val_main_v59_eq _).trans ((Cert.ReferenceMixIdeal.Mix.kn_eq _ _ _ _).trans (congrArg₂ byHead (hu 2) e6))
    · exact (Cert.ReferenceMixIdeal.Read.val_main_v27_eq _).trans ((Cert.ReferenceMixIdeal.Mix.v_eq _ _ _).trans (hu 3))

end Cert.Proof.Mix

end
-- ==== Proof.Adam.lean ====
/-
  The optimiser's step, entry by entry, and the call that takes it for the input projection: kernel and reference run to
  an end with their arguments kept and give the same four arrays.
-/
module

public import proofs.«01_k».proof.Defs
public import proofs.«01_k».proof.Proof.Gen.KernelAdamIn
public import proofs.«01_k».proof.Proof.Gen.KernelAdamInIdeal
public import proofs.«01_k».proof.Proof.Gen.KernelAdamInIdeal.Frame
public import proofs.«01_k».proof.Proof.Gen.ReferenceAdamInIdeal
public import proofs.«01_k».proof.Proof.Gen.ReferenceAdamInIdeal.Run
public import proofs.«01_k».proof.Proof.Gen.ReferenceAdamInIdeal.Read
public import Idealize.ShloMosaic.Lib.Claim
public import Idealize.ShloMosaic.Lib.Quiescent
public import Idealize.ShloMosaic.Lib.Pipeline.ValueKit

@[expose] public section

set_option maxRecDepth 16384

noncomputable section

namespace Cert.Adam

open Idealize.ShloMosaic

/-! ## One step, entry by entry -/

/-- The two running averages of an entry after the step, and its step. -/
def firstAt (g m : Ideal .f32) : Ideal .f32 := (Scalar.ofBits .f32 0x3F666666#32 : Ideal .f32) * m + (Scalar.ofBits .f32 0x3DCCCCCD#32 : Ideal .f32) * g
def secondAt (g v : Ideal .f32) : Ideal .f32 := (Scalar.ofBits .f32 0x3F7FBE77#32 : Ideal .f32) * v + (Scalar.ofBits .f32 0x3A83126F#32 : Ideal .f32) * (g * g)
def stepAt (w g m v : Ideal .f32) : Ideal .f32 :=
  FloatOps.mulf (Scalar.ofBits .f32 0xBA83126F#32) (FloatOps.addf
    (FloatOps.divf (FloatOps.divf (firstAt g m) (Scalar.ofBits .f32 0x3F26BD02#32))
      (FloatOps.addf (FloatOps.hostUnary .sqrt (FloatOps.divf (secondAt g v) (Scalar.ofBits .f32 0x3C231ACC#32))) (Scalar.ofBits .f32 0x322BCC77#32)))
    (FloatOps.mulf (Scalar.ofBits .f32 0x3C23D70A#32) w))

/-- The same of whole arrays. -/
def firstOf (s : Shape) (g m : Vec Ideal s .f32) : Vec Ideal s .f32 := fun i => firstAt (g i) (m i)
def secondOf (s : Shape) (g v : Vec Ideal s .f32) : Vec Ideal s .f32 := fun i => secondAt (g i) (v i)
def stepOf (s : Shape) (w g m v : Vec Ideal s .f32) : Vec Ideal s .f32 := fun i => stepAt (w i) (g i) (m i) (v i)

theorem stepAt_congr {w w' g g' m m' v v' : Ideal .f32} (hw : w = w') (hg : g = g') (hm : m = m') (hv : v = v') : stepAt w g m v = stepAt w' g' m' v' := by
  rw [hw, hg, hm, hv]

end Cert.Adam

namespace Cert.KernelAdamInIdeal.Adam

open Idealize.ShloMosaic Idealize.ShloMosaic.TcCoe Idealize.ShloMosaic.Tactic
open Idealize.SL.Sem
open Cert.KernelAdamInIdeal.Gen Cert.Adam

section Values

variable (m : (ℓ : Loc nD τ sig) → Buf (Elt Ideal) ℓ) (c : Dev nD)

theorem out4 (w g a b : Vec Ideal S128x512 .f32) : out0_4 w g a b = g := by
  unfold out0_4; rw [View.canon_unit_zero (by decide), View.ld_unit_zero (by decide)]
theorem out5 (w g a b : Vec Ideal S128x512 .f32) : out0_5 w g a b = stepOf _ w g a b := by
  unfold out0_5; rw [View.canon_unit_zero (by decide)]; simp only [View.ld_unit_zero (S := S128x512) (off := ![0, 0]) (by decide)]; rfl
theorem out6 (w g a b : Vec Ideal S128x512 .f32) : out0_6 w g a b = firstOf _ g a := by
  unfold out0_6; rw [View.canon_unit_zero (by decide)]; simp only [View.ld_unit_zero (S := S128x512) (off := ![0, 0]) (by decide)]; rfl
theorem out7 (w g a b : Vec Ideal S128x512 .f32) : out0_7 w g a b = secondOf _ g b := by
  unfold out0_7; rw [View.canon_unit_zero (by decide)]; simp only [View.ld_unit_zero (S := S128x512) (off := ![0, 0]) (by decide)]; rfl

theorem grad_final : (dats m 0 c).arrAt 4 cfg0.N = V m c main_arg1 :=
  (dats m 0 c).arrAt_eq_of_covers 4 _ (by decide +kernel) fun t _ y => by
    blk_simp; rw [after0_4, out4]; rfl
theorem step_final : (dats m 0 c).arrAt 5 cfg0.N = stepOf S1024x512 (V m c main_arg0) (V m c main_arg1) (V m c main_arg2) (V m c main_arg3) :=
  (dats m 0 c).arrAt_eq_of_covers 5 _ (by decide +kernel) fun t _ y => by
    blk_simp; rw [after0_5, out5]; exact stepAt_congr rfl rfl rfl rfl
theorem first_final : (dats m 0 c).arrAt 6 cfg0.N = firstOf S1024x512 (V m c main_arg1) (V m c main_arg2) :=
  (dats m 0 c).arrAt_eq_of_covers 6 _ (by decide +kernel) fun t _ y => by
    blk_simp; rw [after0_6, out6]; exact congrArg₂ firstAt rfl rfl
theorem second_final : (dats m 0 c).arrAt 7 cfg0.N = secondOf S1024x512 (V m c main_arg1) (V m c main_arg3) :=
  (dats m 0 c).arrAt_eq_of_covers 7 _ (by decide +kernel) fun t _ y => by
    blk_simp; rw [after0_7, out7]; exact congrArg₂ secondAt rfl rfl

end Values

end Cert.KernelAdamInIdeal.Adam

namespace Cert.Proof.AdamIn

open Idealize.ShloMosaic Idealize.SL.Sem

theorem body_same : ∀ l a, (Cert.KernelAdamIn.defs₀ (F := Bits)) .tc l a = (Cert.KernelAdamInIdeal.defs₀ (F := Bits)) .tc l a
  | 0, (t, s) => by
    delta Cert.KernelAdamIn.defs₀ Cert.KernelAdamInIdeal.defs₀
    dsimp only [Defs.onTc]
    rfl

/-- The program as printed for the machine's floats and the one read over the extended reals have one table. -/
theorem tables_same : Cert.KernelAdamIn.defs (F := Bits) = Cert.KernelAdamInIdeal.defs (F := Bits) :=
  congrArg (Pipeline.defs (Cert.KernelAdamInIdeal.pcfgs (F := Bits))) (funext fun
    | .tc => funext fun l => funext fun a => body_same l a
    | .scScalar _ => rfl
    | .scVector _ _ => rfl)

theorem frame_kernel : Cert.quiescent_KernelAdamIn := fun m ρ _ => by
  rw [tables_same]
  exact (θ_run Cert.KernelAdamInIdeal.defs _ _).mono (fun _ h => h) (Cert.KernelAdamInIdeal.Gen.frame (F := Bits) m ρ)
theorem frame_ideal : Cert.quiescent_KernelAdamInIdeal := fun m ρ _ => Cert.KernelAdamInIdeal.Gen.frame m ρ
theorem frame_reference : Cert.quiescent_ReferenceAdamInIdeal := fun m ρ _ =>
  (θ_run Cert.ReferenceAdamInIdeal.defs _ _).mono
    (fun r h => ⟨fun c => (h c).2.2.2.2, sem_eq_zero_of_no_sems (by decide) r.2⟩) (Cert.ReferenceAdamInIdeal.Value.run m ρ)

open Cert.KernelAdamInIdeal Cert.KernelAdamInIdeal.Gen Cert.KernelAdamInIdeal.Adam Cert.Adam in
theorem same_values : Cert.algebraic_KernelAdamInIdeal_ReferenceAdamInIdeal := fun m g m' g' _ heq => by
  refine ⟨fun c => V m c main_arg1, fun c => stepOf S1024x512 (V m c main_arg0) (V m c main_arg1) (V m c main_arg2) (V m c main_arg3),
    fun c => firstOf S1024x512 (V m c main_arg1) (V m c main_arg2), fun c => secondOf S1024x512 (V m c main_arg1) (V m c main_arg3), ?_, ?_⟩
  · refine (θ_run Cert.KernelAdamInIdeal.defs _ _).mono (fun _ h c => ?_) (θ_run_and (run_main m g) (unchanged m g))
    have out := (h.1 c).1
    exact ⟨(out 4).trans (grad_final m c), (out 5).trans (step_final m c), (out 6).trans (first_final m c), (out 7).trans (second_final m c), h.2 c⟩
  · refine (θ_run Cert.ReferenceAdamInIdeal.defs _ _).mono (fun _ h c => ?_) (Cert.ReferenceAdamInIdeal.Value.run m' g')
    obtain ⟨e0, e1, e2, e3⟩ := heq c
    obtain ⟨r0, r1, r2, r3, kept⟩ := h c
    rw [e0, e1, e2, e3] at r1
    rw [e1, e2] at r2
    rw [e1, e3] at r3
    exact ⟨r0.trans e1, r1.trans (funext fun _ => rfl), r2.trans (funext fun _ => rfl), r3.trans (funext fun _ => rfl), kept⟩

end Cert.Proof.AdamIn

end
-- ==== Proof.AdamMlp.lean ====
/-
  The call that takes the optimiser's step for the output, up and down projections: kernel and reference run to an end
  with their arguments kept and give the same twelve arrays.
-/
module

public import proofs.«01_k».proof.Proof.Adam
public import proofs.«01_k».proof.Proof.Gen.KernelAdamMlp.Frame
public import proofs.«01_k».proof.Proof.Gen.KernelAdamMlpIdeal
public import proofs.«01_k».proof.Proof.Gen.KernelAdamMlpIdeal.Frame
public import proofs.«01_k».proof.Proof.Gen.ReferenceAdamMlpIdeal
public import proofs.«01_k».proof.Proof.Gen.ReferenceAdamMlpIdeal.Run
public import Idealize.ShloMosaic.Lib.Claim
public import Idealize.ShloMosaic.Lib.Quiescent
public import Idealize.ShloMosaic.Lib.Pipeline.ValueKit

@[expose] public section

set_option maxRecDepth 16384

noncomputable section

namespace Cert.KernelAdamMlpIdeal.Adam

open Idealize.ShloMosaic Idealize.ShloMosaic.TcCoe Idealize.ShloMosaic.Tactic
open Idealize.SL.Sem
open Cert.KernelAdamMlpIdeal.Gen Cert.Adam

section Values

variable (m : (ℓ : Loc nD τ sig) → Buf (Elt Ideal) ℓ) (c : Dev nD)

theorem zeros : (![0, 0] : Fin 2 → Nat) = fun _ => 0 := by decide
theorem ld_out (x : Vec Ideal S32x1024 .f32) : View.ld x r0_0 = x := View.ld_unit_zero zeros _ x
theorem ld_mlp (x : Vec Ideal S128x1024 .f32) : View.ld x r0_1 = x := View.ld_unit_zero zeros _ x

theorem grad_out : (dats m 0 c).arrAt 12 cfg0.N = V m c main_arg3 :=
  (dats m 0 c).arrAt_eq_of_covers 12 _ (by decide +kernel) fun t _ y => by
    blk_simp; rw [after0_12, out0_12, View.canon_unit_zero zeros]; exact (congrFun (ld_out (iblk m c 3 t)) y).trans rfl
theorem grad_up : (dats m 0 c).arrAt 13 cfg0.N = V m c main_arg4 :=
  (dats m 0 c).arrAt_eq_of_covers 13 _ (by decide +kernel) fun t _ y => by
    blk_simp; rw [after0_13, out0_13, View.canon_unit_zero zeros]; exact (congrFun (ld_mlp (iblk m c 4 t)) y).trans rfl
theorem grad_down : (dats m 0 c).arrAt 14 cfg0.N = V m c main_arg5 :=
  (dats m 0 c).arrAt_eq_of_covers 14 _ (by decide +kernel) fun t _ y => by
    blk_simp; rw [after0_14, out0_14, View.canon_unit_zero zeros]; exact (congrFun (ld_mlp (iblk m c 5 t)) y).trans rfl
theorem step_out : (dats m 0 c).arrAt 15 cfg0.N = stepOf S256x1024 (V m c main_arg0) (V m c main_arg3) (V m c main_arg6) (V m c main_arg9) :=
  (dats m 0 c).arrAt_eq_of_covers 15 _ (by decide +kernel) fun t _ y => by
    blk_simp; rw [after0_15, out0_15, View.canon_unit_zero zeros]; simp only [ld_out]; exact stepAt_congr rfl rfl rfl rfl
theorem step_up : (dats m 0 c).arrAt 16 cfg0.N = stepOf S1024x1024 (V m c main_arg1) (V m c main_arg4) (V m c main_arg7) (V m c main_arg10) :=
  (dats m 0 c).arrAt_eq_of_covers 16 _ (by decide +kernel) fun t _ y => by
    blk_simp; rw [after0_16, out0_16, View.canon_unit_zero zeros]; simp only [ld_mlp]; exact stepAt_congr rfl rfl rfl rfl
theorem step_down : (dats m 0 c).arrAt 17 cfg0.N = stepOf S1024x1024 (V m c main_arg2) (V m c main_arg5) (V m c main_arg8) (V m c main_arg11) :=
  (dats m 0 c).arrAt_eq_of_covers 17 _ (by decide +kernel) fun t _ y => by
    blk_simp; rw [after0_17, out0_17, View.canon_unit_zero zeros]; simp only [ld_mlp]; exact stepAt_congr rfl rfl rfl rfl
theorem first_out : (dats m 0 c).arrAt 18 cfg0.N = firstOf S256x1024 (V m c main_arg3) (V m c main_arg6) :=
  (dats m 0 c).arrAt_eq_of_covers 18 _ (by decide +kernel) fun t _ y => by
    blk_simp; rw [after0_18, out0_18, View.canon_unit_zero zeros]; simp only [ld_out]; exact congrArg₂ firstAt rfl rfl
theorem first_up : (dats m 0 c).arrAt 19 cfg0.N = firstOf S1024x1024 (V m c main_arg4) (V m c main_arg7) :=
  (dats m 0 c).arrAt_eq_of_covers 19 _ (by decide +kernel) fun t _ y => by
    blk_simp; rw [after0_19, out0_19, View.canon_unit_zero zeros]; simp only [ld_mlp]; exact congrArg₂ firstAt rfl rfl
theorem first_down : (dats m 0 c).arrAt 20 cfg0.N = firstOf S1024x1024 (V m c main_arg5) (V m c main_arg8) :=
  (dats m 0 c).arrAt_eq_of_covers 20 _ (by decide +kernel) fun t _ y => by
    blk_simp; rw [after0_20, out0_20, View.canon_unit_zero zeros]; simp only [ld_mlp]; exact congrArg₂ firstAt rfl rfl
theorem second_out : (dats m 0 c).arrAt 21 cfg0.N = secondOf S256x1024 (V m c main_arg3) (V m c main_arg9) :=
  (dats m 0 c).arrAt_eq_of_covers 21 _ (by decide +kernel) fun t _ y => by
    blk_simp; rw [after0_21, out0_21, View.canon_unit_zero zeros]; simp only [ld_out]; exact congrArg₂ secondAt rfl rfl
theorem second_up : (dats m 0 c).arrAt 22 cfg0.N = secondOf S1024x1024 (V m c main_arg4) (V m c main_arg10) :=
  (dats m 0 c).arrAt_eq_of_covers 22 _ (by decide +kernel) fun t _ y => by
    blk_simp; rw [after0_22, out0_22, View.canon_unit_zero zeros]; simp only [ld_mlp]; exact congrArg₂ secondAt rfl rfl
theorem second_down : (dats m 0 c).arrAt 23 cfg0.N = secondOf S1024x1024 (V m c main_arg5) (V m c main_arg11) :=
  (dats m 0 c).arrAt_eq_of_covers 23 _ (by decide +kernel) fun t _ y => by
    blk_simp; rw [after0_23, out0_23, View.canon_unit_zero zeros]; simp only [ld_mlp]; exact congrArg₂ secondAt rfl rfl

end Values

end Cert.KernelAdamMlpIdeal.Adam

namespace Cert.Proof.AdamMlp

open Idealize.ShloMosaic Idealize.SL.Sem

theorem frame_kernel : Cert.quiescent_KernelAdamMlp := fun m ρ _ => Cert.KernelAdamMlp.Gen.frame m ρ
theorem frame_ideal : Cert.quiescent_KernelAdamMlpIdeal := fun m ρ _ => Cert.KernelAdamMlpIdeal.Gen.frame m ρ
theorem frame_reference : Cert.quiescent_ReferenceAdamMlpIdeal := fun m ρ _ =>
  (θ_run Cert.ReferenceAdamMlpIdeal.defs _ _).mono
    (fun r h => ⟨fun c => (h c).2.2.2.2.2.2.2.2.2.2.2.2, sem_eq_zero_of_no_sems (by decide) r.2⟩) (Cert.ReferenceAdamMlpIdeal.Value.run m ρ)

set_option maxHeartbeats 2000000 in
open Cert.KernelAdamMlpIdeal Cert.KernelAdamMlpIdeal.Gen Cert.KernelAdamMlpIdeal.Adam Cert.Adam in
theorem same_values : Cert.algebraic_KernelAdamMlpIdeal_ReferenceAdamMlpIdeal := fun m g m' g' _ heq => by
  refine ⟨fun c => V m c main_arg3,
    fun c => V m c main_arg4,
    fun c => V m c main_arg5,
    fun c => stepOf S256x1024 (V m c main_arg0) (V m c main_arg3) (V m c main_arg6) (V m c main_arg9),
    fun c => stepOf S1024x1024 (V m c main_arg1) (V m c main_arg4) (V m c main_arg7) (V m c main_arg10),
    fun c => stepOf S1024x1024 (V m c main_arg2) (V m c main_arg5) (V m c main_arg8) (V m c main_arg11),
    fun c => firstOf S256x1024 (V m c main_arg3) (V m c main_arg6),
    fun c => firstOf S1024x1024 (V m c main_arg4) (V m c main_arg7),
    fun c => firstOf S1024x1024 (V m c main_arg5) (V m c main_arg8),
    fun c => secondOf S256x1024 (V m c main_arg3) (V m c main_arg9),
    fun c => secondOf S1024x1024 (V m c main_arg4) (V m c main_arg10),
    fun c => secondOf S1024x1024 (V m c main_arg5) (V m c main_arg11), ?_, ?_⟩
  · refine (θ_run Cert.KernelAdamMlpIdeal.defs _ _).mono (fun _ h c => ?_) (θ_run_and (run_main m g) (unchanged m g))
    have out := (h.1 c).1
    exact ⟨(out 12).trans (grad_out m c),
      (out 13).trans (grad_up m c),
      (out 14).trans (grad_down m c),
      (out 15).trans (step_out m c),
      (out 16).trans (step_up m c),
      (out 17).trans (step_down m c),
      (out 18).trans (first_out m c),
      (out 19).trans (first_up m c),
      (out 20).trans (first_down m c),
      (out 21).trans (second_out m c),
      (out 22).trans (second_up m c),
      (out 23).trans (second_down m c), h.2 c⟩
  · refine (θ_run Cert.ReferenceAdamMlpIdeal.defs _ _).mono (fun _ h c => ?_) (Cert.ReferenceAdamMlpIdeal.Value.run m' g')
    obtain ⟨e0, e1, e2, e3, e4, e5, e6, e7, e8, e9, e10, e11⟩ := heq c
    obtain ⟨r0, r1, r2, r3, r4, r5, r6, r7, r8, r9, r10, r11, kept⟩ := h c
    rw [e0, e3, e6, e9] at r3
    rw [e1, e4, e7, e10] at r4
    rw [e2, e5, e8, e11] at r5
    rw [e3, e6] at r6
    rw [e4, e7] at r7
    rw [e5, e8] at r8
    rw [e3, e9] at r9
    rw [e4, e10] at r10
    rw [e5, e11] at r11
    exact ⟨r0.trans e3, r1.trans e4, r2.trans e5, r3.trans (funext fun _ => rfl), r4.trans (funext fun _ => rfl), r5.trans (funext fun _ => rfl),
      r6.trans (funext fun _ => rfl), r7.trans (funext fun _ => rfl), r8.trans (funext fun _ => rfl),
      r9.trans (funext fun _ => rfl), r10.trans (funext fun _ => rfl), r11.trans (funext fun _ => rfl), kept⟩

end Cert.Proof.AdamMlp

end
-- ==== Proof.GradDown.lean ====
/-
  The down projection's weight gradient: at a point of the 4 × 2 grid a block of rows takes one half of the tokens'
  products, the first half's on top of zero, the second half's on top of the first's.
-/
module

public import proofs.«01_k».proof.Defs
public import proofs.«01_k».proof.Proof.GradBody
public import proofs.«01_k».proof.Proof.Gen.KernelDown
public import proofs.«01_k».proof.Proof.Gen.KernelDownIdeal
public import proofs.«01_k».proof.Proof.Gen.KernelDownIdeal.Frame
public import proofs.«01_k».proof.Proof.Gen.KernelDownIdeal.Skeleton
public import proofs.«01_k».proof.Proof.Gen.ReferenceDownIdeal
public import Idealize.ShloMosaic.Lib.Claim
public import Idealize.ShloMosaic.Lib.Quiescent
public import Idealize.ShloMosaic.Lib.Pipeline.ValueKit
public import proofs.«01_k».proof.Proof.Gen.ReferenceDownIdeal.Read

@[expose] public section

set_option maxRecDepth 16384

noncomputable section

namespace Cert.KernelDownIdeal.Grad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelDownIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block of a point -/

theorem half_of : ∀ t : Fin cfg0.N, (grid0.coords t 2).val = t.val % 2 := (by decide +kernel : ∀ t : Fin grid0.N, _)

/-- At the first half of the tokens what is there already is not taken. -/
theorem starts (i : grid0.Coords) (h : (i 2).val = 0) (v v' : Vec F S1x1024x1024 .f32) (a b : Vec F S4096x1024 .bf16) : k0_pay1 i v a b = k0_pay1 i v' a b := by
  have e : Scalar.cmpi .sgt (BitVec.ofNat 32 (i 2).val) 0#32 = 0#1 := by rw [h]; rfl
  unfold k0_pay1
  simp only [e]; rfl

/-- The block after a point over the block before it, and the copy of it. -/
def step (c : Dev nD) (t : Fin cfg0.N) (o : Vec F S1x1024x1024 .f32) : Vec F S1x1024x1024 .f32 := k0_pay2 (grid0.coords t) o (iblk m c 0 t) (iblk m c 1 t)
def copied (c : Dev nD) (t : Fin cfg0.N) (o : Vec F S1x1024x1024 .f32) : Vec F S1x1024x1024 .bf16 := k0_pay3 (grid0.coords t) o (iblk m c 0 t) (iblk m c 1 t)

theorem step_starts (c : Dev nD) (t : Fin cfg0.N) (h : t.val % 2 = 0) (o o' : Vec F S1x1024x1024 .f32) : step m c t o = step m c t o' := by
  unfold step k0_pay2; rw [starts _ ((half_of t).trans h) o o']
theorem copied_starts (c : Dev nD) (t : Fin cfg0.N) (h : t.val % 2 = 0) (o o' : Vec F S1x1024x1024 .f32) : copied m c t o = copied m c t o' := by
  unfold copied k0_pay3; rw [starts _ ((half_of t).trans h) o o']

/-- The block before point `n`, as if the points were one long sum. -/
def sofar (c : Dev nD) : (n : ℕ) → n < cfg0.N + 1 → Vec F S1x1024x1024 .f32
  | 0, _ => fun _ => Scalar.ofBits .f32 0
  | n + 1, h => step m c ⟨n, Nat.lt_of_succ_lt_succ h⟩ (sofar c n (Nat.lt_of_succ_lt h))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => step m c t (sofar m c t.val (Nat.lt_succ_of_lt t.isLt))
    | ⟨3, _⟩ => copied m c t (sofar m c t.val (Nat.lt_succ_of_lt t.isLt))
    | ⟨_ + 4, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem finds0 (c : Dev nD) (t : Fin cfg0.N) (d) : (dats m 0 c).before 0 t d = iblk m c 0 t :=
  before0_0_of m (dats m 0 c) (A_eq m c 0) (fun _ => rfl) t d
theorem finds1 (c : Dev nD) (t : Fin cfg0.N) (d) : (dats m 0 c).before 1 t d = iblk m c 1 t :=
  before0_1_of m (dats m 0 c) (A_eq m c 1) (fun _ => rfl) t d
theorem finds2 (c : Dev nD) (t : Fin cfg0.N) (h : t.val % 2 ≠ 0) (d) : (dats m 0 c).before 2 t d = sofar m c t.val (Nat.lt_succ_of_lt t.isLt) := by
  obtain ⟨_ | n, hn⟩ := t
  · exact absurd rfl h
  rw [Dat.before_out_kept _ 2 rfl ⟨n + 1, hn⟩ (Nat.succ_ne_zero n) (Bool.eq_false_iff.mpr fun h' => by
    have := (flush0_2 _).mp h'; dsimp only at this h; omega) (fun _ => rfl) (fun _ _ => rfl)]
  rfl

/-! ## The body at a point -/

/-- Over whatever the block's buffer holds at a point, the point leaves the data's block and copy. -/
theorem leaves (c : Dev nD) (t : Fin cfg0.N) (d) : step m c t ((dats m 0 c).before 2 t d) = (dats m 0 c).after 2 t
    ∧ copied m c t ((dats m 0 c).before 2 t d) = (dats m 0 c).after 3 t := by
  by_cases h : t.val % 2 = 0
  · exact ⟨step_starts m c t h _ _, copied_starts m c t h _ _⟩
  · rw [finds2 m c t h]; exact ⟨rfl, rfl⟩

def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_run (c : Dev nD) (t : Fin cfg0.N) :
    given m c t ⊢ wp frame (wpE (defs₀ (F := F)) Variants.none c none) Set.univ (bodyAt0 t) (fun _ => returned m c t) := by
  unfold given returned bodyAt0
  rw [cc0_wgrad_down_eq_skeleton]
  iintro ⟨HΦ, Hw, ⟨%d0, H0⟩, ⟨%d1, H1⟩, ⟨%d2, H2⟩, ⟨%d3, H3⟩⟩
  rw [finds0 m c t d0, finds1 m c t d1, ← (leaves m c t d2).1, ← (leaves m c t d2).2]
  iapply (WeightGrad.point_run (defs₀ (F := F)) c (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) ![0, 0] inb_S4096x1024_S4096x1024_0_0 ![0, 0] inb_S4096x1024_S4096x1024_0_0
    ![0, 0, 0] inb_S1x1024x1024_S1x1024x1024_0_0_0 h_S4096x1024 h_S4096x1024 h_S1x1024x1024 (k0_pay2 (grid0.coords t)) (k0_pay3 (grid0.coords t))
    (View.stores_vmem h_S1x1024x1024 ((hstage0_3 ((cfg0.slots t 3).cast nbuf0_3)).storeExact_slice rfl _ packedbf16_S1x1024x1024_S1x1024x1024_0_0_0) (fun _ => rfl))
    (by decide) (by decide) (by decide) (iblk m c 0 t) (iblk m c 1 t) ((dats m 0 c).before 2 t d2) _)
  isplitl [H0]; · iexact H0
  isplitl [H1]; · iexact H1
  isplitl [H2]; · iexact H2
  isplitl [H3]; · iexists _; iexact H3
  iintro ⟨H0, H1, H2, H3⟩
  isplitl [HΦ]; · rw [show (dats m 0 c).Φ t.succ = (dats m 0 c).Φ t.castSucc from rfl]; iexact HΦ
  isplitl [Hw]; · rw [show (dats m 0 c).owesAt () t.succ = (dats m 0 c).owesAt () t.castSucc from rfl]; iexact Hw
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (body_run m c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments stay as they were and the semaphores end at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ))) ((θ_run defs _ _).mono (fun _ h => h.2) (run_main m ρ))

/-! ## The values -/

section Values

variable (m : (ℓ : Loc nD τ sig) → Buf (Elt Ideal) ℓ) (c : Dev nD)

theorem pay_first (i : grid0.Coords) (h : (i 2).val = 0) (v : Vec Ideal S1x1024x1024 .f32) (a b : Vec Ideal S4096x1024 .bf16) (u : Fin 1) (p q : Fin 1024) :
    k0_pay2 i v a b (ix3 u p q) = ∑ s : Fin 4096, a (ix2 s p) * b (ix2 s q) := by
  have e : Scalar.cmpi .sgt (BitVec.ofNat 32 (i 2).val) 0#32 = 0#1 := by rw [h]; rfl
  pointwise [k0_pay2, k0_pay1, e]
theorem pay_later (i : grid0.Coords) (h : (i 2).val = 1) (v : Vec Ideal S1x1024x1024 .f32) (a b : Vec Ideal S4096x1024 .bf16) (u : Fin 1) (p q : Fin 1024) :
    k0_pay2 i v a b (ix3 u p q) = v (ix3 u p q) + ∑ s : Fin 4096, a (ix2 s p) * b (ix2 s q) := by
  have e : Scalar.cmpi .sgt (BitVec.ofNat 32 (i 2).val) 0#32 = 1#1 := by rw [h]; rfl
  obtain rfl : u = 0 := Subsingleton.elim _ _
  pointwise [k0_pay2, k0_pay1, e]
theorem pay_copy (i : grid0.Coords) (v : Vec Ideal S1x1024x1024 .f32) (a b : Vec Ideal S4096x1024 .bf16) :
    k0_pay3 i v a b = k0_pay2 i v a b := by
  unfold k0_pay3 k0_pay2; rfl

theorem at0 : ∀ t : Fin cfg0.N, win0_0.index t = ![t.val % 2, t.val / 2] := (by decide +kernel : ∀ t : Fin grid0.N, _)
theorem at1 : ∀ t : Fin cfg0.N, win0_1.index t = ![t.val % 2, 0] := (by decide +kernel : ∀ t : Fin grid0.N, _)
theorem at2 : ∀ t : Fin cfg0.N, win0_2.index t = ![t.val / 2, 0, 0] := (by decide +kernel : ∀ t : Fin grid0.N, _)
theorem at3 : ∀ t : Fin cfg0.N, win0_3.index t = ![t.val / 2, 0, 0] := (by decide +kernel : ∀ t : Fin grid0.N, _)

/-- The gradient's quarters: at an entry, over all tokens, the input times the output's cotangent. -/
def gradOf (a : Vec Ideal S8192x4096 .bf16) (b : Vec Ideal S8192x1024 .bf16) : Vec Ideal S4x1024x1024 .f32 := fun y =>
  ∑ s : Fin 8192, a (ix2 s ⟨(y 0).val * 1024 + (y 1).val, by have h0 : (y 0).val < 4 := (y 0).isLt; have h1 : (y 1).val < 1024 := (y 1).isLt; omega⟩) * b (ix2 s (y 2))

/-- The two argument arrays. -/
abbrev inputs (c : Dev nD) : Vec Ideal S8192x4096 .bf16 := V m c main_arg0
abbrev cotangents (c : Dev nD) : Vec Ideal S8192x1024 .bf16 := V m c main_arg1

theorem block0 (t : Fin cfg0.N) (s : Fin 4096) (p : Fin 1024) :
    (iblk m c 0 t : Vec Ideal S4096x1024 .bf16) (ix2 s p) = inputs m c (ix2 ⟨t.val % 2 * 4096 + s.val, by omega⟩
      ⟨t.val / 2 * 1024 + p.val, by have := Nat.lt_of_lt_of_eq t.isLt N_0; omega⟩) := by
  blk_simp [iblk]; exact congrArg _ (by blk_ext [at0 t])
theorem block1 (t : Fin cfg0.N) (s : Fin 4096) (q : Fin 1024) :
    (iblk m c 1 t : Vec Ideal S4096x1024 .bf16) (ix2 s q) = cotangents m c (ix2 ⟨t.val % 2 * 4096 + s.val, by omega⟩ q) := by
  blk_simp [iblk]; exact congrArg _ (by blk_ext [at1 t])

/-- After the second half a block holds its sums over all tokens. -/
theorem full (t : Fin cfg0.N) (ht : t.val % 2 = 1) (u : Fin 1) (p q : Fin 1024) :
    step m c t (sofar m c t.val (Nat.lt_succ_of_lt t.isLt)) (ix3 u p q) = ∑ s : Fin 8192, inputs m c (ix2 s ⟨t.val / 2 * 1024 + p.val, by have := Nat.lt_of_lt_of_eq t.isLt N_0; omega⟩)
      * cotangents m c (ix2 s q) := by
  obtain ⟨_ | n, hn⟩ := t
  · exact absurd ht Nat.zero_ne_one
  have h0 : n % 2 = 0 := by dsimp only at ht; omega
  have hd : (n + 1) / 2 = n / 2 := by omega
  have prev : sofar m c (n + 1) (Nat.lt_succ_of_lt hn) = step m c ⟨n, Nat.lt_of_succ_lt hn⟩ (sofar m c n (Nat.lt_succ_of_lt (Nat.lt_of_succ_lt hn))) := rfl
  rw [prev]
  unfold step
  rw [pay_later _ ((half_of _).trans ht), pay_first _ ((half_of _).trans h0)]
  simp only [block0, block1, ht, h0, hd]
  refine Eq.trans ?_ (Fin.sum_mul_add_fin 2 4096 _)
  rw [Fin.sum_univ_two]
  rfl

theorem grad_final : (dats m 0 c).arrAt 2 cfg0.N = gradOf (inputs m c) (cotangents m c) := by
  refine (dats m 0 c).arrAt_eq_of_covers 2 _ (by decide +kernel) fun t hf y => ?_
  have ht := (flush0_2 t).mp hf
  blk_simp
  have e : (win0_2.blk t).view.emb y = ix3 ⟨t.val / 2, by have := Nat.lt_of_lt_of_eq t.isLt N_0; omega⟩ (y 1) (y 2) := by blk_ext [at2 t]
  rw [e]
  exact (congrArg _ (eq_ix3 y)).trans (full m c t ht (y 0) (y 1) (y 2))
theorem copy_final : (dats m 0 c).arrAt 3 cfg0.N = gradOf (inputs m c) (cotangents m c) := by
  refine (dats m 0 c).arrAt_eq_of_covers 3 _ (by decide +kernel) fun t hf y => ?_
  have ht := (flush0_3 t).mp hf
  blk_simp
  have e : (win0_3.blk t).view.emb y = ix3 ⟨t.val / 2, by have := Nat.lt_of_lt_of_eq t.isLt N_0; omega⟩ (y 1) (y 2) := by blk_ext [at3 t]
  rw [e]
  exact (congrFun (pay_copy _ _ _ _) _).trans ((congrArg _ (eq_ix3 y)).trans (full m c t ht (y 0) (y 1) (y 2)))

end Values

end Cert.KernelDownIdeal.Grad

namespace Cert.ReferenceDownIdeal.Grad

open Idealize.ShloMosaic Idealize.ShloMosaic.TcCoe Idealize.SL.Sem Idealize.ShloMosaic.StableHlo
open Cert.ReferenceDownIdeal.Gen Cert.ReferenceDownIdeal.Read

/-- The reference's gradient is the same sums. -/
theorem grad_eq (a : Vec Ideal S8192x4096 .bf16) (b : Vec Ideal S8192x1024 .bf16) : val_main_v7 (F := Ideal) a b = KernelDownIdeal.Grad.gradOf a b := by
  funext y
  obtain ⟨r, p, q, rfl⟩ : ∃ (r : Fin 4) (p q : Fin 1024), y = ix3 r p q := ⟨y 0, y 1, y 2, eq_ix3 y⟩
  rw [val_main_v7_apply, val_main_v6_apply, val_main_v5_apply]
  refine Finset.sum_congr rfl fun s _ => (mul_comm _ _).trans (congrArg₂ (· * ·) ?_ ?_)
  · refine congrArg a (funext fun x => Fin.ext ?_)
    match x with
    | ⟨0, _⟩ => rfl
    | ⟨1, _⟩ => show ((r.val * 1024 + p.val) * 1024 + q.val) / 1024 = r.val * 1024 + p.val; omega
  · refine congrArg b (funext fun x => Fin.ext ?_)
    match x with
    | ⟨0, _⟩ => rfl
    | ⟨1, _⟩ => show ((r.val * 1024 + p.val) * 1024 + q.val) % 1024 = q.val; omega

end Cert.ReferenceDownIdeal.Grad

namespace Cert.Proof.Down

open Idealize.ShloMosaic Idealize.SL.Sem

theorem body_same : ∀ l a, (Cert.KernelDown.defs₀ (F := Bits)) .tc l a = (Cert.KernelDownIdeal.defs₀ (F := Bits)) .tc l a
  | 0, (t, s) => by
    delta Cert.KernelDown.defs₀ Cert.KernelDownIdeal.defs₀
    dsimp only [Defs.onTc]
    rfl

/-- The program as printed for the machine's floats and the one read over the extended reals have one table. -/
theorem tables_same : Cert.KernelDown.defs (F := Bits) = Cert.KernelDownIdeal.defs (F := Bits) :=
  congrArg (Pipeline.defs (Cert.KernelDownIdeal.pcfgs (F := Bits))) (funext fun
    | .tc => funext fun l => funext fun a => body_same l a
    | .scScalar _ => rfl
    | .scVector _ _ => rfl)

theorem frame_kernel : Cert.quiescent_KernelDown := fun m ρ _ => by
  rw [tables_same]
  exact (θ_run Cert.KernelDownIdeal.defs _ _).mono (fun _ h => h) (Cert.KernelDownIdeal.Grad.kernel_frame (F := Bits) m ρ)
theorem frame_ideal : Cert.quiescent_KernelDownIdeal := fun m ρ _ => Cert.KernelDownIdeal.Grad.kernel_frame m ρ
theorem frame_reference : Cert.quiescent_ReferenceDownIdeal := fun m ρ _ =>
  (θ_run Cert.ReferenceDownIdeal.defs _ _).mono
    (fun r h => ⟨fun c => (h c).2.2, sem_eq_zero_of_no_sems (by decide) r.2⟩) (Cert.ReferenceDownIdeal.Value.run m ρ)

open Cert.KernelDownIdeal.Grad in
theorem same_values : Cert.algebraic_KernelDownIdeal_ReferenceDownIdeal := fun m g m' g' _ heq => by
  refine ⟨fun c => gradOf (inputs m c) (cotangents m c), fun c => gradOf (inputs m c) (cotangents m c), ?_, ?_⟩
  · refine (θ_run Cert.KernelDownIdeal.defs _ _).mono (fun _ h c => ?_) (θ_run_and (run_main m g) (kernel_frame m g))
    have out := (h.1.1 c).1
    exact ⟨(out 2).trans (grad_final m c), (out 3).trans (copy_final m c), h.2.1 c⟩
  · refine (θ_run Cert.ReferenceDownIdeal.defs _ _).mono (fun _ h c => ?_) (Cert.ReferenceDownIdeal.Value.run m' g')
    have e := Cert.ReferenceDownIdeal.Grad.grad_eq (m' ((c.tc : Thread Cert.ReferenceDownIdeal.nD Cert.ReferenceDownIdeal.τ).loc Cert.ReferenceDownIdeal.main_arg0))
      (m' ((c.tc : Thread Cert.ReferenceDownIdeal.nD Cert.ReferenceDownIdeal.τ).loc Cert.ReferenceDownIdeal.main_arg1))
    rw [(heq c).1, (heq c).2] at e
    refine ⟨(h c).1.trans ?_, (h c).2.1.trans ?_, (h c).2.2⟩
    · rw [(heq c).1, (heq c).2]; exact e
    · rw [(heq c).1, (heq c).2]; exact e

end Cert.Proof.Down

end
-- ==== Proof.GradUp.lean ====
/-
  The up projection's weight gradient: at a point of the 4 × 2 grid a block of columns takes one half of the tokens'
  products, the first half's on top of zero, the second half's on top of the first's.
-/
module

public import proofs.«01_k».proof.Defs
public import proofs.«01_k».proof.Proof.GradBody
public import proofs.«01_k».proof.Proof.Gen.KernelUp
public import proofs.«01_k».proof.Proof.Gen.KernelUpIdeal
public import proofs.«01_k».proof.Proof.Gen.KernelUpIdeal.Frame
public import proofs.«01_k».proof.Proof.Gen.KernelUpIdeal.Skeleton
public import proofs.«01_k».proof.Proof.Gen.ReferenceUpIdeal
public import Idealize.ShloMosaic.Lib.Claim
public import Idealize.ShloMosaic.Lib.Quiescent
public import Idealize.ShloMosaic.Lib.Pipeline.ValueKit
public import proofs.«01_k».proof.Proof.Gen.ReferenceUpIdeal.Read

@[expose] public section

set_option maxRecDepth 16384

noncomputable section

namespace Cert.KernelUpIdeal.Grad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block of a point -/

theorem half_of : ∀ t : Fin cfg0.N, (grid0.coords t 2).val = t.val % 2 := (by decide +kernel : ∀ t : Fin grid0.N, _)

/-- At the first half of the tokens what is there already is not taken. -/
theorem starts (i : grid0.Coords) (h : (i 2).val = 0) (v v' : Vec F S1x1024x1024 .f32) (a b : Vec F S4096x1024 .bf16) : k0_pay1 i v a b = k0_pay1 i v' a b := by
  have e : Scalar.cmpi .sgt (BitVec.ofNat 32 (i 2).val) 0#32 = 0#1 := by rw [h]; rfl
  unfold k0_pay1
  simp only [e]; rfl

/-- The block after a point over the block before it, and the copy of it. -/
def step (c : Dev nD) (t : Fin cfg0.N) (o : Vec F S1x1024x1024 .f32) : Vec F S1x1024x1024 .f32 := k0_pay2 (grid0.coords t) o (iblk m c 0 t) (iblk m c 1 t)
def copied (c : Dev nD) (t : Fin cfg0.N) (o : Vec F S1x1024x1024 .f32) : Vec F S1x1024x1024 .bf16 := k0_pay3 (grid0.coords t) o (iblk m c 0 t) (iblk m c 1 t)

theorem step_starts (c : Dev nD) (t : Fin cfg0.N) (h : t.val % 2 = 0) (o o' : Vec F S1x1024x1024 .f32) : step m c t o = step m c t o' := by
  unfold step k0_pay2; rw [starts _ ((half_of t).trans h) o o']
theorem copied_starts (c : Dev nD) (t : Fin cfg0.N) (h : t.val % 2 = 0) (o o' : Vec F S1x1024x1024 .f32) : copied m c t o = copied m c t o' := by
  unfold copied k0_pay3; rw [starts _ ((half_of t).trans h) o o']

/-- The block before point `n`, as if the points were one long sum. -/
def sofar (c : Dev nD) : (n : ℕ) → n < cfg0.N + 1 → Vec F S1x1024x1024 .f32
  | 0, _ => fun _ => Scalar.ofBits .f32 0
  | n + 1, h => step m c ⟨n, Nat.lt_of_succ_lt_succ h⟩ (sofar c n (Nat.lt_of_succ_lt h))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => step m c t (sofar m c t.val (Nat.lt_succ_of_lt t.isLt))
    | ⟨3, _⟩ => copied m c t (sofar m c t.val (Nat.lt_succ_of_lt t.isLt))
    | ⟨_ + 4, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem finds0 (c : Dev nD) (t : Fin cfg0.N) (d) : (dats m 0 c).before 0 t d = iblk m c 0 t :=
  before0_0_of m (dats m 0 c) (A_eq m c 0) (fun _ => rfl) t d
theorem finds1 (c : Dev nD) (t : Fin cfg0.N) (d) : (dats m 0 c).before 1 t d = iblk m c 1 t :=
  before0_1_of m (dats m 0 c) (A_eq m c 1) (fun _ => rfl) t d
theorem finds2 (c : Dev nD) (t : Fin cfg0.N) (h : t.val % 2 ≠ 0) (d) : (dats m 0 c).before 2 t d = sofar m c t.val (Nat.lt_succ_of_lt t.isLt) := by
  obtain ⟨_ | n, hn⟩ := t
  · exact absurd rfl h
  rw [Dat.before_out_kept _ 2 rfl ⟨n + 1, hn⟩ (Nat.succ_ne_zero n) (Bool.eq_false_iff.mpr fun h' => by
    have := (flush0_2 _).mp h'; dsimp only at this h; omega) (fun _ => rfl) (fun _ _ => rfl)]
  rfl

/-! ## The body at a point -/

/-- Over whatever the block's buffer holds at a point, the point leaves the data's block and copy. -/
theorem leaves (c : Dev nD) (t : Fin cfg0.N) (d) : step m c t ((dats m 0 c).before 2 t d) = (dats m 0 c).after 2 t
    ∧ copied m c t ((dats m 0 c).before 2 t d) = (dats m 0 c).after 3 t := by
  by_cases h : t.val % 2 = 0
  · exact ⟨step_starts m c t h _ _, copied_starts m c t h _ _⟩
  · rw [finds2 m c t h]; exact ⟨rfl, rfl⟩

def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_run (c : Dev nD) (t : Fin cfg0.N) :
    given m c t ⊢ wp frame (wpE (defs₀ (F := F)) Variants.none c none) Set.univ (bodyAt0 t) (fun _ => returned m c t) := by
  unfold given returned bodyAt0
  rw [cc0_wgrad_up_eq_skeleton]
  iintro ⟨HΦ, Hw, ⟨%d0, H0⟩, ⟨%d1, H1⟩, ⟨%d2, H2⟩, ⟨%d3, H3⟩⟩
  rw [finds0 m c t d0, finds1 m c t d1, ← (leaves m c t d2).1, ← (leaves m c t d2).2]
  iapply (WeightGrad.point_run (defs₀ (F := F)) c (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) ![0, 0] inb_S4096x1024_S4096x1024_0_0 ![0, 0] inb_S4096x1024_S4096x1024_0_0
    ![0, 0, 0] inb_S1x1024x1024_S1x1024x1024_0_0_0 h_S4096x1024 h_S4096x1024 h_S1x1024x1024 (k0_pay2 (grid0.coords t)) (k0_pay3 (grid0.coords t))
    (View.stores_vmem h_S1x1024x1024 ((hstage0_3 ((cfg0.slots t 3).cast nbuf0_3)).storeExact_slice rfl _ packedbf16_S1x1024x1024_S1x1024x1024_0_0_0) (fun _ => rfl))
    (by decide) (by decide) (by decide) (iblk m c 0 t) (iblk m c 1 t) ((dats m 0 c).before 2 t d2) _)
  isplitl [H0]; · iexact H0
  isplitl [H1]; · iexact H1
  isplitl [H2]; · iexact H2
  isplitl [H3]; · iexists _; iexact H3
  iintro ⟨H0, H1, H2, H3⟩
  isplitl [HΦ]; · rw [show (dats m 0 c).Φ t.succ = (dats m 0 c).Φ t.castSucc from rfl]; iexact HΦ
  isplitl [Hw]; · rw [show (dats m 0 c).owesAt () t.succ = (dats m 0 c).owesAt () t.castSucc from rfl]; iexact Hw
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (body_run m c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments stay as they were and the semaphores end at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ))) ((θ_run defs _ _).mono (fun _ h => h.2) (run_main m ρ))

/-! ## The values -/

section Values

variable (m : (ℓ : Loc nD τ sig) → Buf (Elt Ideal) ℓ) (c : Dev nD)

theorem pay_first (i : grid0.Coords) (h : (i 2).val = 0) (v : Vec Ideal S1x1024x1024 .f32) (a b : Vec Ideal S4096x1024 .bf16) (u : Fin 1) (p q : Fin 1024) :
    k0_pay2 i v a b (ix3 u p q) = ∑ s : Fin 4096, a (ix2 s p) * b (ix2 s q) := by
  have e : Scalar.cmpi .sgt (BitVec.ofNat 32 (i 2).val) 0#32 = 0#1 := by rw [h]; rfl
  pointwise [k0_pay2, k0_pay1, e]
theorem pay_later (i : grid0.Coords) (h : (i 2).val = 1) (v : Vec Ideal S1x1024x1024 .f32) (a b : Vec Ideal S4096x1024 .bf16) (u : Fin 1) (p q : Fin 1024) :
    k0_pay2 i v a b (ix3 u p q) = v (ix3 u p q) + ∑ s : Fin 4096, a (ix2 s p) * b (ix2 s q) := by
  have e : Scalar.cmpi .sgt (BitVec.ofNat 32 (i 2).val) 0#32 = 1#1 := by rw [h]; rfl
  obtain rfl : u = 0 := Subsingleton.elim _ _
  pointwise [k0_pay2, k0_pay1, e]
theorem pay_copy (i : grid0.Coords) (v : Vec Ideal S1x1024x1024 .f32) (a b : Vec Ideal S4096x1024 .bf16) :
    k0_pay3 i v a b = k0_pay2 i v a b := by
  unfold k0_pay3 k0_pay2; rfl

theorem at0 : ∀ t : Fin cfg0.N, win0_0.index t = ![t.val % 2, 0] := (by decide +kernel : ∀ t : Fin grid0.N, _)
theorem at1 : ∀ t : Fin cfg0.N, win0_1.index t = ![t.val % 2, t.val / 2] := (by decide +kernel : ∀ t : Fin grid0.N, _)
theorem at2 : ∀ t : Fin cfg0.N, win0_2.index t = ![t.val / 2, 0, 0] := (by decide +kernel : ∀ t : Fin grid0.N, _)
theorem at3 : ∀ t : Fin cfg0.N, win0_3.index t = ![t.val / 2, 0, 0] := (by decide +kernel : ∀ t : Fin grid0.N, _)

/-- The gradient's quarters: at an entry, over all tokens, the input times the output's cotangent. -/
def gradOf (a : Vec Ideal S8192x1024 .bf16) (b : Vec Ideal S8192x4096 .bf16) : Vec Ideal S4x1024x1024 .f32 := fun y =>
  ∑ s : Fin 8192, a (ix2 s (y 1)) * b (ix2 s ⟨(y 0).val * 1024 + (y 2).val, by have h0 : (y 0).val < 4 := (y 0).isLt; have h2 : (y 2).val < 1024 := (y 2).isLt; omega⟩)

/-- The two argument arrays. -/
abbrev inputs (c : Dev nD) : Vec Ideal S8192x1024 .bf16 := V m c main_arg0
abbrev cotangents (c : Dev nD) : Vec Ideal S8192x4096 .bf16 := V m c main_arg1

theorem block0 (t : Fin cfg0.N) (s : Fin 4096) (p : Fin 1024) :
    (iblk m c 0 t : Vec Ideal S4096x1024 .bf16) (ix2 s p) = inputs m c (ix2 ⟨t.val % 2 * 4096 + s.val, by omega⟩ p) := by
  blk_simp [iblk]; exact congrArg _ (by blk_ext [at0 t])
theorem block1 (t : Fin cfg0.N) (s : Fin 4096) (q : Fin 1024) :
    (iblk m c 1 t : Vec Ideal S4096x1024 .bf16) (ix2 s q) = cotangents m c (ix2 ⟨t.val % 2 * 4096 + s.val, by omega⟩
      ⟨t.val / 2 * 1024 + q.val, by have := Nat.lt_of_lt_of_eq t.isLt N_0; omega⟩) := by
  blk_simp [iblk]; exact congrArg _ (by blk_ext [at1 t])

/-- After the second half a block holds its sums over all tokens. -/
theorem full (t : Fin cfg0.N) (ht : t.val % 2 = 1) (u : Fin 1) (p q : Fin 1024) :
    step m c t (sofar m c t.val (Nat.lt_succ_of_lt t.isLt)) (ix3 u p q) = ∑ s : Fin 8192, inputs m c (ix2 s p)
      * cotangents m c (ix2 s ⟨t.val / 2 * 1024 + q.val, by have := Nat.lt_of_lt_of_eq t.isLt N_0; omega⟩) := by
  obtain ⟨_ | n, hn⟩ := t
  · exact absurd ht Nat.zero_ne_one
  have h0 : n % 2 = 0 := by dsimp only at ht; omega
  have hd : (n + 1) / 2 = n / 2 := by omega
  have prev : sofar m c (n + 1) (Nat.lt_succ_of_lt hn) = step m c ⟨n, Nat.lt_of_succ_lt hn⟩ (sofar m c n (Nat.lt_succ_of_lt (Nat.lt_of_succ_lt hn))) := rfl
  rw [prev]
  unfold step
  rw [pay_later _ ((half_of _).trans ht), pay_first _ ((half_of _).trans h0)]
  simp only [block0, block1, ht, h0, hd]
  refine Eq.trans ?_ (Fin.sum_mul_add_fin 2 4096 _)
  rw [Fin.sum_univ_two]
  rfl

theorem grad_final : (dats m 0 c).arrAt 2 cfg0.N = gradOf (inputs m c) (cotangents m c) := by
  refine (dats m 0 c).arrAt_eq_of_covers 2 _ (by decide +kernel) fun t hf y => ?_
  have ht := (flush0_2 t).mp hf
  blk_simp
  have e : (win0_2.blk t).view.emb y = ix3 ⟨t.val / 2, by have := Nat.lt_of_lt_of_eq t.isLt N_0; omega⟩ (y 1) (y 2) := by blk_ext [at2 t]
  rw [e]
  exact (congrArg _ (eq_ix3 y)).trans (full m c t ht (y 0) (y 1) (y 2))
theorem copy_final : (dats m 0 c).arrAt 3 cfg0.N = gradOf (inputs m c) (cotangents m c) := by
  refine (dats m 0 c).arrAt_eq_of_covers 3 _ (by decide +kernel) fun t hf y => ?_
  have ht := (flush0_3 t).mp hf
  blk_simp
  have e : (win0_3.blk t).view.emb y = ix3 ⟨t.val / 2, by have := Nat.lt_of_lt_of_eq t.isLt N_0; omega⟩ (y 1) (y 2) := by blk_ext [at3 t]
  rw [e]
  exact (congrFun (pay_copy _ _ _ _) _).trans ((congrArg _ (eq_ix3 y)).trans (full m c t ht (y 0) (y 1) (y 2)))

end Values

end Cert.KernelUpIdeal.Grad

namespace Cert.ReferenceUpIdeal.Grad

open Idealize.ShloMosaic Idealize.ShloMosaic.TcCoe Idealize.SL.Sem Idealize.ShloMosaic.StableHlo
open Cert.ReferenceUpIdeal.Gen Cert.ReferenceUpIdeal.Read

/-- The reference's gradient is the same sums. -/
theorem grad_eq (a : Vec Ideal S8192x1024 .bf16) (b : Vec Ideal S8192x4096 .bf16) : val_main_v9 (F := Ideal) a b = KernelUpIdeal.Grad.gradOf a b := by
  funext y
  obtain ⟨r, p, q, rfl⟩ : ∃ (r : Fin 4) (p q : Fin 1024), y = ix3 r p q := ⟨y 0, y 1, y 2, eq_ix3 y⟩
  rw [val_main_v9_apply, val_main_v8_apply, val_main_v7_apply, val_main_v6_apply]
  refine Finset.sum_congr rfl fun s _ => (mul_comm _ _).trans (congrArg₂ (· * ·) ?_ ?_)
  · refine congrArg a (funext fun x => Fin.ext ?_)
    match x with
    | ⟨0, _⟩ => rfl
    | ⟨1, _⟩ => show ((p.val * 4 + r.val) * 1024 + q.val) / 4096 = p.val; omega
  · refine congrArg b (funext fun x => Fin.ext ?_)
    match x with
    | ⟨0, _⟩ => rfl
    | ⟨1, _⟩ => show ((p.val * 4 + r.val) * 1024 + q.val) % 4096 = r.val * 1024 + q.val; omega

end Cert.ReferenceUpIdeal.Grad

namespace Cert.Proof.Up

open Idealize.ShloMosaic Idealize.SL.Sem

theorem body_same : ∀ l a, (Cert.KernelUp.defs₀ (F := Bits)) .tc l a = (Cert.KernelUpIdeal.defs₀ (F := Bits)) .tc l a
  | 0, (t, s) => by
    delta Cert.KernelUp.defs₀ Cert.KernelUpIdeal.defs₀
    dsimp only [Defs.onTc]
    rfl

/-- The program as printed for the machine's floats and the one read over the extended reals have one table. -/
theorem tables_same : Cert.KernelUp.defs (F := Bits) = Cert.KernelUpIdeal.defs (F := Bits) :=
  congrArg (Pipeline.defs (Cert.KernelUpIdeal.pcfgs (F := Bits))) (funext fun
    | .tc => funext fun l => funext fun a => body_same l a
    | .scScalar _ => rfl
    | .scVector _ _ => rfl)

theorem frame_kernel : Cert.quiescent_KernelUp := fun m ρ _ => by
  rw [tables_same]
  exact (θ_run Cert.KernelUpIdeal.defs _ _).mono (fun _ h => h) (Cert.KernelUpIdeal.Grad.kernel_frame (F := Bits) m ρ)
theorem frame_ideal : Cert.quiescent_KernelUpIdeal := fun m ρ _ => Cert.KernelUpIdeal.Grad.kernel_frame m ρ
theorem frame_reference : Cert.quiescent_ReferenceUpIdeal := fun m ρ _ =>
  (θ_run Cert.ReferenceUpIdeal.defs _ _).mono
    (fun r h => ⟨fun c => (h c).2.2, sem_eq_zero_of_no_sems (by decide) r.2⟩) (Cert.ReferenceUpIdeal.Value.run m ρ)

open Cert.KernelUpIdeal.Grad in
theorem same_values : Cert.algebraic_KernelUpIdeal_ReferenceUpIdeal := fun m g m' g' _ heq => by
  refine ⟨fun c => gradOf (inputs m c) (cotangents m c), fun c => gradOf (inputs m c) (cotangents m c), ?_, ?_⟩
  · refine (θ_run Cert.KernelUpIdeal.defs _ _).mono (fun _ h c => ?_) (θ_run_and (run_main m g) (kernel_frame m g))
    have out := (h.1.1 c).1
    exact ⟨(out 2).trans (grad_final m c), (out 3).trans (copy_final m c), h.2.1 c⟩
  · refine (θ_run Cert.ReferenceUpIdeal.defs _ _).mono (fun _ h c => ?_) (Cert.ReferenceUpIdeal.Value.run m' g')
    have e := Cert.ReferenceUpIdeal.Grad.grad_eq (m' ((c.tc : Thread Cert.ReferenceUpIdeal.nD Cert.ReferenceUpIdeal.τ).loc Cert.ReferenceUpIdeal.main_arg0))
      (m' ((c.tc : Thread Cert.ReferenceUpIdeal.nD Cert.ReferenceUpIdeal.τ).loc Cert.ReferenceUpIdeal.main_arg1))
    rw [(heq c).1, (heq c).2] at e
    refine ⟨(h c).1.trans ?_, (h c).2.1.trans ?_, (h c).2.2⟩
    · rw [(heq c).1, (heq c).2]; exact e
    · rw [(heq c).1, (heq c).2]; exact e

end Cert.Proof.Up

end
-- ==== Proof.GradOut.lean ====
/-
  The output projection's weight gradient: at each of the eight points it takes an eighth of the tokens' products, the
  first eighth's on top of zero, the later ones' on top of what is there.
-/
module

public import proofs.«01_k».proof.Defs
public import proofs.«01_k».proof.Proof.GradBody
public import proofs.«01_k».proof.Proof.Gen.KernelOut
public import proofs.«01_k».proof.Proof.Gen.KernelOutIdeal
public import proofs.«01_k».proof.Proof.Gen.KernelOutIdeal.Frame
public import proofs.«01_k».proof.Proof.Gen.KernelOutIdeal.Skeleton
public import proofs.«01_k».proof.Proof.Gen.ReferenceOutIdeal
public import Idealize.ShloMosaic.Lib.Claim
public import Idealize.ShloMosaic.Lib.Quiescent
public import Idealize.ShloMosaic.Lib.Pipeline.ValueKit
public import proofs.«01_k».proof.Proof.Gen.ReferenceOutIdeal.Read

@[expose] public section

set_option maxRecDepth 16384

noncomputable section

namespace Cert.KernelOutIdeal.Grad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelOutIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block of a point -/

theorem part_of : ∀ t : Fin cfg0.N, (grid0.coords t 2).val = t.val := (by decide +kernel : ∀ t : Fin grid0.N, _)

/-- At the first eighth of the tokens what is there already is not taken. -/
theorem starts (i : grid0.Coords) (h : (i 2).val = 0) (v v' : Vec F S1024x1024 .f32) (a : Vec F S1024x1024 .bf16) (b : Vec F S1024x1024 .f32) : k0_pay1 i v a b = k0_pay1 i v' a b := by
  have e : Scalar.cmpi .sgt (BitVec.ofNat 32 (i 2).val) 0#32 = 0#1 := by rw [h]; rfl
  unfold k0_pay1
  simp only [e]; rfl

/-- The block after a point over the block before it, and the copy of it. -/
def step (c : Dev nD) (t : Fin cfg0.N) (o : Vec F S1024x1024 .f32) : Vec F S1024x1024 .f32 := k0_pay1 (grid0.coords t) o (iblk m c 0 t) (iblk m c 1 t)
def copied (c : Dev nD) (t : Fin cfg0.N) (o : Vec F S1024x1024 .f32) : Vec F S1024x1024 .bf16 := k0_pay2 (grid0.coords t) o (iblk m c 0 t) (iblk m c 1 t)

theorem step_starts (c : Dev nD) (t : Fin cfg0.N) (h : t.val = 0) (o o' : Vec F S1024x1024 .f32) : step m c t o = step m c t o' := by
  unfold step; rw [starts _ ((part_of t).trans h) o o']
theorem copied_starts (c : Dev nD) (t : Fin cfg0.N) (h : t.val = 0) (o o' : Vec F S1024x1024 .f32) : copied m c t o = copied m c t o' := by
  unfold copied k0_pay2; rw [starts _ ((part_of t).trans h) o o']

/-- The block before point `n`, as if the points were one long sum. -/
def sofar (c : Dev nD) : (n : ℕ) → n < cfg0.N + 1 → Vec F S1024x1024 .f32
  | 0, _ => fun _ => Scalar.ofBits .f32 0
  | n + 1, h => step m c ⟨n, Nat.lt_of_succ_lt_succ h⟩ (sofar c n (Nat.lt_of_succ_lt h))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => step m c t (sofar m c t.val (Nat.lt_succ_of_lt t.isLt))
    | ⟨3, _⟩ => copied m c t (sofar m c t.val (Nat.lt_succ_of_lt t.isLt))
    | ⟨_ + 4, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem finds0 (c : Dev nD) (t : Fin cfg0.N) (d) : (dats m 0 c).before 0 t d = iblk m c 0 t :=
  before0_0_of m (dats m 0 c) (A_eq m c 0) (fun _ => rfl) t d
theorem finds1 (c : Dev nD) (t : Fin cfg0.N) (d) : (dats m 0 c).before 1 t d = iblk m c 1 t :=
  before0_1_of m (dats m 0 c) (A_eq m c 1) (fun _ => rfl) t d
theorem finds2 (c : Dev nD) (t : Fin cfg0.N) (h : t.val ≠ 0) (d) : (dats m 0 c).before 2 t d = sofar m c t.val (Nat.lt_succ_of_lt t.isLt) := by
  obtain ⟨_ | n, hn⟩ := t
  · exact absurd rfl h
  rw [Dat.before_out_kept _ 2 rfl ⟨n + 1, hn⟩ (Nat.succ_ne_zero n) (Bool.eq_false_iff.mpr fun h' => by
    have := (flush0_2 _).mp h'; have := Nat.lt_of_lt_of_eq hn N_0; dsimp only at *; omega) (fun _ => rfl) (fun _ _ => rfl)]
  rfl

/-! ## The body at a point -/

/-- Over whatever the block's buffer holds at a point, the point leaves the data's block and copy. -/
theorem leaves (c : Dev nD) (t : Fin cfg0.N) (d) : step m c t ((dats m 0 c).before 2 t d) = (dats m 0 c).after 2 t
    ∧ copied m c t ((dats m 0 c).before 2 t d) = (dats m 0 c).after 3 t := by
  by_cases h : t.val = 0
  · exact ⟨step_starts m c t h _ _, copied_starts m c t h _ _⟩
  · rw [finds2 m c t h]; exact ⟨rfl, rfl⟩

def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_run (c : Dev nD) (t : Fin cfg0.N) :
    given m c t ⊢ wp frame (wpE (defs₀ (F := F)) Variants.none c none) Set.univ (bodyAt0 t) (fun _ => returned m c t) := by
  unfold given returned bodyAt0
  rw [cc0_wgrad_out_eq_skeleton]
  iintro ⟨HΦ, Hw, ⟨%d0, H0⟩, ⟨%d1, H1⟩, ⟨%d2, H2⟩, ⟨%d3, H3⟩⟩
  rw [finds0 m c t d0, finds1 m c t d1, ← (leaves m c t d2).1, ← (leaves m c t d2).2]
  iapply (WeightGrad.point_run (defs₀ (F := F)) c (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) ![0, 0] inb_S1024x1024_S1024x1024_0_0 ![0, 0] inb_S1024x1024_S1024x1024_0_0
    ![0, 0] inb_S1024x1024_S1024x1024_0_0 h_S1024x1024 h_S1024x1024 h_S1024x1024 (k0_pay1 (grid0.coords t)) (k0_pay2 (grid0.coords t))
    (View.stores_vmem h_S1024x1024 ((hstage0_3 ((cfg0.slots t 3).cast nbuf0_3)).storeExact_slice rfl _ packedbf16_S1024x1024_S1024x1024_0_0) (fun _ => rfl))
    (by decide) (by decide) (by decide) (iblk m c 0 t) (iblk m c 1 t) ((dats m 0 c).before 2 t d2) _)
  isplitl [H0]; · iexact H0
  isplitl [H1]; · iexact H1
  isplitl [H2]; · iexact H2
  isplitl [H3]; · iexists _; iexact H3
  iintro ⟨H0, H1, H2, H3⟩
  isplitl [HΦ]; · rw [show (dats m 0 c).Φ t.succ = (dats m 0 c).Φ t.castSucc from rfl]; iexact HΦ
  isplitl [Hw]; · rw [show (dats m 0 c).owesAt () t.succ = (dats m 0 c).owesAt () t.castSucc from rfl]; iexact Hw
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (body_run m c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments stay as they were and the semaphores end at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ))) ((θ_run defs _ _).mono (fun _ h => h.2) (run_main m ρ))

/-! ## The values -/

section Values

variable (m : (ℓ : Loc nD τ sig) → Buf (Elt Ideal) ℓ) (c : Dev nD)

theorem pay_first (i : grid0.Coords) (h : (i 2).val = 0) (v : Vec Ideal S1024x1024 .f32) (a : Vec Ideal S1024x1024 .bf16) (b : Vec Ideal S1024x1024 .f32)
    (p q : Fin 1024) : k0_pay1 i v a b (ix2 p q) = ∑ s : Fin 1024, a (ix2 s p) * b (ix2 s q) := by
  have e : Scalar.cmpi .sgt (BitVec.ofNat 32 (i 2).val) 0#32 = 0#1 := by rw [h]; rfl
  pointwise [k0_pay1, e]
theorem pay_later (i : grid0.Coords) (h : (i 2).val ≠ 0) (v : Vec Ideal S1024x1024 .f32) (a : Vec Ideal S1024x1024 .bf16) (b : Vec Ideal S1024x1024 .f32)
    (p q : Fin 1024) : k0_pay1 i v a b (ix2 p q) = v (ix2 p q) + ∑ s : Fin 1024, a (ix2 s p) * b (ix2 s q) := by
  have positive : ∀ k : Fin 8, k.val ≠ 0 → Scalar.cmpi .sgt (BitVec.ofNat 32 k.val) 0#32 = 1#1 := by decide
  have e : Scalar.cmpi .sgt (BitVec.ofNat 32 (i 2).val) 0#32 = 1#1 := positive (i 2) h
  pointwise [k0_pay1, e]
theorem pay_copy (i : grid0.Coords) (v : Vec Ideal S1024x1024 .f32) (a : Vec Ideal S1024x1024 .bf16) (b : Vec Ideal S1024x1024 .f32) :
    k0_pay2 i v a b = k0_pay1 i v a b := by
  unfold k0_pay2; rfl

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)

/-- The gradient: at an entry, over all tokens, the input times the output's cotangent. -/
def gradOf (a : Vec Ideal S8192x1024 .bf16) (b : Vec Ideal S8192x1024 .f32) : Vec Ideal S1024x1024 .f32 := fun y =>
  ∑ s : Fin 8192, a (ix2 s (y 0)) * b (ix2 s (y 1))

/-- The two argument arrays. -/
abbrev inputs (c : Dev nD) : Vec Ideal S8192x1024 .bf16 := V m c main_arg0
abbrev cotangents (c : Dev nD) : Vec Ideal S8192x1024 .f32 := V m c main_arg1

theorem block0 (t : Fin cfg0.N) (s p : Fin 1024) :
    (iblk m c 0 t : Vec Ideal S1024x1024 .bf16) (ix2 s p) = inputs m c (ix2 ⟨t.val * 1024 + s.val, by have := Nat.lt_of_lt_of_eq t.isLt N_0; omega⟩ p) := by
  blk_simp [iblk]; exact congrArg _ (by blk_ext [at0 t])
theorem block1 (t : Fin cfg0.N) (s q : Fin 1024) :
    (iblk m c 1 t : Vec Ideal S1024x1024 .f32) (ix2 s q) = cotangents m c (ix2 ⟨t.val * 1024 + s.val, by have := Nat.lt_of_lt_of_eq t.isLt N_0; omega⟩ q) := by
  blk_simp [iblk]; exact congrArg _ (by blk_ext [at1 t])

/-- After a point the block holds its sums over the points so far. -/
theorem partly (p q : Fin 1024) : ∀ (n : ℕ) (hn : n < cfg0.N), sofar m c (n + 1) (Nat.succ_lt_succ hn) (ix2 p q)
      = ∑ k : Fin (n + 1), ∑ s : Fin 1024, inputs m c (ix2 ⟨k.val * 1024 + s.val, by have := Nat.lt_of_lt_of_eq hn N_0; omega⟩ p)
        * cotangents m c (ix2 ⟨k.val * 1024 + s.val, by have := Nat.lt_of_lt_of_eq hn N_0; omega⟩ q)
  | 0, hn => by
    show step m c ⟨0, hn⟩ _ (ix2 p q) = _
    unfold step
    rw [pay_first _ ((part_of _).trans rfl), Fin.sum_univ_one]
    simp only [block0, block1]
    rfl
  | n + 1, hn => by
    show step m c ⟨n + 1, hn⟩ (sofar m c (n + 1) _) (ix2 p q) = _
    unfold step
    rw [pay_later _ (Eq.trans_ne (part_of _) (Nat.succ_ne_zero n)), partly p q n (Nat.lt_of_succ_lt hn)]
    simp only [block0, block1]
    refine Eq.trans ?_ (Fin.sum_univ_castSucc (M := EReal) _).symm
    rfl

/-- After the last point it holds them over all tokens. -/
theorem full (t : Fin cfg0.N) (ht : t.val % 8 = 7) (p q : Fin 1024) :
    step m c t (sofar m c t.val (Nat.lt_succ_of_lt t.isLt)) (ix2 p q) = ∑ s : Fin 8192, inputs m c (ix2 s p) * cotangents m c (ix2 s q) := by
  obtain ⟨n, hn⟩ := t
  obtain rfl : n = 7 := by have := Nat.lt_of_lt_of_eq hn N_0; dsimp only at ht; omega
  exact (partly m c p q 7 hn).trans (Fin.sum_mul_add_fin 8 1024 fun s => inputs m c (ix2 s p) * cotangents m c (ix2 s q))

theorem grad_final : (dats m 0 c).arrAt 2 cfg0.N = gradOf (inputs m c) (cotangents m c) := by
  refine (dats m 0 c).arrAt_eq_of_covers 2 _ (by decide +kernel) fun t hf y => ?_
  have ht := (flush0_2 t).mp hf
  blk_simp
  have e : (win0_2.blk t).view.emb y = ix2 (y 0) (y 1) := by blk_ext [at2 t]
  rw [e]
  exact (congrArg _ (eq_ix2 y)).trans (full m c t ht (y 0) (y 1))
theorem copy_final : (dats m 0 c).arrAt 3 cfg0.N = gradOf (inputs m c) (cotangents m c) := by
  refine (dats m 0 c).arrAt_eq_of_covers 3 _ (by decide +kernel) fun t hf y => ?_
  have ht := (flush0_3 t).mp hf
  blk_simp
  have e : (win0_3.blk t).view.emb y = ix2 (y 0) (y 1) := by blk_ext [at3 t]
  rw [e]
  exact (congrFun (pay_copy _ _ _ _) _).trans ((congrArg _ (eq_ix2 y)).trans (full m c t ht (y 0) (y 1)))

end Values

end Cert.KernelOutIdeal.Grad

namespace Cert.ReferenceOutIdeal.Grad

open Idealize.ShloMosaic Idealize.ShloMosaic.TcCoe Idealize.SL.Sem Idealize.ShloMosaic.StableHlo
open Cert.ReferenceOutIdeal.Gen Cert.ReferenceOutIdeal.Read

/-- The reference's gradient is the same sums. -/
theorem grad_eq (a : Vec Ideal S8192x1024 .bf16) (b : Vec Ideal S8192x1024 .f32) : val_main_v4 (F := Ideal) a b = KernelOutIdeal.Grad.gradOf a b := by
  funext y
  obtain ⟨p, q, rfl⟩ : ∃ p q : Fin 1024, y = ix2 p q := ⟨y 0, y 1, eq_ix2 y⟩
  rw [val_main_v4_apply, val_main_v3_apply]
  refine Finset.sum_congr rfl fun s _ => (mul_comm _ _).trans (congrArg₂ (· * ·) ?_ ?_)
  · exact congrArg a (funext fun x => match x with | ⟨0, _⟩ => rfl | ⟨1, _⟩ => rfl)
  · exact congrArg b (funext fun x => match x with | ⟨0, _⟩ => rfl | ⟨1, _⟩ => rfl)

end Cert.ReferenceOutIdeal.Grad

namespace Cert.Proof.Out

open Idealize.ShloMosaic Idealize.SL.Sem

theorem body_same : ∀ l a, (Cert.KernelOut.defs₀ (F := Bits)) .tc l a = (Cert.KernelOutIdeal.defs₀ (F := Bits)) .tc l a
  | 0, (t, s) => by
    delta Cert.KernelOut.defs₀ Cert.KernelOutIdeal.defs₀
    dsimp only [Defs.onTc]
    rfl

/-- The program as printed for the machine's floats and the one read over the extended reals have one table. -/
theorem tables_same : Cert.KernelOut.defs (F := Bits) = Cert.KernelOutIdeal.defs (F := Bits) :=
  congrArg (Pipeline.defs (Cert.KernelOutIdeal.pcfgs (F := Bits))) (funext fun
    | .tc => funext fun l => funext fun a => body_same l a
    | .scScalar _ => rfl
    | .scVector _ _ => rfl)

theorem frame_kernel : Cert.quiescent_KernelOut := fun m ρ _ => by
  rw [tables_same]
  exact (θ_run Cert.KernelOutIdeal.defs _ _).mono (fun _ h => h) (Cert.KernelOutIdeal.Grad.kernel_frame (F := Bits) m ρ)
theorem frame_ideal : Cert.quiescent_KernelOutIdeal := fun m ρ _ => Cert.KernelOutIdeal.Grad.kernel_frame m ρ
theorem frame_reference : Cert.quiescent_ReferenceOutIdeal := fun m ρ _ =>
  (θ_run Cert.ReferenceOutIdeal.defs _ _).mono
    (fun r h => ⟨fun c => (h c).2.2, sem_eq_zero_of_no_sems (by decide) r.2⟩) (Cert.ReferenceOutIdeal.Value.run m ρ)

open Cert.KernelOutIdeal.Grad in
theorem same_values : Cert.algebraic_KernelOutIdeal_ReferenceOutIdeal := fun m g m' g' _ heq => by
  refine ⟨fun c => gradOf (inputs m c) (cotangents m c), fun c => gradOf (inputs m c) (cotangents m c), ?_, ?_⟩
  · refine (θ_run Cert.KernelOutIdeal.defs _ _).mono (fun _ h c => ?_) (θ_run_and (run_main m g) (kernel_frame m g))
    have out := (h.1.1 c).1
    exact ⟨(out 2).trans (grad_final m c), (out 3).trans (copy_final m c), h.2.1 c⟩
  · refine (θ_run Cert.ReferenceOutIdeal.defs _ _).mono (fun _ h c => ?_) (Cert.ReferenceOutIdeal.Value.run m' g')
    have e := Cert.ReferenceOutIdeal.Grad.grad_eq (m' ((c.tc : Thread Cert.ReferenceOutIdeal.nD Cert.ReferenceOutIdeal.τ).loc Cert.ReferenceOutIdeal.main_arg0))
      (m' ((c.tc : Thread Cert.ReferenceOutIdeal.nD Cert.ReferenceOutIdeal.τ).loc Cert.ReferenceOutIdeal.main_arg1))
    rw [(heq c).1, (heq c).2] at e
    refine ⟨(h c).1.trans ?_, (h c).2.1.trans ?_, (h c).2.2⟩
    · rw [(heq c).1, (heq c).2]; exact e
    · rw [(heq c).1, (heq c).2]; exact e

end Cert.Proof.Out

end
-- ==== Proof.lean ====
/-
  The claims about the fused layer half: the kernel and its reference run to an end, leave their arguments as they were
  and every semaphore at zero; and over the extended reals, from finite arguments, they give the same eleven arrays.
  The same of the layer's first half, of the four weight gradients and of the optimiser's two calls, from any arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Arrays
public import proofs.«01_k».proof.Proof.Finite
public import proofs.«01_k».proof.Proof.RefEnd
public import proofs.«01_k».proof.Proof.GradIn
public import proofs.«01_k».proof.Proof.Mix
public import proofs.«01_k».proof.Proof.Adam
public import proofs.«01_k».proof.Proof.AdamMlp
public import proofs.«01_k».proof.Proof.GradDown
public import proofs.«01_k».proof.Proof.GradUp
public import proofs.«01_k».proof.Proof.GradOut
public import Idealize.ShloMosaic.Lib.Quiescent

@[expose] public section

noncomputable section

namespace Cert.Proof

open Idealize.ShloMosaic Idealize.SL.Sem Cert.Kernel

/-- At the only label, the two programs' tables of bodies hold the same text. -/
theorem body_same : ∀ l a, (Cert.Kernel.defs₀ (F := Bits)) .tc l a = (Cert.KernelIdeal.defs₀ (F := Bits)) .tc l a
  | 0, (t, s) => by
    delta Cert.Kernel.defs₀ Cert.KernelIdeal.defs₀
    dsimp only [Defs.onTc]
    rfl

/-- The two programs' tables of bodies are one table. -/
theorem bodies_same : Cert.Kernel.defs₀ (F := Bits) = Cert.KernelIdeal.defs₀ (F := Bits) :=
  funext fun
    | .tc => funext fun l => funext fun a => body_same l a
    | .scScalar _ => rfl
    | .scVector _ _ => rfl

/-- So are their tables with the launch's pipeline. -/
theorem tables_same : Cert.Kernel.defs (F := Bits) = Cert.KernelIdeal.defs (F := Bits) :=
  congrArg (Pipeline.defs (Cert.KernelIdeal.pcfgs (F := Bits))) bodies_same

/-- The kernel runs to an end at machine floats, leaving its arguments and every semaphore as they were. -/
theorem frame_kernel : Cert.quiescent_Kernel := fun m ρ _ => by
  rw [tables_same]
  exact (θ_run Cert.KernelIdeal.defs _ _).mono (fun _ h => h) (Cert.KernelIdeal.Half.kernel_frame (F := Bits) m ρ)
theorem frame_ideal : Cert.quiescent_KernelIdeal := fun m ρ _ => Cert.KernelIdeal.Half.kernel_frame m ρ
theorem frame_reference : Cert.quiescent_ReferenceIdeal := fun m ρ _ =>
  (θ_run Cert.ReferenceIdeal.defs _ _).mono
    (fun r h => ⟨fun c => (h c).2.2.2.2.2.2.2.2.2.2.2, sem_eq_zero_of_no_sems (by decide) r.2⟩) (Cert.ReferenceIdeal.Value.run m ρ)

/-! ## The values -/

open Cert.HalfRow Cert.KernelIdeal.Half

/-- Under the precondition every number of every token is real. -/
theorem all_real (m : (ℓ : Loc Cert.KernelIdeal.nD Cert.KernelIdeal.τ Cert.KernelIdeal.sig) → Buf (Elt Ideal) ℓ)
    (h : Cert.Pre_KernelIdeal_finite (hPre_finite := finite_facts) m) (c : Dev Cert.KernelIdeal.nD) (s : Fin 8192) : AllReal (argWts m c) (argRow m c s) := by
  obtain ⟨h0, h1, h2, h3, h4, h5, h6, h7⟩ := h c
  exact ⟨real4 _ _ _ _ _ _ _ _ h4, real5 _ _ _ _ _ _ _ _ h5, real6 _ _ _ _ _ _ _ _ h6, real7 _ _ _ _ _ _ _ _ h7 0,
    real0 _ _ _ _ _ _ _ _ h0 s, real1 _ _ _ _ _ _ _ _ h1 s, real2 _ _ _ _ _ _ _ _ h2 s, real3 _ _ _ _ _ _ _ _ h3 s⟩

/-- Over the extended reals the kernel and the reference give the same arrays: both give the spec's. -/
theorem same_values : Cert.algebraic_KernelIdeal_ReferenceIdeal_pre_finite (hPre_finite := finite_facts) := fun m g m' g' hpre heq => by
  have H := all_real m hpre
  refine ⟨fun c => mixedOf (argRow m c), fun c => normedOf (argWts m c) (argRow m c), fun c => ffOf (argWts m c) (argRow m c), fun c => dzOf (argWts m c) (argRow m c), fun c => dyOf (argWts m c) (argRow m c), fun c => dhOf (argWts m c) (argRow m c), fun c => dpoolOf (argWts m c) (argRow m c), fun c => dattnOf (argWts m c) (argRow m c), fun c => deltaOf (argWts m c) (argRow m c), fun c => dgainOf (argWts m c) (argRow m c), fun c => lossOf (argWts m c) (argRow m c), ?_, ?_⟩
  · refine (θ_run Cert.KernelIdeal.defs _ _).mono (fun _ h c => ?_) (Cert.KernelIdeal.Half.run_main m g)
    have out := (h.1 c).1
    exact ⟨(out 5).trans (mixed_final m c), (out 6).trans (normed_final m c), (out 7).trans (ff_final m c), (out 8).trans (dz_final m c), (out 9).trans (dy_final m c), (out 10).trans (dh_final m c), (out 11).trans (dpool_final m c), (out 12).trans (dattn_final m c), (out 13).trans (delta_final m c), (out 14).trans (dgain_final m c), (out 15).trans (loss_final m c (H c)), (args_kept m h).1 c⟩
  · have eW (c) : Cert.ReferenceIdeal.Half.argWts m' c = argWts m c := by
      unfold Cert.ReferenceIdeal.Half.argWts
      rw [(heq c).2.2.2.2.1, (heq c).2.2.2.2.2.1, (heq c).2.2.2.2.2.2.1, (heq c).2.2.2.2.2.2.2]; rfl
    have eR (c) : Cert.ReferenceIdeal.Half.argRow m' c = argRow m c := by
      unfold Cert.ReferenceIdeal.Half.argRow
      rw [(heq c).1, (heq c).2.1, (heq c).2.2.1, (heq c).2.2.2.1]; rfl
    have run := Cert.ReferenceIdeal.Half.run_rows m' g' fun c s => by rw [eW, eR]; exact H c s
    simp only [eW, eR] at run
    exact run

theorem claim : Cert.Claim := ⟨Cert.Kernel.Gen.facts, Cert.KernelIdeal.Gen.facts, Cert.ReferenceIdeal.Gen.facts,
  Cert.KernelOut.Gen.facts, Cert.KernelOutIdeal.Gen.facts, Cert.ReferenceOutIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelIn.Gen.facts, Cert.KernelInIdeal.Gen.facts, Cert.ReferenceInIdeal.Gen.facts,
  Cert.KernelMix.Gen.facts, Cert.KernelMixIdeal.Gen.facts, Cert.ReferenceMixIdeal.Gen.facts,
  Cert.KernelAdamIn.Gen.facts, Cert.KernelAdamInIdeal.Gen.facts, Cert.ReferenceAdamInIdeal.Gen.facts,
  Cert.KernelAdamMlp.Gen.facts, Cert.KernelAdamMlpIdeal.Gen.facts, Cert.ReferenceAdamMlpIdeal.Gen.facts, finite_facts,
  frame_kernel, frame_ideal, fun m ρ _ => frame_ideal m ρ trivial, frame_reference, fun m ρ _ => frame_reference m ρ trivial,
  Out.frame_kernel, Out.frame_ideal, Out.frame_reference, Up.frame_kernel, Up.frame_ideal, Up.frame_reference,
  Down.frame_kernel, Down.frame_ideal, Down.frame_reference, In.frame_kernel, In.frame_ideal, In.frame_reference,
  Mix.frame_kernel, Mix.frame_ideal, Mix.frame_reference, AdamIn.frame_kernel, AdamIn.frame_ideal, AdamIn.frame_reference,
  AdamMlp.frame_kernel, AdamMlp.frame_ideal, AdamMlp.frame_reference,
  trivial, same_values, trivial, Out.same_values, trivial, Up.same_values, trivial, Down.same_values, trivial, In.same_values, trivial, Mix.same_values,
  trivial, AdamIn.same_values, trivial, AdamMlp.same_values⟩

end Cert.Proof

end
